-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_args [hPre_finite_args : Cert.Pre_finite_args.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_args.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_args [hPre_finite_args : Cert.Pre_finite_args.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_args.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_args [hKernel6Ideal : Cert.Kernel6Ideal.Facts] [hPre_finite_args : Cert.Pre_finite_args.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_args m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_args [hReference6Ideal : Cert.Reference6Ideal.Facts] [hPre_finite_args : Cert.Pre_finite_args.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_args m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite_args [hKernel6Ideal : Cert.Kernel6Ideal.Facts] [hReference6Ideal : Cert.Reference6Ideal.Facts] [hPre_finite_args : Cert.Pre_finite_args.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_args m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v27) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v31)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v31) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v62) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_experts_in_range : Cert.Pre_experts_in_range.Facts) (hPre_finite_args : Cert.Pre_finite_args.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_args (hKernel6Ideal := hKernel6Ideal) (hPre_finite_args := hPre_finite_args)
    ∧ quiescent_Reference6Ideal (hReference6Ideal := hReference6Ideal)
    ∧ quiescent_Reference6Ideal_pre_finite_args (hReference6Ideal := hReference6Ideal) (hPre_finite_args := hPre_finite_args)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal) (hPre_experts_in_range := hPre_experts_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_args (hKernel6Ideal := hKernel6Ideal) (hReference6Ideal := hReference6Ideal) (hPre_finite_args := hPre_finite_args)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_experts_in_range.lean ====
abbrev S72 : Shape := ⟨1, ![72]⟩
abbrev S73728x1024 : Shape := ⟨2, ![73728, 1024]⟩
abbrev S73728 : Shape := ⟨1, ![73728]⟩
abbrev S1x8x1024x7168 : Shape := ⟨4, ![1, 8, 1024, 7168]⟩
abbrev S1x8x3584x1024 : Shape := ⟨4, ![1, 8, 3584, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S72 32) (main_arg2 : FVec F S73728x1024 .f32) (main_arg3 : FVec F S73728 .f32) (main_arg4 : FVec F S1x8x1024x7168 .f32) (main_arg5 : FVec F S1x8x3584x1024 .f32) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== Pre_finite_args.lean ====
abbrev S32768x1024 : Shape := ⟨2, ![32768, 1024]⟩
abbrev S1024 : Shape := ⟨1, ![1024]⟩
abbrev S1x1024x8 : Shape := ⟨3, ![1, 1024, 8]⟩
abbrev S_ : Shape := ⟨0, ![]⟩
abbrev S32768x1024x1 : Shape := ⟨3, ![32768, 1024, 1]⟩
abbrev S1x1024x1 : Shape := ⟨3, ![1, 1024, 1]⟩
abbrev S32768x1024x8 : Shape := ⟨3, ![32768, 1024, 8]⟩

class Facts : Prop where
  bcast_S_S32768x1024 : S_.BroadcastsInDim S32768x1024 (![] : Fin 0 → Fin S32768x1024.rank)
  bcast_S_S1024 : S_.BroadcastsInDim S1024 (![] : Fin 0 → Fin S1024.rank)
  bcast_S_S1x1024x8 : S_.BroadcastsInDim S1x1024x8 (![] : Fin 0 → Fin S1x1024x8.rank)
  bcast_S32768x1024_S32768x1024x1_0_1 : S32768x1024.BroadcastsInDim S32768x1024x1 (![0, 1] : Fin 2 → Fin S32768x1024x1.rank)
  bcast_S1024_S1x1024x1_1 : S1024.BroadcastsInDim S1x1024x1 (![1] : Fin 1 → Fin S1x1024x1.rank)
  bcast_S1x1024x1_S32768x1024x1_0_1_2 : S1x1024x1.BroadcastsInDim S32768x1024x1 (![0, 1, 2] : Fin 3 → Fin S32768x1024x1.rank)
  bcast_S32768x1024x1_S32768x1024x8_0_1_2 : S32768x1024x1.BroadcastsInDim S32768x1024x8 (![0, 1, 2] : Fin 3 → Fin S32768x1024x8.rank)
  bcast_S1x1024x8_S32768x1024x8_0_1_2 : S1x1024x8.BroadcastsInDim S32768x1024x8 (![0, 1, 2] : Fin 3 → Fin S32768x1024x8.rank)

variable [Facts]

def fn {F : FTy → Type} [FloatOps F] (main_arg0 : FVec F S32768x1024 .f32) (main_arg1 : FVec F S1024 .f32) (main_arg2 : FVec F S1x1024x8 .f32) : IVec S32768x1024x8 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x1024x8 .f32 := Host.absf main_arg2
  let main_cst_1 : FVec F S_ .f32 := constant S_ .f32 0x7F800000#32
  let main_v7 : FVec F S1x1024x8 .f32 := broadcastInDim S1x1024x8 ![] bcast_S_S1x1024x8 main_cst_1
  let main_v8 : IVec S1x1024x8 1 := cmpf .olt main_v6 main_v7
  let main_v9 : IVec S32768x1024x1 1 := broadcastInDim S32768x1024x1 ![0, 1] bcast_S32768x1024_S32768x1024x1_0_1 main_v2
  let main_v10 : IVec S1x1024x1 1 := broadcastInDim S1x1024x1 ![1] bcast_S1024_S1x1024x1_1 main_v5
  let main_v11 : IVec S32768x1024x1 1 := broadcastInDim S32768x1024x1 ![0, 1, 2] bcast_S1x1024x1_S32768x1024x1_0_1_2 main_v10
  let main_v12 : IVec S32768x1024x1 1 := andi main_v9 main_v11
  let main_v13 : IVec S32768x1024x8 1 := broadcastInDim S32768x1024x8 ![0, 1, 2] bcast_S32768x1024x1_S32768x1024x8_0_1_2 main_v12
  let main_v14 : IVec S32768x1024x8 1 := broadcastInDim S32768x1024x8 ![0, 1, 2] bcast_S1x1024x8_S32768x1024x8_0_1_2 main_v8
  let main_v15 : IVec S32768x1024x8 1 := andi main_v13 main_v14
  main_v15
-- ==== Kernel.lean ====
abbrev S72 : Shape := ⟨1, ![72]⟩
abbrev S73728x1024 : Shape := ⟨2, ![73728, 1024]⟩
abbrev S73728 : Shape := ⟨1, ![73728]⟩
abbrev S1x8x1024x7168 : Shape := ⟨4, ![1, 8, 1024, 7168]⟩
abbrev S1x8x3584x1024 : Shape := ⟨4, ![1, 8, 3584, 1024]⟩
abbrev S73728x1 : Shape := ⟨2, ![73728, 1]⟩
abbrev S8x1024x7168 : Shape := ⟨3, ![8, 1024, 7168]⟩
abbrev S8x3584x1024 : Shape := ⟨3, ![8, 3584, 1024]⟩
abbrev S1024x1024 : Shape := ⟨2, ![1024, 1024]⟩
abbrev S1024x1 : Shape := ⟨2, ![1024, 1]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 10
  | .vmem => 14
  | .smem => 2
  | _ => 0

abbrev bufTy : (tb : Table) → Fin (tcTables nBuf tb) → BufTy
  | .hbm, ⟨0, _⟩ => ⟨S73728x1024, .f32⟩
  | .hbm, ⟨1, _⟩ => ⟨S73728, .f32⟩
  | .hbm, ⟨2, _⟩ => ⟨S1x8x1024x7168, .f32⟩
  | .hbm, ⟨3, _⟩ => ⟨S1x8x3584x1024, .f32⟩
  | .hbm, ⟨4, _⟩ => ⟨S73728x1, .f32⟩
  | .hbm, ⟨5, _⟩ => ⟨S8x1024x7168, .f32⟩
  | .hbm, ⟨6, _⟩ => ⟨S8x1024x7168, .bf16⟩
  | .hbm, ⟨7, _⟩ => ⟨S8x3584x1024, .f32⟩
  | .hbm, ⟨8, _⟩ => ⟨S8x3584x1024, .bf16⟩
  | .hbm, ⟨9, _⟩ => ⟨S73728x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .smem, ⟨0, _⟩ => ⟨S72, .i32⟩
  | .local _ .smem, ⟨1, _⟩ => ⟨S72, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c6_i32 : BitVec 32 := 6#32
  let v8 : BitVec 1 := Scalar.cmpi .eq arg1 c6_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c7_i32 : BitVec 32 := 7#32
  let v2 : BitVec 32 := Scalar.addi arg1 c7_i32
  let c0_i32 : BitVec 32 := 0#32
  let c0_i32_0 : BitVec 32 := 0#32
  ![v1.toNat, c0_i32.toNat, v2.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S72 : Shape := ⟨1, ![72]⟩
abbrev S73728x1024 : Shape := ⟨2, ![73728, 1024]⟩
abbrev S73728 : Shape := ⟨1, ![73728]⟩
abbrev S1x8x1024x7168 : Shape := ⟨4, ![1, 8, 1024, 7168]⟩
abbrev S1x8x3584x1024 : Shape := ⟨4, ![1, 8, 3584, 1024]⟩
abbrev S8x1024x7168 : Shape := ⟨3, ![8, 1024, 7168]⟩
abbrev S8x3584x1024 : Shape := ⟨3, ![8, 3584, 1024]⟩
abbrev S72x1024 : Shape := ⟨2, ![72, 1024]⟩
abbrev S_ : Shape := ⟨0, ![]⟩
abbrev S73728x1 : Shape := ⟨2, ![73728, 1]⟩
abbrev S1x8 : Shape := ⟨2, ![1, 8]⟩
abbrev S73728x8 : Shape := ⟨2, ![73728, 8]⟩
abbrev S1x1024x7168 : Shape := ⟨3, ![1, 1024, 7168]⟩
abbrev S1024x7168 : Shape := ⟨2, ![1024, 7168]⟩
abbrev S1x3584x1024 : Shape := ⟨3, ![1, 3584, 1024]⟩
abbrev S3584x1024 : Shape := ⟨2, ![3584, 1024]⟩
abbrev S73728x7168 : Shape := ⟨2, ![73728, 7168]⟩
abbrev S73728x3584 : Shape := ⟨2, ![73728, 3584]⟩

abbrev nBuf : Space → Nat
  | .hbm => 206
  | .vmem => 0
  | .smem => 0
  | _ => 0

abbrev hbmTy0_0 (i : Nat) : BufTy := match i % 128 with
  | 0 => ⟨S72, .i32⟩
  | 1 => ⟨S72, .i32⟩
  | 2 => ⟨S73728x1024, .f32⟩
  | 3 => ⟨S73728, .f32⟩
  | 4 => ⟨S1x8x1024x7168, .f32⟩
  | 5 => ⟨S1x8x3584x1024, .f32⟩
  | 6 => ⟨S8x1024x7168, .f32⟩
  | 7 => ⟨S8x3584x1024, .f32⟩
  | 8 => ⟨S72x1024, .i32⟩
  | 9 => ⟨S73728, .i32⟩
  | 10 => ⟨S72x1024, .i32⟩
  | 11 => ⟨S73728, .i32⟩
  | 12 => ⟨S_, .i32⟩
  | 13 => ⟨S73728, .i32⟩
  | 14 => ⟨S73728, .i1⟩
  | 15 => ⟨S_, .f32⟩
  | 16 => ⟨S_, .f32⟩
  | 17 => ⟨S73728, .f32⟩
  | 18 => ⟨S73728, .f32⟩
  | 19 => ⟨S73728x1, .i32⟩
  | 20 => ⟨S1x8, .i32⟩
  | 21 => ⟨S73728x8, .i32⟩
  | 22 => ⟨S73728x8, .i32⟩
  | 23 => ⟨S73728x8, .i1⟩
  | 24 => ⟨S73728x8, .f32⟩
  | 25 => ⟨S73728x1, .f32⟩
  | 26 => ⟨S73728x8, .f32⟩
  | 27 => ⟨S73728x8, .f32⟩
  | 28 => ⟨S_, .f32⟩
  | 29 => ⟨S73728x1024, .f32⟩
  | 30 => ⟨S73728x1, .f32⟩
  | 31 => ⟨S1x1024x7168, .f32⟩
  | 32 => ⟨S1024x7168, .f32⟩
  | 33 => ⟨S1x3584x1024, .f32⟩
  | 34 => ⟨S3584x1024, .f32⟩
  | 35 => ⟨S73728x7168, .f32⟩
  | 36 => ⟨S73728x3584, .f32⟩
  | 37 => ⟨S73728x3584, .f32⟩
  | 38 => ⟨S73728x3584, .f32⟩
  | 39 => ⟨S73728x3584, .f32⟩
  | 40 => ⟨S_, .f32⟩
  | 41 => ⟨S73728x3584, .f32⟩
  | 42 => ⟨S73728x3584, .f32⟩
  | 43 => ⟨S_, .f32⟩
  | 44 => ⟨S73728x3584, .f32⟩
  | 45 => ⟨S73728x3584, .f32⟩
  | 46 => ⟨S73728x3584, .f32⟩
  | 47 => ⟨S73728x3584, .f32⟩
  | 48 => ⟨S73728x1024, .f32⟩
  | 49 => ⟨S73728x1024, .f32⟩
  | 50 => ⟨S73728x1024, .f32⟩
  | 51 => ⟨S73728x1024, .f32⟩
  | 52 => ⟨S73728x1, .f32⟩
  | 53 => ⟨S1x1024x7168, .f32⟩
  | 54 => ⟨S1024x7168, .f32⟩
  | 55 => ⟨S1x3584x1024, .f32⟩
  | 56 => ⟨S3584x1024, .f32⟩
  | 57 => ⟨S73728x7168, .f32⟩
  | 58 => ⟨S73728x3584, .f32⟩
  | 59 => ⟨S73728x3584, .f32⟩
  | 60 => ⟨S73728x3584, .f32⟩
  | 61 => ⟨S73728x3584, .f32⟩
  | 62 => ⟨S_, .f32⟩
  | 63 => ⟨S73728x3584, .f32⟩
  | 64 => ⟨S73728x3584, .f32⟩
  | 65 => ⟨S_, .f32⟩
  | 66 => ⟨S73728x3584, .f32⟩
  | 67 => ⟨S73728x3584, .f32⟩
  | 68 => ⟨S73728x3584, .f32⟩
  | 69 => ⟨S73728x3584, .f32⟩
  | 70 => ⟨S73728x1024, .f32⟩
  | 71 => ⟨S73728x1024, .f32⟩
  | 72 => ⟨S73728x1024, .f32⟩
  | 73 => ⟨S73728x1024, .f32⟩
  | 74 => ⟨S73728x1, .f32⟩
  | 75 => ⟨S1x1024x7168, .f32⟩
  | 76 => ⟨S1024x7168, .f32⟩
  | 77 => ⟨S1x3584x1024, .f32⟩
  | 78 => ⟨S3584x1024, .f32⟩
  | 79 => ⟨S73728x7168, .f32⟩
  | 80 => ⟨S73728x3584, .f32⟩
  | 81 => ⟨S73728x3584, .f32⟩
  | 82 => ⟨S73728x3584, .f32⟩
  | 83 => ⟨S73728x3584, .f32⟩
  | 84 => ⟨S_, .f32⟩
  | 85 => ⟨S73728x3584, .f32⟩
  | 86 => ⟨S73728x3584, .f32⟩
  | 87 => ⟨S_, .f32⟩
  | 88 => ⟨S73728x3584, .f32⟩
  | 89 => ⟨S73728x3584, .f32⟩
  | 90 => ⟨S73728x3584, .f32⟩
  | 91 => ⟨S73728x3584, .f32⟩
  | 92 => ⟨S73728x1024, .f32⟩
  | 93 => ⟨S73728x1024, .f32⟩
  | 94 => ⟨S73728x1024, .f32⟩
  | 95 => ⟨S73728x1024, .f32⟩
  | 96 => ⟨S73728x1, .f32⟩
  | 97 => ⟨S1x1024x7168, .f32⟩
  | 98 => ⟨S1024x7168, .f32⟩
  | 99 => ⟨S1x3584x1024, .f32⟩
  | 100 => ⟨S3584x1024, .f32⟩
  | 101 => ⟨S73728x7168, .f32⟩
  | 102 => ⟨S73728x3584, .f32⟩
  | 103 => ⟨S73728x3584, .f32⟩
  | 104 => ⟨S73728x3584, .f32⟩
  | 105 => ⟨S73728x3584, .f32⟩
  | 106 => ⟨S_, .f32⟩
  | 107 => ⟨S73728x3584, .f32⟩
  | 108 => ⟨S73728x3584, .f32⟩
  | 109 => ⟨S_, .f32⟩
  | 110 => ⟨S73728x3584, .f32⟩
  | 111 => ⟨S73728x3584, .f32⟩
  | 112 => ⟨S73728x3584, .f32⟩
  | 113 => ⟨S73728x3584, .f32⟩
  | 114 => ⟨S73728x1024, .f32⟩
  | 115 => ⟨S73728x1024, .f32⟩
  | 116 => ⟨S73728x1024, .f32⟩
  | 117 => ⟨S73728x1024, .f32⟩
  | 118 => ⟨S73728x1, .f32⟩
  | 119 => ⟨S1x1024x7168, .f32⟩
  | 120 => ⟨S1024x7168, .f32⟩
  | 121 => ⟨S1x3584x1024, .f32⟩
  | 122 => ⟨S3584x1024, .f32⟩
  | 123 => ⟨S73728x7168, .f32⟩
  | 124 => ⟨S73728x3584, .f32⟩
  | 125 => ⟨S73728x3584, .f32⟩
  | 126 => ⟨S73728x3584, .f32⟩
  | 127 => ⟨S73728x3584, .f32⟩
  | _ => ⟨S72, .i32⟩

abbrev hbmTy0_1 (i : Nat) : BufTy := match i % 128 with
  | 0 => ⟨S_, .f32⟩
  | 1 => ⟨S73728x3584, .f32⟩
  | 2 => ⟨S73728x3584, .f32⟩
  | 3 => ⟨S_, .f32⟩
  | 4 => ⟨S73728x3584, .f32⟩
  | 5 => ⟨S73728x3584, .f32⟩
  | 6 => ⟨S73728x3584, .f32⟩
  | 7 => ⟨S73728x3584, .f32⟩
  | 8 => ⟨S73728x1024, .f32⟩
  | 9 => ⟨S73728x1024, .f32⟩
  | 10 => ⟨S73728x1024, .f32⟩
  | 11 => ⟨S73728x1024, .f32⟩
  | 12 => ⟨S73728x1, .f32⟩
  | 13 => ⟨S1x1024x7168, .f32⟩
  | 14 => ⟨S1024x7168, .f32⟩
  | 15 => ⟨S1x3584x1024, .f32⟩
  | 16 => ⟨S3584x1024, .f32⟩
  | 17 => ⟨S73728x7168, .f32⟩
  | 18 => ⟨S73728x3584, .f32⟩
  | 19 => ⟨S73728x3584, .f32⟩
  | 20 => ⟨S73728x3584, .f32⟩
  | 21 => ⟨S73728x3584, .f32⟩
  | 22 => ⟨S_, .f32⟩
  | 23 => ⟨S73728x3584, .f32⟩
  | 24 => ⟨S73728x3584, .f32⟩
  | 25 => ⟨S_, .f32⟩
  | 26 => ⟨S73728x3584, .f32⟩
  | 27 => ⟨S73728x3584, .f32⟩
  | 28 => ⟨S73728x3584, .f32⟩
  | 29 => ⟨S73728x3584, .f32⟩
  | 30 => ⟨S73728x1024, .f32⟩
  | 31 => ⟨S73728x1024, .f32⟩
  | 32 => ⟨S73728x1024, .f32⟩
  | 33 => ⟨S73728x1024, .f32⟩
  | 34 => ⟨S73728x1, .f32⟩
  | 35 => ⟨S1x1024x7168, .f32⟩
  | 36 => ⟨S1024x7168, .f32⟩
  | 37 => ⟨S1x3584x1024, .f32⟩
  | 38 => ⟨S3584x1024, .f32⟩
  | 39 => ⟨S73728x7168, .f32⟩
  | 40 => ⟨S73728x3584, .f32⟩
  | 41 => ⟨S73728x3584, .f32⟩
  | 42 => ⟨S73728x3584, .f32⟩
  | 43 => ⟨S73728x3584, .f32⟩
  | 44 => ⟨S_, .f32⟩
  | 45 => ⟨S73728x3584, .f32⟩
  | 46 => ⟨S73728x3584, .f32⟩
  | 47 => ⟨S_, .f32⟩
  | 48 => ⟨S73728x3584, .f32⟩
  | 49 => ⟨S73728x3584, .f32⟩
  | 50 => ⟨S73728x3584, .f32⟩
  | 51 => ⟨S73728x3584, .f32⟩
  | 52 => ⟨S73728x1024, .f32⟩
  | 53 => ⟨S73728x1024, .f32⟩
  | 54 => ⟨S73728x1024, .f32⟩
  | 55 => ⟨S73728x1024, .f32⟩
  | 56 => ⟨S73728x1, .f32⟩
  | 57 => ⟨S1x1024x7168, .f32⟩
  | 58 => ⟨S1024x7168, .f32⟩
  | 59 => ⟨S1x3584x1024, .f32⟩
  | 60 => ⟨S3584x1024, .f32⟩
  | 61 => ⟨S73728x7168, .f32⟩
  | 62 => ⟨S73728x3584, .f32⟩
  | 63 => ⟨S73728x3584, .f32⟩
  | 64 => ⟨S73728x3584, .f32⟩
  | 65 => ⟨S73728x3584, .f32⟩
  | 66 => ⟨S_, .f32⟩
  | 67 => ⟨S73728x3584, .f32⟩
  | 68 => ⟨S73728x3584, .f32⟩
  | 69 => ⟨S_, .f32⟩
  | 70 => ⟨S73728x3584, .f32⟩
  | 71 => ⟨S73728x3584, .f32⟩
  | 72 => ⟨S73728x3584, .f32⟩
  | 73 => ⟨S73728x3584, .f32⟩
  | 74 => ⟨S73728x1024, .f32⟩
  | 75 => ⟨S73728x1024, .f32⟩
  | 76 => ⟨S73728x1024, .f32⟩
  | 77 => ⟨S73728x1024, .f32⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call3_v0 : Ref sig .tc := ⟨.hbm, 60, rfl⟩
abbrev main_call3_v1 : Ref sig .tc := ⟨.hbm, 61, rfl⟩
abbrev main_call3_cst : Ref sig .tc := ⟨.hbm, 62, rfl⟩
abbrev main_call3_v2 : Ref sig .tc := ⟨.hbm, 63, rfl⟩
abbrev main_call3_v3 : Ref sig .tc := ⟨.hbm, 64, rfl⟩
abbrev main_call3_cst_0 : Ref sig .tc := ⟨.hbm, 65, rfl⟩
abbrev main_call3_v4 : Ref sig .tc := ⟨.hbm, 66, rfl⟩
abbrev main_call3_v5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call4_v0 : Ref sig .tc := ⟨.hbm, 82, rfl⟩
abbrev main_call4_v1 : Ref sig .tc := ⟨.hbm, 83, rfl⟩
abbrev main_call4_cst : Ref sig .tc := ⟨.hbm, 84, rfl⟩
abbrev main_call4_v2 : Ref sig .tc := ⟨.hbm, 85, rfl⟩
abbrev main_call4_v3 : Ref sig .tc := ⟨.hbm, 86, rfl⟩
abbrev main_call4_cst_0 : Ref sig .tc := ⟨.hbm, 87, rfl⟩
abbrev main_call4_v4 : Ref sig .tc := ⟨.hbm, 88, rfl⟩
abbrev main_call4_v5 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call5_v0 : Ref sig .tc := ⟨.hbm, 104, rfl⟩
abbrev main_call5_v1 : Ref sig .tc := ⟨.hbm, 105, rfl⟩
abbrev main_call5_cst : Ref sig .tc := ⟨.hbm, 106, rfl⟩
abbrev main_call5_v2 : Ref sig .tc := ⟨.hbm, 107, rfl⟩
abbrev main_call5_v3 : Ref sig .tc := ⟨.hbm, 108, rfl⟩
abbrev main_call5_cst_0 : Ref sig .tc := ⟨.hbm, 109, rfl⟩
abbrev main_call5_v4 : Ref sig .tc := ⟨.hbm, 110, rfl⟩
abbrev main_call5_v5 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_cst_0 : Ref sig .tc := ⟨.hbm, 131, rfl⟩
abbrev main_call6_v4 : Ref sig .tc := ⟨.hbm, 132, rfl⟩
abbrev main_call6_v5 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_call7_v0 : Ref sig .tc := ⟨.hbm, 148, rfl⟩
abbrev main_call7_v1 : Ref sig .tc := ⟨.hbm, 149, rfl⟩
abbrev main_call7_cst : Ref sig .tc := ⟨.hbm, 150, rfl⟩
abbrev main_call7_v2 : Ref sig .tc := ⟨.hbm, 151, rfl⟩
abbrev main_call7_v3 : Ref sig .tc := ⟨.hbm, 152, rfl⟩
abbrev main_call7_cst_0 : Ref sig .tc := ⟨.hbm, 153, rfl⟩
abbrev main_call7_v4 : Ref sig .tc := ⟨.hbm, 154, rfl⟩
abbrev main_call7_v5 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_call8_v0 : Ref sig .tc := ⟨.hbm, 170, rfl⟩
abbrev main_call8_v1 : Ref sig .tc := ⟨.hbm, 171, rfl⟩
abbrev main_call8_cst : Ref sig .tc := ⟨.hbm, 172, rfl⟩
abbrev main_call8_v2 : Ref sig .tc := ⟨.hbm, 173, rfl⟩
abbrev main_call8_v3 : Ref sig .tc := ⟨.hbm, 174, rfl⟩
abbrev main_call8_cst_0 : Ref sig .tc := ⟨.hbm, 175, rfl⟩
abbrev main_call8_v4 : Ref sig .tc := ⟨.hbm, 176, rfl⟩
abbrev main_call8_v5 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_call9_v0 : Ref sig .tc := ⟨.hbm, 192, rfl⟩
abbrev main_call9_v1 : Ref sig .tc := ⟨.hbm, 193, rfl⟩
abbrev main_call9_cst : Ref sig .tc := ⟨.hbm, 194, rfl⟩
abbrev main_call9_v2 : Ref sig .tc := ⟨.hbm, 195, rfl⟩
abbrev main_call9_v3 : Ref sig .tc := ⟨.hbm, 196, rfl⟩
abbrev main_call9_cst_0 : Ref sig .tc := ⟨.hbm, 197, rfl⟩
abbrev main_call9_v4 : Ref sig .tc := ⟨.hbm, 198, rfl⟩
abbrev main_call9_v5 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x8720 : Shape := ⟨2, ![1024, 8720]⟩
abbrev S1x1024 : Shape := ⟨2, ![1, 1024]⟩
abbrev S1024x4096 : Shape := ⟨2, ![1024, 4096]⟩
abbrev S1024x16 : Shape := ⟨2, ![1024, 16]⟩
abbrev S1024x1536 : Shape := ⟨2, ![1024, 1536]⟩
abbrev S1024x3072 : Shape := ⟨2, ![1024, 3072]⟩
abbrev S_ : Shape := ⟨0, ![]⟩
abbrev S1024x112 : Shape := ⟨2, ![1024, 112]⟩
abbrev S1024x8832 : Shape := ⟨2, ![1024, 8832]⟩
abbrev S32768x8832 : Shape := ⟨2, ![32768, 8832]⟩
abbrev S1024x1024 : Shape := ⟨2, ![1024, 1024]⟩
abbrev S1024x2944 : Shape := ⟨2, ![1024, 2944]⟩
abbrev S1024x1 : Shape := ⟨2, ![1024, 1]⟩

abbrev nBuf : Space → Nat
  | .hbm => 13
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8720, .f32⟩
  | .hbm, ⟨3, _⟩ => ⟨S1x1024, .f32⟩
  | .hbm, ⟨4, _⟩ => ⟨S1024x4096, .f32⟩
  | .hbm, ⟨5, _⟩ => ⟨S1024x16, .f32⟩
  | .hbm, ⟨6, _⟩ => ⟨S1024x1536, .f32⟩
  | .hbm, ⟨7, _⟩ => ⟨S1024x3072, .f32⟩
  | .hbm, ⟨8, _⟩ => ⟨S_, .f32⟩
  | .hbm, ⟨9, _⟩ => ⟨S1024x112, .f32⟩
  | .hbm, ⟨10, _⟩ => ⟨S1024x8832, .f32⟩
  | .hbm, ⟨11, _⟩ => ⟨S1024x8832, .bf16⟩
  | .hbm, ⟨12, _⟩ => ⟨S32768x8832, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2944, .bf16⟩
  | .local _ .vmem, ⟨4, _⟩ => ⟨S1024x2944, .bf16⟩
  | .local _ .vmem, ⟨5, _⟩ => ⟨S1024x2944, .f32⟩
  | .local _ .vmem, ⟨6, _⟩ => ⟨S1024x2944, .f32⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2944 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2944 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S32768x1024 : Shape := ⟨2, ![32768, 1024]⟩
abbrev S1024 : Shape := ⟨1, ![1024]⟩
abbrev S1024x8720 : Shape := ⟨2, ![1024, 8720]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8720 : Shape := ⟨2, ![32768, 8720]⟩
abbrev S32768x4096 : Shape := ⟨2, ![32768, 4096]⟩
abbrev S32768x16 : Shape := ⟨2, ![32768, 16]⟩
abbrev S32768x1536 : Shape := ⟨2, ![32768, 1536]⟩
abbrev S32768x3072 : Shape := ⟨2, ![32768, 3072]⟩
abbrev S32768x112 : Shape := ⟨2, ![32768, 112]⟩
abbrev S32768x8832 : Shape := ⟨2, ![32768, 8832]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8720, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x8720, .f32⟩
  | .hbm, ⟨20, _⟩ => ⟨S32768x4096, .f32⟩
  | .hbm, ⟨21, _⟩ => ⟨S32768x16, .f32⟩
  | .hbm, ⟨22, _⟩ => ⟨S32768x1536, .f32⟩
  | .hbm, ⟨23, _⟩ => ⟨S32768x3072, .f32⟩
  | .hbm, ⟨24, _⟩ => ⟨S_, .f32⟩
  | .hbm, ⟨25, _⟩ => ⟨S32768x112, .f32⟩
  | .hbm, ⟨26, _⟩ => ⟨S32768x8832, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1024x5632, .f32⟩
  | .hbm, ⟨6, _⟩ => ⟨S1024x5632, .bf16⟩
  | .hbm, ⟨7, _⟩ => ⟨S2816x1024, .f32⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S32768x1024 : Shape := ⟨2, ![32768, 1024]⟩
abbrev S1024 : Shape := ⟨1, ![1024]⟩
abbrev S1x1024x5632 : Shape := ⟨3, ![1, 1024, 5632]⟩
abbrev S1x2816x1024 : Shape := ⟨3, ![1, 2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x5632 : Shape := ⟨2, ![1024, 5632]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024x5632, .f32⟩
  | .hbm, ⟨3, _⟩ => ⟨S1x2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1024x5632, .f32⟩
  | .hbm, ⟨21, _⟩ => ⟨S2816x1024, .f32⟩
  | .hbm, ⟨22, _⟩ => ⟨S32768x5632, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S32768x1024, .f32⟩
  | .hbm, ⟨36, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel4.lean ====
abbrev S32768x1024 : Shape := ⟨2, ![32768, 1024]⟩
abbrev S32768x8832 : Shape := ⟨2, ![32768, 8832]⟩
abbrev S32768x512 : Shape := ⟨2, ![32768, 512]⟩
abbrev S512x1024 : Shape := ⟨2, ![512, 1024]⟩
abbrev S1024x1024 : Shape := ⟨2, ![1024, 1024]⟩
abbrev S512x512 : Shape := ⟨2, ![512, 512]⟩

abbrev nBuf : Space → Nat
  | .hbm => 14
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x8832, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S32768x1024 : Shape := ⟨2, ![32768, 1024]⟩
abbrev S32768x8832 : Shape := ⟨2, ![32768, 8832]⟩
abbrev S32768x512 : Shape := ⟨2, ![32768, 512]⟩
abbrev S512x1024 : Shape := ⟨2, ![512, 1024]⟩
abbrev S1024x1024 : Shape := ⟨2, ![1024, 1024]⟩
abbrev S32768x3072 : Shape := ⟨2, ![32768, 3072]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x8832, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S32768x3072, .f32⟩
  | .hbm, ⟨10, _⟩ => ⟨S32768x3072, .f32⟩
  | .hbm, ⟨11, _⟩ => ⟨S32768x3072, .f32⟩
  | .hbm, ⟨12, _⟩ => ⟨S_, .f32⟩
  | .hbm, ⟨13, _⟩ => ⟨S32768x3072, .f32⟩
  | .hbm, ⟨14, _⟩ => ⟨S32768x3072, .f32⟩
  | .hbm, ⟨15, _⟩ => ⟨S_, .f32⟩
  | .hbm, ⟨16, _⟩ => ⟨S32768x3072, .f32⟩
  | .hbm, ⟨17, _⟩ => ⟨S32768x3072, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S32768x1024 : Shape := ⟨2, ![32768, 1024]⟩
abbrev S1024 : Shape := ⟨1, ![1024]⟩
abbrev S1x1024x8 : Shape := ⟨3, ![1, 1024, 8]⟩
abbrev S1x1024 : Shape := ⟨2, ![1, 1024]⟩
abbrev S1024x8 : Shape := ⟨2, ![1024, 8]⟩
abbrev S8x1024 : Shape := ⟨2, ![8, 1024]⟩
abbrev S2x32768 : Shape := ⟨2, ![2, 32768]⟩
abbrev S512x1024 : Shape := ⟨2, ![512, 1024]⟩
abbrev S2x512 : Shape := ⟨2, ![2, 512]⟩
abbrev S512 : Shape := ⟨1, ![512]⟩
abbrev S512x1 : Shape := ⟨2, ![512, 1]⟩
abbrev S8x512 : Shape := ⟨2, ![8, 512]⟩
abbrev S1x512 : Shape := ⟨2, ![1, 512]⟩

abbrev nBuf : Space → Nat
  | .hbm => 9
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024x8, .f32⟩
  | .hbm, ⟨3, _⟩ => ⟨S1x1024, .f32⟩
  | .hbm, ⟨4, _⟩ => ⟨S1024x8, .f32⟩
  | .hbm, ⟨5, _⟩ => ⟨S8x1024, .f32⟩
  | .hbm, ⟨6, _⟩ => ⟨S32768x1024, .f32⟩
  | .hbm, ⟨7, _⟩ => ⟨S2x32768, .i32⟩
  | .hbm, ⟨8, _⟩ => ⟨S2x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024, .f32⟩
  | .local _ .vmem, ⟨4, _⟩ => ⟨S512x1024, .f32⟩
  | .local _ .vmem, ⟨5, _⟩ => ⟨S512x1024, .f32⟩
  | .local _ .vmem, ⟨6, _⟩ => ⟨S2x512, .i32⟩
  | .local _ .vmem, ⟨7, _⟩ => ⟨S2x512, .i32⟩
  | .local _ .vmem, ⟨8, _⟩ => ⟨S2x512, .f32⟩
  | .local _ .vmem, ⟨9, _⟩ => ⟨S2x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S32768x1024 : Shape := ⟨2, ![32768, 1024]⟩
abbrev S1024 : Shape := ⟨1, ![1024]⟩
abbrev S1x1024x8 : Shape := ⟨3, ![1, 1024, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x8 : Shape := ⟨2, ![1024, 8]⟩
abbrev S32768x8 : Shape := ⟨2, ![32768, 8]⟩
abbrev S32768x2 : Shape := ⟨2, ![32768, 2]⟩
abbrev S2x32768 : Shape := ⟨2, ![2, 32768]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024x8, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x8, .f32⟩
  | .hbm, ⟨20, _⟩ => ⟨S32768x8, .f32⟩
  | .hbm, ⟨21, _⟩ => ⟨S32768x2, .f32⟩
  | .hbm, ⟨22, _⟩ => ⟨S32768x2, .i32⟩
  | .hbm, ⟨23, _⟩ => ⟨S_, .f32⟩
  | .hbm, ⟨24, _⟩ => ⟨S32768, .f32⟩
  | .hbm, ⟨25, _⟩ => ⟨S_, .f32⟩
  | .hbm, ⟨26, _⟩ => ⟨S32768, .f32⟩
  | .hbm, ⟨27, _⟩ => ⟨S32768, .f32⟩
  | .hbm, ⟨28, _⟩ => ⟨S32768x1, .f32⟩
  | .hbm, ⟨29, _⟩ => ⟨S32768x2, .f32⟩
  | .hbm, ⟨30, _⟩ => ⟨S32768x2, .f32⟩
  | .hbm, ⟨31, _⟩ => ⟨S32768x2, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S32768x2, .f32⟩
  | .hbm, ⟨36, _⟩ => ⟨S32768x2, .f32⟩
  | .hbm, ⟨37, _⟩ => ⟨S2x32768, .i32⟩
  | .hbm, ⟨38, _⟩ => ⟨S2x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel7.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S2x512 : Shape := ⟨2, ![2, 512]⟩
abbrev S4096 : Shape := ⟨1, ![4096]⟩
abbrev S_ : Shape := ⟨0, ![]⟩
abbrev S4096x1 : Shape := ⟨2, ![4096, 1]⟩
abbrev S15 : Shape := ⟨1, ![15]⟩
abbrev S1 : Shape := ⟨1, ![1]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S1x64 : Shape := ⟨2, ![1, 64]⟩
abbrev S2x1x512 : Shape := ⟨3, ![2, 1, 512]⟩
abbrev S4096x512 : Shape := ⟨2, ![4096, 512]⟩
abbrev S512x33 : Shape := ⟨2, ![512, 33]⟩
abbrev S64x512 : Shape := ⟨2, ![64, 512]⟩
abbrev S1x1x512 : Shape := ⟨3, ![1, 1, 512]⟩
abbrev S512x512 : Shape := ⟨2, ![512, 512]⟩
abbrev S512x64 : Shape := ⟨2, ![512, 64]⟩
abbrev S512x1 : Shape := ⟨2, ![512, 1]⟩
abbrev S1x512 : Shape := ⟨2, ![1, 512]⟩

abbrev nBuf : Space → Nat
  | .hbm => 68
  | .vmem => 15
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64x1024, .f32⟩
  | .hbm, ⟨8, _⟩ => ⟨S2x512, .f32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S_, .i32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S15, .f32⟩
  | .hbm, ⟨30, _⟩ => ⟨S_, .f32⟩
  | .hbm, ⟨31, _⟩ => ⟨S15, .f32⟩
  | .hbm, ⟨32, _⟩ => ⟨S15, .f32⟩
  | .hbm, ⟨33, _⟩ => ⟨S1, .f32⟩
  | .hbm, ⟨34, _⟩ => ⟨S_, .f32⟩
  | .hbm, ⟨35, _⟩ => ⟨S15, .f32⟩
  | .hbm, ⟨36, _⟩ => ⟨S15, .f32⟩
  | .hbm, ⟨37, _⟩ => ⟨S15, .f32⟩
  | .hbm, ⟨38, _⟩ => ⟨S15, .f32⟩
  | .hbm, ⟨39, _⟩ => ⟨S1, .f32⟩
  | .hbm, ⟨40, _⟩ => ⟨S15, .f32⟩
  | .hbm, ⟨41, _⟩ => ⟨S15, .f32⟩
  | .hbm, ⟨42, _⟩ => ⟨S15, .f32⟩
  | .hbm, ⟨43, _⟩ => ⟨S1, .f32⟩
  | .hbm, ⟨44, _⟩ => ⟨S16, .f32⟩
  | .hbm, ⟨45, _⟩ => ⟨S1x16, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S4096x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x33, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S2x1x512, .f32⟩
  | .hbm, ⟨67, _⟩ => ⟨S4096x512, .f32⟩
  | .local _ .vmem, ⟨0, _⟩ => ⟨S512x33, .f32⟩
  | .local _ .vmem, ⟨1, _⟩ => ⟨S512x33, .f32⟩
  | .local _ .vmem, ⟨2, _⟩ => ⟨S33x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S64x512, .f32⟩
  | .local _ .vmem, ⟨10, _⟩ => ⟨S64x512, .f32⟩
  | .local _ .vmem, ⟨11, _⟩ => ⟨S1x1x512, .f32⟩
  | .local _ .vmem, ⟨12, _⟩ => ⟨S1x1x512, .f32⟩
  | .local _ .vmem, ⟨13, _⟩ => ⟨S512x512, .f32⟩
  | .local _ .vmem, ⟨14, _⟩ => ⟨S512x512, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_cst : Ref sig .tc := ⟨.hbm, 27, rfl⟩
abbrev main_call1_v3 : Ref sig .tc := ⟨.hbm, 28, rfl⟩
abbrev main_call1_v4 : Ref sig .tc := ⟨.hbm, 29, rfl⟩
abbrev main_call1_cst_0 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_cst_1 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_call1_v15 : Ref sig .tc := ⟨.hbm, 42, rfl⟩
abbrev main_call1_v16 : Ref sig .tc := ⟨.hbm, 43, rfl⟩
abbrev main_v10 : Ref sig .tc := ⟨.hbm, 44, rfl⟩
abbrev main_v11 : Ref sig .tc := ⟨.hbm, 45, rfl⟩
abbrev main_cst_3 : Ref sig .tc := ⟨.hbm, 46, rfl⟩
abbrev main_v12 : Ref sig .tc := ⟨.hbm, 47, rfl⟩
abbrev main_v13 : Ref sig .tc := ⟨.hbm, 48, rfl⟩
abbrev main_cst_4 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x33 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S33x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S2x512 : Shape := ⟨2, ![2, 512]⟩
abbrev S2048 : Shape := ⟨1, ![2048]⟩
abbrev S2048x1 : Shape := ⟨2, ![2048, 1]⟩
abbrev S_ : Shape := ⟨0, ![]⟩
abbrev S15 : Shape := ⟨1, ![15]⟩
abbrev S1 : Shape := ⟨1, ![1]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x64 : Shape := ⟨2, ![2048, 64]⟩
abbrev S1x64 : Shape := ⟨2, ![1, 64]⟩
abbrev S2048x1024 : Shape := ⟨2, ![2048, 1024]⟩
abbrev S2048x2x512 : Shape := ⟨3, ![2048, 2, 512]⟩
abbrev S2048x1x1 : Shape := ⟨3, ![2048, 1, 1]⟩
abbrev S1x2x512 : Shape := ⟨3, ![1, 2, 512]⟩
abbrev S2048x1x512 : Shape := ⟨3, ![2048, 1, 512]⟩
abbrev S2048x512 : Shape := ⟨2, ![2048, 512]⟩
abbrev S1x512 : Shape := ⟨2, ![1, 512]⟩
abbrev S2047x512 : Shape := ⟨2, ![2047, 512]⟩
abbrev S4096x512 : Shape := ⟨2, ![4096, 512]⟩

abbrev nBuf : Space → Nat
  | .hbm => 98
  | .vmem => 0
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64x1024, .f32⟩
  | .hbm, ⟨8, _⟩ => ⟨S2x512, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S_, .i32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S15, .f32⟩
  | .hbm, ⟨22, _⟩ => ⟨S_, .f32⟩
  | .hbm, ⟨23, _⟩ => ⟨S15, .f32⟩
  | .hbm, ⟨24, _⟩ => ⟨S15, .f32⟩
  | .hbm, ⟨25, _⟩ => ⟨S1, .f32⟩
  | .hbm, ⟨26, _⟩ => ⟨S_, .f32⟩
  | .hbm, ⟨27, _⟩ => ⟨S15, .f32⟩
  | .hbm, ⟨28, _⟩ => ⟨S15, .f32⟩
  | .hbm, ⟨29, _⟩ => ⟨S15, .f32⟩
  | .hbm, ⟨30, _⟩ => ⟨S15, .f32⟩
  | .hbm, ⟨31, _⟩ => ⟨S1, .f32⟩
  | .hbm, ⟨32, _⟩ => ⟨S15, .f32⟩
  | .hbm, ⟨33, _⟩ => ⟨S15, .f32⟩
  | .hbm, ⟨34, _⟩ => ⟨S15, .f32⟩
  | .hbm, ⟨35, _⟩ => ⟨S1, .f32⟩
  | .hbm, ⟨36, _⟩ => ⟨S16, .f32⟩
  | .hbm, ⟨37, _⟩ => ⟨S1x16, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x16, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S2048x16, .f32⟩
  | .hbm, ⟨53, _⟩ => ⟨S2048x33, .f32⟩
  | .hbm, ⟨54, _⟩ => ⟨S2048x64, .f32⟩
  | .hbm, ⟨55, _⟩ => ⟨S1x64, .f32⟩
  | .hbm, ⟨56, _⟩ => ⟨S2048x64, .f32⟩
  | .hbm, ⟨57, _⟩ => ⟨S2048x64, .f32⟩
  | .hbm, ⟨58, _⟩ => ⟨S1x64, .f32⟩
  | .hbm, ⟨59, _⟩ => ⟨S2048x64, .f32⟩
  | .hbm, ⟨60, _⟩ => ⟨S2048x64, .f32⟩
  | .hbm, ⟨61, _⟩ => ⟨S2048x64, .f32⟩
  | .hbm, ⟨62, _⟩ => ⟨S2048x64, .f32⟩
  | .hbm, ⟨63, _⟩ => ⟨S1x64, .f32⟩
  | .hbm, ⟨64, _⟩ => ⟨S2048x64, .f32⟩
  | .hbm, ⟨65, _⟩ => ⟨S2048x64, .f32⟩
  | .hbm, ⟨66, _⟩ => ⟨S1x64, .f32⟩
  | .hbm, ⟨67, _⟩ => ⟨S2048x64, .f32⟩
  | .hbm, ⟨68, _⟩ => ⟨S2048x64, .f32⟩
  | .hbm, ⟨69, _⟩ => ⟨S2048x64, .f32⟩
  | .hbm, ⟨70, _⟩ => ⟨S2048x64, .f32⟩
  | .hbm, ⟨71, _⟩ => ⟨S1x64, .f32⟩
  | .hbm, ⟨72, _⟩ => ⟨S2048x64, .f32⟩
  | .hbm, ⟨73, _⟩ => ⟨S2048x64, .f32⟩
  | .hbm, ⟨74, _⟩ => ⟨S1x64, .f32⟩
  | .hbm, ⟨75, _⟩ => ⟨S2048x64, .f32⟩
  | .hbm, ⟨76, _⟩ => ⟨S2048x64, .f32⟩
  | .hbm, ⟨77, _⟩ => ⟨S2048x64, .f32⟩
  | .hbm, ⟨78, _⟩ => ⟨S2048x1024, .f32⟩
  | .hbm, ⟨79, _⟩ => ⟨S2048x2x512, .f32⟩
  | .hbm, ⟨80, _⟩ => ⟨S2048x1x1, .f32⟩
  | .hbm, ⟨81, _⟩ => ⟨S2048x1x1, .f32⟩
  | .hbm, ⟨82, _⟩ => ⟨S2x512, .f32⟩
  | .hbm, ⟨83, _⟩ => ⟨S1x2x512, .f32⟩
  | .hbm, ⟨84, _⟩ => ⟨S2048x2x512, .f32⟩
  | .hbm, ⟨85, _⟩ => ⟨S2048x2x512, .f32⟩
  | .hbm, ⟨86, _⟩ => ⟨S2048x2x512, .f32⟩
  | .hbm, ⟨87, _⟩ => ⟨S2048x2x512, .f32⟩
  | .hbm, ⟨88, _⟩ => ⟨S2048x2x512, .f32⟩
  | .hbm, ⟨89, _⟩ => ⟨S2048x1x512, .f32⟩
  | .hbm, ⟨90, _⟩ => ⟨S2048x512, .f32⟩
  | .hbm, ⟨91, _⟩ => ⟨S2048x1x512, .f32⟩
  | .hbm, ⟨92, _⟩ => ⟨S2048x512, .f32⟩
  | .hbm, ⟨93, _⟩ => ⟨S_, .f32⟩
  | .hbm, ⟨94, _⟩ => ⟨S1x512, .f32⟩
  | .hbm, ⟨95, _⟩ => ⟨S2047x512, .f32⟩
  | .hbm, ⟨96, _⟩ => ⟨S2047x512, .f32⟩
  | .hbm, ⟨97, _⟩ => ⟨S4096x512, .f32⟩
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_cst : Ref sig .tc := ⟨.hbm, 19, rfl⟩
abbrev main_call0_v3 : Ref sig .tc := ⟨.hbm, 20, rfl⟩
abbrev main_call0_v4 : Ref sig .tc := ⟨.hbm, 21, rfl⟩
abbrev main_call0_cst_0 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_v4 : Ref sig .tc := ⟨.hbm, 36, rfl⟩
abbrev main_v5 : Ref sig .tc := ⟨.hbm, 37, rfl⟩
abbrev main_cst_1 : Ref sig .tc := ⟨.hbm, 38, rfl⟩
abbrev main_v6 : Ref sig .tc := ⟨.hbm, 39, rfl⟩
abbrev main_v7 : Ref sig .tc := ⟨.hbm, 40, rfl⟩
abbrev main_cst_2 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_3 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩

abbrev nD : Nat := 1
abbrev τ : Topo := Topo.v7x

variable {F : FTy → Type} [FloatOps F]
-- ==== Kernel8.lean ====
abbrev S32768x8832 : Shape := ⟨2, ![32768, 8832]⟩
abbrev S3x1536 : Shape := ⟨2, ![3, 1536]⟩
abbrev S32768x512 : Shape := ⟨2, ![32768, 512]⟩
abbrev S2048x128 : Shape := ⟨2, ![2048, 128]⟩
abbrev S3x128 : Shape := ⟨2, ![3, 128]⟩
abbrev S3x2064x128 : Shape := ⟨3, ![3, 2064, 128]⟩
abbrev S8x128 : Shape := ⟨2, ![8, 128]⟩
abbrev S1x8x128 : Shape := ⟨3, ![1, 8, 128]⟩
abbrev S1x2048x128 : Shape := ⟨3, ![1, 2048, 128]⟩
abbrev S1x272x128 : Shape := ⟨3, ![1, 272, 128]⟩
abbrev S272x128 : Shape := ⟨2, ![272, 128]⟩
abbrev S1x128 : Shape := ⟨2, ![1, 128]⟩
abbrev S256x128 : Shape := ⟨2, ![256, 128]⟩

abbrev nBuf : Space → Nat
  | .hbm => 4
  | .vmem => 17
  | .smem => 0
  | _ => 0

abbrev bufTy : (tb : Table) → Fin (tcTables nBuf tb) → BufTy
  | .hbm, ⟨0, _⟩ => ⟨S32768x8832, .f32⟩
  | .hbm, ⟨1, _⟩ => ⟨S3x1536, .f32⟩
  | .hbm, ⟨2, _⟩ => ⟨S32768x512, .f32⟩
  | .hbm, ⟨3, _⟩ => ⟨S32768x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S3x128, .f32⟩
  | .local _ .vmem, ⟨11, _⟩ => ⟨S3x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S3x2064x128, .f32⟩
  | _, _ => ⟨S32768x8832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c8_i32 : BitVec 32 := 8#32
  let v31 : BitVec 32 := Scalar.addi c0_i32 c8_i32
  let c1_i32 : BitVec 32 := 1#32
  ⟨c0_i32, v31, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v32 : BitVec 32 := Scalar.muli arg11 c256_i32
  v32
def k0_off1 (k0_t1 : Fin k0_t1_loop.trips) : Fin 3 → Nat :=
  let c0_29 : Index := 0#32
  let c0_i32 : BitVec 32 := 0#32
  let c1_i32 : BitVec 32 := 1#32
  let arg11 : BitVec 32 := Scf.iv c0_i32 c1_i32 k0_t1
  let c256_i32 : BitVec 32 := 256#32
  let v32 : BitVec 32 := Scalar.muli arg11 c256_i32
  let v33 : BitVec 32 := v32
  let v34 : Index := Scalar.indexCast v33
  let c0_30 : Index := 0#32
  ![0, v34.toNat, 0]
def k0_off2 (k0_t1 : Fin k0_t1_loop.trips) : Fin 3 → Nat :=
  let c1_38 : Index := 1#32
  let c0_i32 : BitVec 32 := 0#32
  let c1_i32 : BitVec 32 := 1#32
  let arg11 : BitVec 32 := Scf.iv c0_i32 c1_i32 k0_t1
  let c256_i32 : BitVec 32 := 256#32
  let v32 : BitVec 32 := Scalar.muli arg11 c256_i32
  let v33 : BitVec 32 := v32
  let v51 : Index := Scalar.indexCast v33
  let c0_39 : Index := 0#32
  ![1, v51.toNat, 0]
def k0_off3 (k0_t1 : Fin k0_t1_loop.trips) : Fin 3 → Nat :=
  let c2_48 : Index := 2#32
  let c0_i32 : BitVec 32 := 0#32
  let c1_i32 : BitVec 32 := 1#32
  let arg11 : BitVec 32 := Scf.iv c0_i32 c1_i32 k0_t1
  let c256_i32 : BitVec 32 := 256#32
  let v32 : BitVec 32 := Scalar.muli arg11 c256_i32
  let v33 : BitVec 32 := v32
  let v68 : Index := Scalar.indexCast v33
  let c0_49 : Index := 0#32
  ![2, v68.toNat, 0]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v32 : BitVec 32 := Scalar.muli arg11 c256_i32
  let v33 : BitVec 32 := v32
  let v85 : Index := Scalar.indexCast v33
  let c0_58 : Index := 0#32
  ![v85.toNat, 0]
def cc0_transform_0 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c60_i32 : BitVec 32 := 60#32
  let v0 : BitVec 32 := Scalar.addi c60_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S32768x8832 : Shape := ⟨2, ![32768, 8832]⟩
abbrev S3x1536 : Shape := ⟨2, ![3, 1536]⟩
abbrev S32768x1536 : Shape := ⟨2, ![32768, 1536]⟩
abbrev S16x2048x1536 : Shape := ⟨3, ![16, 2048, 1536]⟩
abbrev S_ : Shape := ⟨0, ![]⟩
abbrev S16x1x1536 : Shape := ⟨3, ![16, 1, 1536]⟩
abbrev S16x2050x1536 : Shape := ⟨3, ![16, 2050, 1536]⟩
abbrev S1x1536 : Shape := ⟨2, ![1, 1536]⟩
abbrev S1536 : Shape := ⟨1, ![1536]⟩
abbrev S1x1x1536 : Shape := ⟨3, ![1, 1, 1536]⟩
abbrev S16x2048x512 : Shape := ⟨3, ![16, 2048, 512]⟩
abbrev S32768x512 : Shape := ⟨2, ![32768, 512]⟩

abbrev nBuf : Space → Nat
  | .hbm => 33
  | .vmem => 0
  | .smem => 0
  | _ => 0

abbrev bufTy : (tb : Table) → Fin (tcTables nBuf tb) → BufTy
  | .hbm, ⟨0, _⟩ => ⟨S32768x8832, .f32⟩
  | .hbm, ⟨1, _⟩ => ⟨S3x1536, .f32⟩
  | .hbm, ⟨2, _⟩ => ⟨S32768x1536, .f32⟩
  | .hbm, ⟨3, _⟩ => ⟨S16x2048x1536, .f32⟩
  | .hbm, ⟨4, _⟩ => ⟨S_, .f32⟩
  | .hbm, ⟨5, _⟩ => ⟨S16x1x1536, .f32⟩
  | .hbm, ⟨6, _⟩ => ⟨S16x2050x1536, .f32⟩
  | .hbm, ⟨7, _⟩ => ⟨S16x2048x1536, .f32⟩
  | .hbm, ⟨8, _⟩ => ⟨S1x1536, .f32⟩
  | .hbm, ⟨9, _⟩ => ⟨S1536, .f32⟩
  | .hbm, ⟨10, _⟩ => ⟨S1x1x1536, .f32⟩
  | .hbm, ⟨11, _⟩ => ⟨S16x2048x1536, .f32⟩
  | .hbm, ⟨12, _⟩ => ⟨S16x2048x1536, .f32⟩
  | .hbm, ⟨13, _⟩ => ⟨S16x2048x1536, .f32⟩
  | .hbm, ⟨14, _⟩ => ⟨S1x1536, .f32⟩
  | .hbm, ⟨15, _⟩ => ⟨S1536, .f32⟩
  | .hbm, ⟨16, _⟩ => ⟨S1x1x1536, .f32⟩
  | .hbm, ⟨17, _⟩ => ⟨S16x2048x1536, .f32⟩
  | .hbm, ⟨18, _⟩ => ⟨S16x2048x1536, .f32⟩
  | .hbm, ⟨19, _⟩ => ⟨S16x2048x1536, .f32⟩
  | .hbm, ⟨20, _⟩ => ⟨S16x2048x1536, .f32⟩
  | .hbm, ⟨21, _⟩ => ⟨S1x1536, .f32⟩
  | .hbm, ⟨22, _⟩ => ⟨S1536, .f32⟩
  | .hbm, ⟨23, _⟩ => ⟨S1x1x1536, .f32⟩
  | .hbm, ⟨24, _⟩ => ⟨S16x2048x1536, .f32⟩
  | .hbm, ⟨25, _⟩ => ⟨S16x2048x1536, .f32⟩
  | .hbm, ⟨26, _⟩ => ⟨S16x2048x1536, .f32⟩
  | .hbm, ⟨27, _⟩ => ⟨S16x2048x512, .f32⟩
  | .hbm, ⟨28, _⟩ => ⟨S16x2048x512, .f32⟩
  | .hbm, ⟨29, _⟩ => ⟨S16x2048x512, .f32⟩
  | .hbm, ⟨30, _⟩ => ⟨S16x2048x512, .f32⟩
  | .hbm, ⟨31, _⟩ => ⟨S32768x512, .f32⟩
  | .hbm, ⟨32, _⟩ => ⟨S32768x512, .f32⟩
  | _, _ => ⟨S32768x8832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== Kernel9.lean ====
abbrev S16x2x64x64x512 : Shape := ⟨5, ![16, 2, 64, 64, 512]⟩
abbrev S32x128 : Shape := ⟨2, ![32, 128]⟩
abbrev S16x32x64x512 : Shape := ⟨4, ![16, 32, 64, 512]⟩
abbrev S512 : Shape := ⟨1, ![512]⟩
abbrev S8x8 : Shape := ⟨2, ![8, 8]⟩
abbrev S_ : Shape := ⟨0, ![]⟩
abbrev S32x1x128x1 : Shape := ⟨4, ![32, 1, 128, 1]⟩
abbrev S1x8x1x8 : Shape := ⟨4, ![1, 8, 1, 8]⟩
abbrev S32x8x128x8 : Shape := ⟨4, ![32, 8, 128, 8]⟩
abbrev S256x1024 : Shape := ⟨2, ![256, 1024]⟩
abbrev S1x1x512 : Shape := ⟨3, ![1, 1, 512]⟩
abbrev S1x2x64x8x512 : Shape := ⟨5, ![1, 2, 64, 8, 512]⟩
abbrev S1x32x8x512 : Shape := ⟨4, ![1, 32, 8, 512]⟩
abbrev S2x64x8x512 : Shape := ⟨4, ![2, 64, 8, 512]⟩
abbrev S1024x512 : Shape := ⟨2, ![1024, 512]⟩
abbrev S256x512 : Shape := ⟨2, ![256, 512]⟩
abbrev S32x8x512 : Shape := ⟨3, ![32, 8, 512]⟩

abbrev nBuf : Space → Nat
  | .hbm => 21
  | .vmem => 10
  | .smem => 0
  | _ => 0

abbrev bufTy : (tb : Table) → Fin (tcTables nBuf tb) → BufTy
  | .hbm, ⟨0, _⟩ => ⟨S16x2x64x64x512, .bf16⟩
  | .hbm, ⟨1, _⟩ => ⟨S32x128, .f32⟩
  | .hbm, ⟨2, _⟩ => ⟨S16x32x64x512, .f32⟩
  | .hbm, ⟨3, _⟩ => ⟨S16x32x64x512, .f32⟩
  | .hbm, ⟨4, _⟩ => ⟨S512, .f32⟩
  | .hbm, ⟨5, _⟩ => ⟨S32x128, .bf16⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .bf16⟩
  | .hbm, ⟨13, _⟩ => ⟨S32x1x128x1, .bf16⟩
  | .hbm, ⟨14, _⟩ => ⟨S1x8x1x8, .bf16⟩
  | .hbm, ⟨15, _⟩ => ⟨S32x8x128x8, .bf16⟩
  | .hbm, ⟨16, _⟩ => ⟨S32x8x128x8, .bf16⟩
  | .hbm, ⟨17, _⟩ => ⟨S32x8x128x8, .bf16⟩
  | .hbm, ⟨18, _⟩ => ⟨S256x1024, .bf16⟩
  | .hbm, ⟨19, _⟩ => ⟨S1x1x512, .f32⟩
  | .hbm, ⟨20, _⟩ => ⟨S16x32x64x512, .f32⟩
  | .local _ .vmem, ⟨0, _⟩ => ⟨S1x2x64x8x512, .bf16⟩
  | .local _ .vmem, ⟨1, _⟩ => ⟨S1x2x64x8x512, .bf16⟩
  | .local _ .vmem, ⟨2, _⟩ => ⟨S256x1024, .bf16⟩
  | .local _ .vmem, ⟨3, _⟩ => ⟨S1x32x8x512, .f32⟩
  | .local _ .vmem, ⟨4, _⟩ => ⟨S1x32x8x512, .f32⟩
  | .local _ .vmem, ⟨5, _⟩ => ⟨S1x32x8x512, .f32⟩
  | .local _ .vmem, ⟨6, _⟩ => ⟨S1x32x8x512, .f32⟩
  | .local _ .vmem, ⟨7, _⟩ => ⟨S1x1x512, .f32⟩
  | .local _ .vmem, ⟨8, _⟩ => ⟨S1x32x8x512, .f32⟩
  | .local _ .vmem, ⟨9, _⟩ => ⟨S1x32x8x512, .f32⟩
  | _, _ => ⟨S16x2x64x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x64x8x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S16x2x64x64x512 : Shape := ⟨5, ![16, 2, 64, 64, 512]⟩
abbrev S32x128 : Shape := ⟨2, ![32, 128]⟩
abbrev S16x32x64x512 : Shape := ⟨4, ![16, 32, 64, 512]⟩
abbrev S512 : Shape := ⟨1, ![512]⟩
abbrev S16x128x64x512 : Shape := ⟨4, ![16, 128, 64, 512]⟩
abbrev S16x64x512x32 : Shape := ⟨4, ![16, 64, 512, 32]⟩
abbrev S1x1x1x512 : Shape := ⟨4, ![1, 1, 1, 512]⟩

abbrev nBuf : Space → Nat
  | .hbm => 14
  | .vmem => 0
  | .smem => 0
  | _ => 0

abbrev bufTy : (tb : Table) → Fin (tcTables nBuf tb) → BufTy
  | .hbm, ⟨0, _⟩ => ⟨S16x2x64x64x512, .bf16⟩
  | .hbm, ⟨1, _⟩ => ⟨S32x128, .f32⟩
  | .hbm, ⟨2, _⟩ => ⟨S16x32x64x512, .f32⟩
  | .hbm, ⟨3, _⟩ => ⟨S16x32x64x512, .f32⟩
  | .hbm, ⟨4, _⟩ => ⟨S512, .f32⟩
  | .hbm, ⟨5, _⟩ => ⟨S16x2x64x64x512, .f32⟩
  | .hbm, ⟨6, _⟩ => ⟨S16x128x64x512, .f32⟩
  | .hbm, ⟨7, _⟩ => ⟨S16x64x512x32, .f32⟩
  | .hbm, ⟨8, _⟩ => ⟨S16x32x64x512, .f32⟩
  | .hbm, ⟨9, _⟩ => ⟨S1x1x1x512, .f32⟩
  | .hbm, ⟨10, _⟩ => ⟨S16x32x64x512, .f32⟩
  | .hbm, ⟨11, _⟩ => ⟨S16x32x64x512, .f32⟩
  | .hbm, ⟨12, _⟩ => ⟨S16x32x64x512, .f32⟩
  | .hbm, ⟨13, _⟩ => ⟨S16x32x64x512, .f32⟩
  | _, _ => ⟨S16x2x64x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel10.lean ====
abbrev S16x32x64x512 : Shape := ⟨4, ![16, 32, 64, 512]⟩
abbrev S128x64 : Shape := ⟨2, ![128, 64]⟩
abbrev S128x32 : Shape := ⟨2, ![128, 32]⟩
abbrev S8x8 : Shape := ⟨2, ![8, 8]⟩
abbrev S_ : Shape := ⟨0, ![]⟩
abbrev S128x1x32x1 : Shape := ⟨4, ![128, 1, 32, 1]⟩
abbrev S1x8x1x8 : Shape := ⟨4, ![1, 8, 1, 8]⟩
abbrev S128x8x32x8 : Shape := ⟨4, ![128, 8, 32, 8]⟩
abbrev S1024x256 : Shape := ⟨2, ![1024, 256]⟩
abbrev S16x2x64x64x512 : Shape := ⟨5, ![16, 2, 64, 64, 512]⟩
abbrev S1x32x8x512 : Shape := ⟨4, ![1, 32, 8, 512]⟩
abbrev S1x2x64x8x512 : Shape := ⟨5, ![1, 2, 64, 8, 512]⟩
abbrev S32x8x512 : Shape := ⟨3, ![32, 8, 512]⟩
abbrev S256x512 : Shape := ⟨2, ![256, 512]⟩
abbrev S1024x512 : Shape := ⟨2, ![1024, 512]⟩
abbrev S2x64x8x512 : Shape := ⟨4, ![2, 64, 8, 512]⟩

abbrev nBuf : Space → Nat
  | .hbm => 18
  | .vmem => 5
  | .smem => 0
  | _ => 0

abbrev bufTy : (tb : Table) → Fin (tcTables nBuf tb) → BufTy
  | .hbm, ⟨0, _⟩ => ⟨S16x32x64x512, .f32⟩
  | .hbm, ⟨1, _⟩ => ⟨S128x64, .f32⟩
  | .hbm, ⟨2, _⟩ => ⟨S128x32, .f32⟩
  | .hbm, ⟨3, _⟩ => ⟨S128x32, .bf16⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x8, .bf16⟩
  | .hbm, ⟨11, _⟩ => ⟨S128x1x32x1, .bf16⟩
  | .hbm, ⟨12, _⟩ => ⟨S1x8x1x8, .bf16⟩
  | .hbm, ⟨13, _⟩ => ⟨S128x8x32x8, .bf16⟩
  | .hbm, ⟨14, _⟩ => ⟨S128x8x32x8, .bf16⟩
  | .hbm, ⟨15, _⟩ => ⟨S128x8x32x8, .bf16⟩
  | .hbm, ⟨16, _⟩ => ⟨S1024x256, .bf16⟩
  | .hbm, ⟨17, _⟩ => ⟨S16x2x64x64x512, .bf16⟩
  | .local _ .vmem, ⟨0, _⟩ => ⟨S1x32x8x512, .f32⟩
  | .local _ .vmem, ⟨1, _⟩ => ⟨S1x32x8x512, .f32⟩
  | .local _ .vmem, ⟨2, _⟩ => ⟨S1024x256, .bf16⟩
  | .local _ .vmem, ⟨3, _⟩ => ⟨S1x2x64x8x512, .bf16⟩
  | .local _ .vmem, ⟨4, _⟩ => ⟨S1x2x64x8x512, .bf16⟩
  | _, _ => ⟨S16x32x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x32x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x64x8x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S16x32x64x512 : Shape := ⟨4, ![16, 32, 64, 512]⟩
abbrev S128x64 : Shape := ⟨2, ![128, 64]⟩
abbrev S128x32 : Shape := ⟨2, ![128, 32]⟩
abbrev S16x64x512x128 : Shape := ⟨4, ![16, 64, 512, 128]⟩
abbrev S16x128x64x512 : Shape := ⟨4, ![16, 128, 64, 512]⟩
abbrev S16x2x64x64x512 : Shape := ⟨5, ![16, 2, 64, 64, 512]⟩

abbrev nBuf : Space → Nat
  | .hbm => 7
  | .vmem => 0
  | .smem => 0
  | _ => 0

abbrev bufTy : (tb : Table) → Fin (tcTables nBuf tb) → BufTy
  | .hbm, ⟨0, _⟩ => ⟨S16x32x64x512, .f32⟩
  | .hbm, ⟨1, _⟩ => ⟨S128x64, .f32⟩
  | .hbm, ⟨2, _⟩ => ⟨S128x32, .f32⟩
  | .hbm, ⟨3, _⟩ => ⟨S16x64x512x128, .f32⟩
  | .hbm, ⟨4, _⟩ => ⟨S16x128x64x512, .f32⟩
  | .hbm, ⟨5, _⟩ => ⟨S16x2x64x64x512, .f32⟩
  | .hbm, ⟨6, _⟩ => ⟨S16x2x64x64x512, .bf16⟩
  | _, _ => ⟨S16x32x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S16x2x64x64x512 : Shape := ⟨5, ![16, 2, 64, 64, 512]⟩
abbrev S64x128x128 : Shape := ⟨3, ![64, 128, 128]⟩
abbrev S64x2x64x512 : Shape := ⟨4, ![64, 2, 64, 512]⟩
abbrev S8x2x1x64x512 : Shape := ⟨5, ![8, 2, 1, 64, 512]⟩
abbrev S1x128x128 : Shape := ⟨3, ![1, 128, 128]⟩
abbrev S1x2x64x512 : Shape := ⟨4, ![1, 2, 64, 512]⟩
abbrev S1x2x1x64x512 : Shape := ⟨5, ![1, 2, 1, 64, 512]⟩
abbrev S2x64x512 : Shape := ⟨3, ![2, 64, 512]⟩
abbrev S128x512 : Shape := ⟨2, ![128, 512]⟩
abbrev S128x4096 : Shape := ⟨2, ![128, 4096]⟩
abbrev S128x128 : Shape := ⟨2, ![128, 128]⟩
abbrev S1x1x64x512 : Shape := ⟨4, ![1, 1, 64, 512]⟩
abbrev S64x512 : Shape := ⟨2, ![64, 512]⟩
abbrev S64x4096 : Shape := ⟨2, ![64, 4096]⟩

abbrev nBuf : Space → Nat
  | .hbm => 7
  | .vmem => 10
  | .smem => 0
  | _ => 0

abbrev bufTy : (tb : Table) → Fin (tcTables nBuf tb) → BufTy
  | .hbm, ⟨0, _⟩ => ⟨S16x2x64x64x512, .bf16⟩
  | .hbm, ⟨1, _⟩ => ⟨S64x128x128, .f32⟩
  | .hbm, ⟨2, _⟩ => ⟨S64x128x128, .f32⟩
  | .hbm, ⟨3, _⟩ => ⟨S64x2x64x512, .f32⟩
  | .hbm, ⟨4, _⟩ => ⟨S64x128x128, .bf16⟩
  | .hbm, ⟨5, _⟩ => ⟨S64x128x128, .bf16⟩
  | .hbm, ⟨6, _⟩ => ⟨S16x2x64x64x512, .bf16⟩
  | .local _ .vmem, ⟨0, _⟩ => ⟨S8x2x1x64x512, .bf16⟩
  | .local _ .vmem, ⟨1, _⟩ => ⟨S8x2x1x64x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x2x64x512, .f32⟩
  | .local _ .vmem, ⟨7, _⟩ => ⟨S1x2x64x512, .f32⟩
  | .local _ .vmem, ⟨8, _⟩ => ⟨S8x2x1x64x512, .bf16⟩
  | .local _ .vmem, ⟨9, _⟩ => ⟨S8x2x1x64x512, .bf16⟩
  | _, _ => ⟨S16x2x64x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

abbrev stage0_0 : Fin 2 → Memref sig .tc .vmem S8x2x1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x2x1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S16x2x64x64x512 : Shape := ⟨5, ![16, 2, 64, 64, 512]⟩
abbrev S64x128x128 : Shape := ⟨3, ![64, 128, 128]⟩
abbrev S64x2x64x512 : Shape := ⟨4, ![64, 2, 64, 512]⟩
abbrev S16x64x2x64x512 : Shape := ⟨5, ![16, 64, 2, 64, 512]⟩
abbrev S16x64x128x512 : Shape := ⟨4, ![16, 64, 128, 512]⟩
abbrev S64x16x512x128 : Shape := ⟨4, ![64, 16, 512, 128]⟩
abbrev S16x64x64x512 : Shape := ⟨4, ![16, 64, 64, 512]⟩
abbrev S64x1x64x512 : Shape := ⟨4, ![64, 1, 64, 512]⟩
abbrev S64x64x512 : Shape := ⟨3, ![64, 64, 512]⟩
abbrev S1x64x64x512 : Shape := ⟨4, ![1, 64, 64, 512]⟩

abbrev nBuf : Space → Nat
  | .hbm => 33
  | .vmem => 0
  | .smem => 0
  | _ => 0

abbrev bufTy : (tb : Table) → Fin (tcTables nBuf tb) → BufTy
  | .hbm, ⟨0, _⟩ => ⟨S16x2x64x64x512, .bf16⟩
  | .hbm, ⟨1, _⟩ => ⟨S64x128x128, .f32⟩
  | .hbm, ⟨2, _⟩ => ⟨S64x128x128, .f32⟩
  | .hbm, ⟨3, _⟩ => ⟨S64x2x64x512, .f32⟩
  | .hbm, ⟨4, _⟩ => ⟨S16x2x64x64x512, .f32⟩
  | .hbm, ⟨5, _⟩ => ⟨S16x64x2x64x512, .f32⟩
  | .hbm, ⟨6, _⟩ => ⟨S16x64x128x512, .f32⟩
  | .hbm, ⟨7, _⟩ => ⟨S64x16x512x128, .f32⟩
  | .hbm, ⟨8, _⟩ => ⟨S16x64x128x512, .f32⟩
  | .hbm, ⟨9, _⟩ => ⟨S16x64x64x512, .f32⟩
  | .hbm, ⟨10, _⟩ => ⟨S16x64x64x512, .f32⟩
  | .hbm, ⟨11, _⟩ => ⟨S64x1x64x512, .f32⟩
  | .hbm, ⟨12, _⟩ => ⟨S64x64x512, .f32⟩
  | .hbm, ⟨13, _⟩ => ⟨S1x64x64x512, .f32⟩
  | .hbm, ⟨14, _⟩ => ⟨S64x1x64x512, .f32⟩
  | .hbm, ⟨15, _⟩ => ⟨S64x64x512, .f32⟩
  | .hbm, ⟨16, _⟩ => ⟨S1x64x64x512, .f32⟩
  | .hbm, ⟨17, _⟩ => ⟨S16x64x64x512, .f32⟩
  | .hbm, ⟨18, _⟩ => ⟨S16x64x64x512, .f32⟩
  | .hbm, ⟨19, _⟩ => ⟨S16x64x64x512, .f32⟩
  | .hbm, ⟨20, _⟩ => ⟨S16x64x64x512, .f32⟩
  | .hbm, ⟨21, _⟩ => ⟨S16x64x64x512, .f32⟩
  | .hbm, ⟨22, _⟩ => ⟨S16x64x64x512, .f32⟩
  | .hbm, ⟨23, _⟩ => ⟨S16x64x64x512, .f32⟩
  | .hbm, ⟨24, _⟩ => ⟨S16x64x64x512, .f32⟩
  | .hbm, ⟨25, _⟩ => ⟨S16x64x64x512, .f32⟩
  | .hbm, ⟨26, _⟩ => ⟨S16x64x64x512, .f32⟩
  | .hbm, ⟨27, _⟩ => ⟨S16x64x128x512, .f32⟩
  | .hbm, ⟨28, _⟩ => ⟨S64x16x512x128, .f32⟩
  | .hbm, ⟨29, _⟩ => ⟨S16x64x128x512, .f32⟩
  | .hbm, ⟨30, _⟩ => ⟨S16x64x2x64x512, .f32⟩
  | .hbm, ⟨31, _⟩ => ⟨S16x2x64x64x512, .f32⟩
  | .hbm, ⟨32, _⟩ => ⟨S16x2x64x64x512, .bf16⟩
  | _, _ => ⟨S16x2x64x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Kernel12.lean ====
abbrev S1x64x64x512 : Shape := ⟨4, ![1, 64, 64, 512]⟩
abbrev S128x64 : Shape := ⟨2, ![128, 64]⟩
abbrev S8x8 : Shape := ⟨2, ![8, 8]⟩
abbrev S_ : Shape := ⟨0, ![]⟩
abbrev S128x1x64x1 : Shape := ⟨4, ![128, 1, 64, 1]⟩
abbrev S1x8x1x8 : Shape := ⟨4, ![1, 8, 1, 8]⟩
abbrev S128x8x64x8 : Shape := ⟨4, ![128, 8, 64, 8]⟩
abbrev S1024x512 : Shape := ⟨2, ![1024, 512]⟩
abbrev S1x2x64x64x512 : Shape := ⟨5, ![1, 2, 64, 64, 512]⟩
abbrev S1x64x8x512 : Shape := ⟨4, ![1, 64, 8, 512]⟩
abbrev S1x2x64x8x512 : Shape := ⟨5, ![1, 2, 64, 8, 512]⟩
abbrev S64x8x512 : Shape := ⟨3, ![64, 8, 512]⟩
abbrev S512x512 : Shape := ⟨2, ![512, 512]⟩
abbrev S2x64x8x512 : Shape := ⟨4, ![2, 64, 8, 512]⟩

abbrev nBuf : Space → Nat
  | .hbm => 16
  | .vmem => 5
  | .smem => 0
  | _ => 0

abbrev bufTy : (tb : Table) → Fin (tcTables nBuf tb) → BufTy
  | .hbm, ⟨0, _⟩ => ⟨S1x64x64x512, .f32⟩
  | .hbm, ⟨1, _⟩ => ⟨S128x64, .f32⟩
  | .hbm, ⟨2, _⟩ => ⟨S8x8, .i32⟩
  | .hbm, ⟨3, _⟩ => ⟨S8x8, .i32⟩
  | .hbm, ⟨4, _⟩ => ⟨S_, .i32⟩
  | .hbm, ⟨5, _⟩ => ⟨S8x8, .i32⟩
  | .hbm, ⟨6, _⟩ => ⟨S8x8, .i32⟩
  | .hbm, ⟨7, _⟩ => ⟨S8x8, .i1⟩
  | .hbm, ⟨8, _⟩ => ⟨S8x8, .f32⟩
  | .hbm, ⟨9, _⟩ => ⟨S128x1x64x1, .f32⟩
  | .hbm, ⟨10, _⟩ => ⟨S1x8x1x8, .f32⟩
  | .hbm, ⟨11, _⟩ => ⟨S128x8x64x8, .f32⟩
  | .hbm, ⟨12, _⟩ => ⟨S128x8x64x8, .f32⟩
  | .hbm, ⟨13, _⟩ => ⟨S128x8x64x8, .f32⟩
  | .hbm, ⟨14, _⟩ => ⟨S1024x512, .f32⟩
  | .hbm, ⟨15, _⟩ => ⟨S1x2x64x64x512, .f32⟩
  | .local _ .vmem, ⟨0, _⟩ => ⟨S1x64x8x512, .f32⟩
  | .local _ .vmem, ⟨1, _⟩ => ⟨S1x64x8x512, .f32⟩
  | .local _ .vmem, ⟨2, _⟩ => ⟨S1024x512, .f32⟩
  | .local _ .vmem, ⟨3, _⟩ => ⟨S1x2x64x8x512, .f32⟩
  | .local _ .vmem, ⟨4, _⟩ => ⟨S1x2x64x8x512, .f32⟩
  | _, _ => ⟨S1x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x64x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x64x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S1x64x64x512 : Shape := ⟨4, ![1, 64, 64, 512]⟩
abbrev S128x64 : Shape := ⟨2, ![128, 64]⟩
abbrev S1x64x512x128 : Shape := ⟨4, ![1, 64, 512, 128]⟩
abbrev S1x128x64x512 : Shape := ⟨4, ![1, 128, 64, 512]⟩
abbrev S1x2x64x64x512 : Shape := ⟨5, ![1, 2, 64, 64, 512]⟩

abbrev nBuf : Space → Nat
  | .hbm => 5
  | .vmem => 0
  | .smem => 0
  | _ => 0

abbrev bufTy : (tb : Table) → Fin (tcTables nBuf tb) → BufTy
  | .hbm, ⟨0, _⟩ => ⟨S1x64x64x512, .f32⟩
  | .hbm, ⟨1, _⟩ => ⟨S128x64, .f32⟩
  | .hbm, ⟨2, _⟩ => ⟨S1x64x512x128, .f32⟩
  | .hbm, ⟨3, _⟩ => ⟨S1x128x64x512, .f32⟩
  | .hbm, ⟨4, _⟩ => ⟨S1x2x64x64x512, .f32⟩
  | _, _ => ⟨S1x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S2x64x64x512 : Shape := ⟨4, ![2, 64, 64, 512]⟩
abbrev S64x128x128 : Shape := ⟨3, ![64, 128, 128]⟩
abbrev S64x2x64x512 : Shape := ⟨4, ![64, 2, 64, 512]⟩
abbrev S2x1x64x512 : Shape := ⟨4, ![2, 1, 64, 512]⟩
abbrev S1x128x128 : Shape := ⟨3, ![1, 128, 128]⟩
abbrev S1x2x64x512 : Shape := ⟨4, ![1, 2, 64, 512]⟩
abbrev S2x64x512 : Shape := ⟨3, ![2, 64, 512]⟩
abbrev S128x512 : Shape := ⟨2, ![128, 512]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S2x64x64x512, .f32⟩
  | .hbm, ⟨1, _⟩ => ⟨S64x128x128, .f32⟩
  | .hbm, ⟨2, _⟩ => ⟨S64x2x64x512, .f32⟩
  | .local _ .vmem, ⟨0, _⟩ => ⟨S2x1x64x512, .f32⟩
  | .local _ .vmem, ⟨1, _⟩ => ⟨S2x1x64x512, .f32⟩
  | .local _ .vmem, ⟨2, _⟩ => ⟨S1x128x128, .f32⟩
  | .local _ .vmem, ⟨3, _⟩ => ⟨S1x128x128, .f32⟩
  | .local _ .vmem, ⟨4, _⟩ => ⟨S1x2x64x512, .f32⟩
  | .local _ .vmem, ⟨5, _⟩ => ⟨S1x2x64x512, .f32⟩
  | _, _ => ⟨S2x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S2x64x64x512 : Shape := ⟨4, ![2, 64, 64, 512]⟩
abbrev S64x128x128 : Shape := ⟨3, ![64, 128, 128]⟩
abbrev S64x2x64x512 : Shape := ⟨4, ![64, 2, 64, 512]⟩
abbrev S64x128x512 : Shape := ⟨3, ![64, 128, 512]⟩

abbrev nBuf : Space → Nat
  | .hbm => 6
  | .vmem => 0
  | .smem => 0
  | _ => 0

abbrev bufTy : (tb : Table) → Fin (tcTables nBuf tb) → BufTy
  | .hbm, ⟨0, _⟩ => ⟨S2x64x64x512, .f32⟩
  | .hbm, ⟨1, _⟩ => ⟨S64x128x128, .f32⟩
  | .hbm, ⟨2, _⟩ => ⟨S64x2x64x512, .f32⟩
  | .hbm, ⟨3, _⟩ => ⟨S64x128x512, .f32⟩
  | .hbm, ⟨4, _⟩ => ⟨S64x128x512, .f32⟩
  | .hbm, ⟨5, _⟩ => ⟨S64x2x64x512, .f32⟩
  | _, _ => ⟨S2x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.ExpertsOk.lean ====
/- The experts' call reads its weight blocks at indices taken from the prefetched table of expert numbers. Here: under
   the precondition (every expert number is in 0 … 7) each such block lies inside its array, which is the side
   condition `Gen.Ok` the generated frames take. Once for the printed program and once for its ideal. -/
module

public import proofs.«01_k».proof.Defs
public import proofs.«01_k».proof.Proof.Gen.Kernel.Frame.Runs
public import proofs.«01_k».proof.Proof.Gen.KernelIdeal.Frame.Runs
public import proofs.«01_k».proof.Proof.Gen.Pre_experts_in_range
public import Idealize.ShloMosaic.Lib.Affine

@[expose] public section

namespace Cert.Experts

open Idealize.ShloMosaic Idealize.ShloMosaic.TcCoe

/-- The precondition, all ones, bounds every word of the table of expert numbers by 8. -/
theorem word_lt {F : FTy → Type} [FloatOps F] (te tv : IVec Pre_experts_in_range.S72 32)
    (x : FVec F Pre_experts_in_range.S73728x1024 .f32) (w : FVec F Pre_experts_in_range.S73728 .f32)
    (a : FVec F Pre_experts_in_range.S1x8x1024x7168 .f32) (b : FVec F Pre_experts_in_range.S1x8x3584x1024 .f32)
    (h : Pre_experts_in_range.fn (F := F) te tv x w a b = fun _ => 1#1) (i : Pre_experts_in_range.S72.Idx) :
    (te i).toNat < 8 := by
  have e := congrFun h i
  have key : ∀ v : BitVec 32, IntOp.andi (IntOp.cmpi .sge v 0#32) (IntOp.cmpi .slt v 8#32) = 1#1 → v.toNat < 8 := by
    intro v hv
    have andi_one (a b : BitVec 1) : IntOp.andi a b = 1#1 → a = 1#1 ∧ b = 1#1 := by revert a b; decide
    obtain ⟨h1, h2⟩ := andi_one _ _ hv
    have ofBool_one (b : Bool) : BitVec.ofBool b = 1#1 → b = true := by revert b; decide
    have h1 := ofBool_one _ h1
    have h2 := ofBool_one _ h2
    have h1 : (0#32).toInt ≤ v.toInt := by simpa [BitVec.sle] using h1
    have h2 : v.toInt < (8#32).toInt := by simpa [BitVec.slt] using h2
    rw [show (0#32).toInt = 0 from by decide] at h1
    rw [show (8#32).toInt = 8 from by decide] at h2
    have := BitVec.toInt_eq_toNat_cond v
    omega
  exact key _ e

section
open Cert.Kernel Cert.Kernel.Gen

/-- With every expert number below 8, the printed program's weight blocks lie inside their arrays. -/
theorem ok_of_words {F : FTy → Type} [FloatOps F] (pf : pre0.Contents (Elt F))
    (h : ∀ x : S72.Idx, BitVec.toNat (pf 0 x) < 8) : ok0 (F := F) pf := by
  have hw (x : S72.Idx) : (BitVec.toNat (pf 0 x) + 1) * 1 ≤ 8 := by have := h x; omega
  have hi1 (i : grid0.Coords) : (i 1).val < 7 := (i 1).isLt
  have hb (i : grid0.Coords) : (BitVec.ofNat 32 (i 1).val).toNat = (i 1).val := by
    rw [BitVec.toNat_ofNat]; have := hi1 i; omega
  have hb7 (i : grid0.Coords) : (Scalar.addi (BitVec.ofNat 32 (i 1).val) 7#32).toNat = (i 1).val + 7 := by
    show (BitVec.ofNat 32 (i 1).val + 7#32).toNat = _
    rw [BitVec.toNat_add, hb]; have := hi1 i; show ((i 1).val + 7) % 2 ^ 32 = _; omega
  refine ⟨fun i => ⟨fun a => ?_, .inr (.inl (.inr ⟨by decide, rfl, .inl ⟨?_, ⟨512, rfl⟩⟩⟩))⟩,
    fun i => ⟨fun a => ?_, .inr (.inl (.inr ⟨by decide, rfl, .inl ⟨?_, ⟨512, rfl⟩⟩⟩))⟩,
    fun i => ⟨fun a => ?_, .inr (.inl (.inr ⟨by decide, rfl, .inl ⟨?_, ⟨256, rfl⟩⟩⟩))⟩⟩
  · have h0 := hi1 i
    match a with
    | ⟨0, _⟩ => exact hw _
    | ⟨1, _⟩ => exact show (0 + 1) * 1024 ≤ 1024 from by omega
    | ⟨2, _⟩ => exact show ((BitVec.ofNat 32 (i 1).val).toNat + 1) * 512 ≤ 7168 from by rw [hb]; omega
  · exact ⟨0, by show 0 * 1024 = 2 * 0; omega⟩
  · have h0 := hi1 i
    match a with
    | ⟨0, _⟩ => exact hw _
    | ⟨1, _⟩ => exact show (0 + 1) * 1024 ≤ 1024 from by omega
    | ⟨2, _⟩ => exact show ((Scalar.addi (BitVec.ofNat 32 (i 1).val) 7#32).toNat + 1) * 512 ≤ 7168 from by rw [hb7]; omega
  · exact ⟨0, by show 0 * 1024 = 2 * 0; omega⟩
  · have h0 := hi1 i
    match a with
    | ⟨0, _⟩ => exact hw _
    | ⟨1, _⟩ => exact show ((BitVec.ofNat 32 (i 1).val).toNat + 1) * 512 ≤ 3584 from by rw [hb]; omega
    | ⟨2, _⟩ => exact show (0 + 1) * 1024 ≤ 1024 from by omega
  · exact ⟨(BitVec.ofNat 32 (i 1).val).toNat * 256, by
      show (BitVec.ofNat 32 (i 1).val).toNat * 512 = 2 * ((BitVec.ofNat 32 (i 1).val).toNat * 256); omega⟩

/-- The printed program's side condition, from the precondition. -/
theorem ok_of_pre (m : (ℓ : Loc nD τ sig) → Buf (Elt Bits) ℓ) (h : Cert.Pre_Kernel m) : Ok (F := Bits) m :=
  ok_of_words _ fun x => by
    rw [show tbl m 0 = m ((0 : Dev nD).tc.loc main_arg0) from V_main_arg0 m 0]
    exact word_lt _ _ _ _ _ _ (h 0) x

end

section
open Cert.KernelIdeal Cert.KernelIdeal.Gen

/-- The ideal's side condition is the printed program's, the index maps being the same functions of the same words. -/
theorem ok_of_words_ideal {F : FTy → Type} [FloatOps F] (pf : pre0.Contents (Elt F))
    (h : ∀ x : S72.Idx, BitVec.toNat (pf 0 x) < 8) : ok0 (F := F) pf :=
  ok_of_words (F := F) pf h

/-- The ideal's side condition, from the precondition. -/
theorem ok_of_pre_ideal (m : (ℓ : Loc nD τ sig) → Buf (Elt Ideal) ℓ) (h : Cert.Pre_KernelIdeal m) : Ok (F := Ideal) m :=
  ok_of_words_ideal _ fun x => by
    rw [show tbl m 0 = m ((0 : Dev nD).tc.loc main_arg0) from V_main_arg0 m 0]
    exact word_lt _ _ _ _ _ _ (h 0) x

end

end Cert.Experts
-- ==== Proof.ExpertsSpec.lean ====
/- What one row of an expert's output is, as a sum over the hidden features: the value both the experts' kernel and
   the reference are read down to. -/
module

public import Idealize.ShloMosaic.Lib.ValueIdx
public import Idealize.ShloMosaic.PureOps.Ideal.Laws

@[expose] public section

noncomputable section

open scoped BigOperators

namespace Cert.Experts

open Idealize.ShloMosaic Idealize.ShloMosaic.ValueIdx

/-- Column `g` of the first product of row `R` with expert `e`'s input weights. -/
def lift (x : (⟨2, ![73728, 1024]⟩ : Shape).Idx → EReal) (w : (⟨4, ![1, 8, 1024, 7168]⟩ : Shape).Idx → EReal)
    (R : Fin 73728) (e : Fin 8) (g : Fin 7168) : EReal :=
  ∑ k : Fin 1024, x (ix2 R k) * w (ix4 (0 : Fin 1) e k g)

/-- The gate's column of hidden feature `f`. -/
def gateCol (f : Fin 3584) : Fin 7168 := ⟨f.val, by omega⟩
/-- The other factor's column of hidden feature `f`. -/
def upCol (f : Fin 3584) : Fin 7168 := ⟨3584 + f.val, by omega⟩

/-- Hidden feature `f` of row `R` under expert `e`: `silu(gate) * up`. -/
def hidden (x : (⟨2, ![73728, 1024]⟩ : Shape).Idx → EReal) (w : (⟨4, ![1, 8, 1024, 7168]⟩ : Shape).Idx → EReal)
    (R : Fin 73728) (e : Fin 8) (f : Fin 3584) : EReal :=
  lift x w R e (gateCol f) * Ideal.logistic (lift x w R e (gateCol f)) * lift x w R e (upCol f)

/-- One hidden feature's part of output feature `d`. -/
def part (x : (⟨2, ![73728, 1024]⟩ : Shape).Idx → EReal) (w : (⟨4, ![1, 8, 1024, 7168]⟩ : Shape).Idx → EReal)
    (o : (⟨4, ![1, 8, 3584, 1024]⟩ : Shape).Idx → EReal) (R : Fin 73728) (e : Fin 8) (d : Fin 1024) (f : Fin 3584) : EReal :=
  hidden x w R e f * o (ix4 (0 : Fin 1) e f d)

/-- Output feature `d` of row `R` under expert `e`. -/
def expert (x : (⟨2, ![73728, 1024]⟩ : Shape).Idx → EReal) (w : (⟨4, ![1, 8, 1024, 7168]⟩ : Shape).Idx → EReal)
    (o : (⟨4, ![1, 8, 3584, 1024]⟩ : Shape).Idx → EReal) (R : Fin 73728) (e : Fin 8) (d : Fin 1024) : EReal :=
  ∑ f : Fin 3584, part x w o R e d f

/-- The tile of 1024 rows that holds row `R`. -/
def tileOf (R : Fin 73728) : Fin 72 := ⟨R.val / 1024, by omega⟩

/-- The expert of a tile, its table word read as a number below eight. -/
def expertOf (te : (⟨1, ![72]⟩ : Shape).Idx → BitVec 32) (i : Fin 72) (h : ∀ i, (te i).toNat < 8) : Fin 8 :=
  ⟨(te (ix1 i)).toNat, h _⟩

/-- Row `R`, feature `d` of the experts' output: the row's weight times its expert's output, zero in an idle tile. -/
def result (te tv : (⟨1, ![72]⟩ : Shape).Idx → BitVec 32) (h : ∀ i, (te i).toNat < 8)
    (x : (⟨2, ![73728, 1024]⟩ : Shape).Idx → EReal) (s : (⟨1, ![73728]⟩ : Shape).Idx → EReal)
    (w : (⟨4, ![1, 8, 1024, 7168]⟩ : Shape).Idx → EReal) (o : (⟨4, ![1, 8, 3584, 1024]⟩ : Shape).Idx → EReal)
    (R : Fin 73728) (d : Fin 1024) : EReal :=
  (if tv (ix1 (tileOf R)) ≠ 0#32 then expert x w o R (expertOf te (tileOf R) h) d else 0) * s (ix1 R)

end Cert.Experts

end
-- ==== Proof.ExpertsRef.lean ====
/- The reference of the experts read at an index: the sum over the eight experts keeps one term, that of the row's
   own expert, with the row's weight. -/
module

public import proofs.«01_k».proof.Proof.Gen.ReferenceIdeal.Read
public import proofs.«01_k».proof.Proof.ExpertsSpec
public import Idealize.ShloMosaic.Lib.IdealHost

@[expose] public section

set_option maxRecDepth 16384

noncomputable section

open scoped BigOperators

namespace Cert.Experts

open Idealize.ShloMosaic Idealize.ShloMosaic.TcCoe Idealize.ShloMosaic.ValueIdx Idealize.SL.Sem
open Cert.ReferenceIdeal Cert.ReferenceIdeal.Gen Cert.ReferenceIdeal.Read

/-- The reference's first product for one expert. -/
def refLift (b : Fin 3 → Nat) (hb : S8x1024x7168.Slices b S1x1024x7168) (x : FVec Ideal S73728x1024 .f32) (w : FVec Ideal S1x8x1024x7168 .f32) :
    FVec Ideal S73728x7168 .f32 :=
  Host.dotGeneral dot_S73728x1024_S1024x7168_S73728x7168_1_0_0_1_n_n none x
    (shapeCast S1024x7168 (extractStridedSlice S1x1024x7168 b (val_main_v0 (F := Ideal) w : FVec Ideal S8x1024x7168 .f32) hb) shapeCasts_S1x1024x7168_S1024x7168 : FVec Ideal S1024x7168 .f32)

/-- The reference's hidden features out of its first product. -/
def refHidden (l : FVec Ideal S73728x7168 .f32) : FVec Ideal S73728x3584 .f32 :=
  mulf (mulf (extractStridedSlice S73728x3584 ![0, 0] l slices_S73728x7168_S73728x3584_0_0)
      (Host.divf (val_main_call2_v4 (F := Ideal))
        (addf (val_main_call2_v2 (F := Ideal)) (Host.exp (Host.negf (extractStridedSlice S73728x3584 ![0, 0] l slices_S73728x7168_S73728x3584_0_0))))))
    (extractStridedSlice S73728x3584 ![0, 3584] l slices_S73728x7168_S73728x3584_0_3584)

/-- One expert's step of the reference: the rows' column of combine weights times the expert's output, added on. -/
def refStep (b : Fin 3 → Nat) (hb : S8x1024x7168.Slices b S1x1024x7168) (ho : S8x3584x1024.Slices b S1x3584x1024)
    (a : Fin 2 → Nat) (ha : S73728x8.Slices a S73728x1)
    (x : FVec Ideal S73728x1024 .f32) (w : FVec Ideal S1x8x1024x7168 .f32) (o : FVec Ideal S1x8x3584x1024 .f32)
    (cw : FVec Ideal S73728x8 .f32) (acc : FVec Ideal S73728x1024 .f32) : FVec Ideal S73728x1024 .f32 :=
  addf acc (mulf (broadcastInDim S73728x1024 ![0, 1] bcast_S73728x1_S73728x1024_0_1 (extractStridedSlice S73728x1 a cw ha))
    (Host.dotGeneral dot_S73728x3584_S3584x1024_S73728x1024_1_0_0_1_n_n none (refHidden (refLift b hb x w))
      (shapeCast S3584x1024 (extractStridedSlice S1x3584x1024 b (val_main_v1 (F := Ideal) o : FVec Ideal S8x3584x1024 .f32) ho) shapeCasts_S1x3584x1024_S3584x1024 : FVec Ideal S3584x1024 .f32)))

/-- The reference's result is eight such steps from zero. -/
theorem ref_steps (x0 x1 : IVec S72 32) (x2 : FVec Ideal S73728x1024 .f32) (x3 : FVec Ideal S73728 .f32)
    (x4 : FVec Ideal S1x8x1024x7168 .f32) (x5 : FVec Ideal S1x8x3584x1024 .f32) :
    val_main_v125 (F := Ideal) x0 x1 x2 x3 x4 x5 =
      let c := val_main_v12 (F := Ideal) x0 x1 x3
      refStep ![7, 0, 0] slices_S8x1024x7168_S1x1024x7168_7_0_0 slices_S8x3584x1024_S1x3584x1024_7_0_0 ![0, 7] slices_S73728x8_S73728x1_0_7 x2 x4 x5 c
      (refStep ![6, 0, 0] slices_S8x1024x7168_S1x1024x7168_6_0_0 slices_S8x3584x1024_S1x3584x1024_6_0_0 ![0, 6] slices_S73728x8_S73728x1_0_6 x2 x4 x5 c
      (refStep ![5, 0, 0] slices_S8x1024x7168_S1x1024x7168_5_0_0 slices_S8x3584x1024_S1x3584x1024_5_0_0 ![0, 5] slices_S73728x8_S73728x1_0_5 x2 x4 x5 c
      (refStep ![4, 0, 0] slices_S8x1024x7168_S1x1024x7168_4_0_0 slices_S8x3584x1024_S1x3584x1024_4_0_0 ![0, 4] slices_S73728x8_S73728x1_0_4 x2 x4 x5 c
      (refStep ![3, 0, 0] slices_S8x1024x7168_S1x1024x7168_3_0_0 slices_S8x3584x1024_S1x3584x1024_3_0_0 ![0, 3] slices_S73728x8_S73728x1_0_3 x2 x4 x5 c
      (refStep ![2, 0, 0] slices_S8x1024x7168_S1x1024x7168_2_0_0 slices_S8x3584x1024_S1x3584x1024_2_0_0 ![0, 2] slices_S73728x8_S73728x1_0_2 x2 x4 x5 c
      (refStep ![1, 0, 0] slices_S8x1024x7168_S1x1024x7168_1_0_0 slices_S8x3584x1024_S1x3584x1024_1_0_0 ![0, 1] slices_S73728x8_S73728x1_0_1 x2 x4 x5 c
      (refStep ![0, 0, 0] slices_S8x1024x7168_S1x1024x7168_0_0_0 slices_S8x3584x1024_S1x3584x1024_0_0_0 ![0, 0] slices_S73728x8_S73728x1_0_0 x2 x4 x5 c
        (val_main_v13 (F := Ideal))))))))) := rfl

/-- Expert `e`'s slice of the input weights at an index. -/
theorem w_in_apply (e : Fin 8) (hb : S8x1024x7168.Slices ![e.val, 0, 0] S1x1024x7168) (w : FVec Ideal S1x8x1024x7168 .f32) (k : Fin 1024) (g : Fin 7168) :
    shapeCast S1024x7168 (extractStridedSlice S1x1024x7168 ![e.val, 0, 0] (val_main_v0 (F := Ideal) w) hb) shapeCasts_S1x1024x7168_S1024x7168 (ix2 k g)
      = w (ix4 (0 : Fin 1) e k g) := by
  rw [shapeCast_apply _ shapeCasts_S1x1024x7168_S1024x7168 (ix2 k g) (ix3 (0 : Fin 1) k g)
      (by rewrite [Shape.rowMajor_val_three, Shape.rowMajor_val_two]; show (0 * 1024 + k.val) * 7168 + g.val = k.val * 7168 + g.val; omega),
    extractStridedSlice_apply ![e.val, 0, 0] _ hb (ix3 (0 : Fin 1) k g) (ix3 e k g) (fun a => match a with
      | ⟨0, _⟩ => rfl
      | ⟨1, _⟩ => by show k.val = 0 + k.val; omega
      | ⟨2, _⟩ => by show g.val = 0 + g.val; omega),
    val_main_v0]
  exact shapeCast_apply w shapeCasts_S1x8x1024x7168_S8x1024x7168 (ix3 e k g) (ix4 (0 : Fin 1) e k g)
    (by rewrite [Shape.rowMajor_val_four, Shape.rowMajor_val_three]; show ((0 * 8 + e.val) * 1024 + k.val) * 7168 + g.val = (e.val * 1024 + k.val) * 7168 + g.val; omega)

/-- Expert `e`'s slice of the output weights at an index. -/
theorem w_out_apply (e : Fin 8) (hb : S8x3584x1024.Slices ![e.val, 0, 0] S1x3584x1024) (o : FVec Ideal S1x8x3584x1024 .f32) (f : Fin 3584) (d : Fin 1024) :
    shapeCast S3584x1024 (extractStridedSlice S1x3584x1024 ![e.val, 0, 0] (val_main_v1 (F := Ideal) o) hb) shapeCasts_S1x3584x1024_S3584x1024 (ix2 f d)
      = o (ix4 (0 : Fin 1) e f d) := by
  rw [shapeCast_apply _ shapeCasts_S1x3584x1024_S3584x1024 (ix2 f d) (ix3 (0 : Fin 1) f d)
      (by rewrite [Shape.rowMajor_val_three, Shape.rowMajor_val_two]; show (0 * 3584 + f.val) * 1024 + d.val = f.val * 1024 + d.val; omega),
    extractStridedSlice_apply ![e.val, 0, 0] _ hb (ix3 (0 : Fin 1) f d) (ix3 e f d) (fun a => match a with
      | ⟨0, _⟩ => rfl
      | ⟨1, _⟩ => by show f.val = 0 + f.val; omega
      | ⟨2, _⟩ => by show d.val = 0 + d.val; omega),
    val_main_v1]
  exact shapeCast_apply o shapeCasts_S1x8x3584x1024_S8x3584x1024 (ix3 e f d) (ix4 (0 : Fin 1) e f d)
    (by rewrite [Shape.rowMajor_val_four, Shape.rowMajor_val_three]; show ((0 * 8 + e.val) * 3584 + f.val) * 1024 + d.val = (e.val * 3584 + f.val) * 1024 + d.val; omega)

/-- The reference's first product at an index. -/
theorem refLift_apply (e : Fin 8) (hb : S8x1024x7168.Slices ![e.val, 0, 0] S1x1024x7168) (x : FVec Ideal S73728x1024 .f32)
    (w : FVec Ideal S1x8x1024x7168 .f32) (R : Fin 73728) (g : Fin 7168) :
    refLift ![e.val, 0, 0] hb x w (ix2 R g) = lift x w R e g := by
  unfold refLift lift
  simp only [Host.dotGeneral]
  rw [Ideal.dotGeneral_apply, ← Equiv.sum_comp (contrEquiv1 dot_S73728x1024_S1024x7168_S73728x7168_1_0_0_1_n_n 1024 rfl rfl).symm]
  refine Finset.sum_congr rfl fun k _ => ?_
  have hk := contrEquiv1_symm_val dot_S73728x1024_S1024x7168_S73728x7168_1_0_0_1_n_n 1024 rfl rfl k
  have el : dot_S73728x1024_S1024x7168_S73728x7168_1_0_0_1_n_n.lhsIdx (ix2 R g) ((contrEquiv1 dot_S73728x1024_S1024x7168_S73728x7168_1_0_0_1_n_n 1024 rfl rfl).symm k) = ix2 R k :=
    funext fun a => Fin.ext (match a with
      | ⟨0, _⟩ => lhs_main_v19_0 _ _
      | ⟨1, _⟩ => (lhs_main_v19_1 _ _).trans hk)
  have er : dot_S73728x1024_S1024x7168_S73728x7168_1_0_0_1_n_n.rhsIdx (ix2 R g) ((contrEquiv1 dot_S73728x1024_S1024x7168_S73728x7168_1_0_0_1_n_n 1024 rfl rfl).symm k) = ix2 k g :=
    funext fun a => Fin.ext (match a with
      | ⟨0, _⟩ => (rhs_main_v19_0 _ _).trans hk
      | ⟨1, _⟩ => rhs_main_v19_1 _ _)
  rw [el, er, w_in_apply]

/-- The reference's hidden features at an index. -/
theorem refHidden_apply (l : FVec Ideal S73728x7168 .f32) (R : Fin 73728) (f : Fin 3584) :
    refHidden l (ix2 R f) = l (ix2 R (gateCol f)) * Ideal.logistic (l (ix2 R (gateCol f))) * l (ix2 R (upCol f)) := by
  have hg : extractStridedSlice S73728x3584 ![0, 0] l slices_S73728x7168_S73728x3584_0_0 (ix2 R f) = l (ix2 R (gateCol f)) :=
    extractStridedSlice_apply ![0, 0] l _ (ix2 R f) (ix2 R (gateCol f)) (fun a => match a with
      | ⟨0, _⟩ => by show R.val = 0 + R.val; omega
      | ⟨1, _⟩ => by show f.val = 0 + f.val; omega)
  have hu : extractStridedSlice S73728x3584 ![0, 3584] l slices_S73728x7168_S73728x3584_0_3584 (ix2 R f) = l (ix2 R (upCol f)) :=
    extractStridedSlice_apply ![0, 3584] l _ (ix2 R f) (ix2 R (upCol f)) (fun a => match a with
      | ⟨0, _⟩ => by show R.val = 0 + R.val; omega
      | ⟨1, _⟩ => rfl)
  have h1 : val_main_call2_v4 (F := Ideal) (ix2 R f) = (1 : EReal) := by rw [val_main_call2_v4_apply]; exact Ideal.ofBits_one_f32
  have h2 : val_main_call2_v2 (F := Ideal) (ix2 R f) = (1 : EReal) := by rw [val_main_call2_v2_apply]; exact Ideal.ofBits_one_f32
  unfold Ideal.logistic
  rw [← hg, ← hu, ← h1]
  rfl

/-- One step of the reference at an index. -/
theorem refStep_apply (e : Fin 8) (hb : S8x1024x7168.Slices ![e.val, 0, 0] S1x1024x7168) (ho : S8x3584x1024.Slices ![e.val, 0, 0] S1x3584x1024)
    (ha : S73728x8.Slices ![0, e.val] S73728x1)
    (x : FVec Ideal S73728x1024 .f32) (w : FVec Ideal S1x8x1024x7168 .f32) (o : FVec Ideal S1x8x3584x1024 .f32)
    (cw : FVec Ideal S73728x8 .f32) (acc : FVec Ideal S73728x1024 .f32) (R : Fin 73728) (d : Fin 1024) :
    refStep ![e.val, 0, 0] hb ho ![0, e.val] ha x w o cw acc (ix2 R d) = acc (ix2 R d) + cw (ix2 R e) * expert x w o R e d := by
  have hc : broadcastInDim S73728x1024 ![0, 1] bcast_S73728x1_S73728x1024_0_1 (extractStridedSlice S73728x1 ![0, e.val] cw ha) (ix2 R d) = cw (ix2 R e) := by
    rw [broadcastInDim_apply _ bcast_S73728x1_S73728x1024_0_1 _ (ix2 R d) (ix2 R (0 : Fin 1)) (fun a => match a with
      | ⟨0, _⟩ => by show R.val = if (73728 : Nat) = 1 then 0 else R.val; rw [if_neg (by decide)]
      | ⟨1, _⟩ => by show 0 = if (1 : Nat) = 1 then 0 else d.val; rw [if_pos rfl])]
    exact extractStridedSlice_apply ![0, e.val] cw ha (ix2 R (0 : Fin 1)) (ix2 R e) (fun a => match a with
      | ⟨0, _⟩ => by show R.val = 0 + R.val; omega
      | ⟨1, _⟩ => rfl)
  have hd : Host.dotGeneral dot_S73728x3584_S3584x1024_S73728x1024_1_0_0_1_n_n none (refHidden (refLift ![e.val, 0, 0] hb x w))
      (shapeCast S3584x1024 (extractStridedSlice S1x3584x1024 ![e.val, 0, 0] (val_main_v1 (F := Ideal) o : FVec Ideal S8x3584x1024 .f32) ho) shapeCasts_S1x3584x1024_S3584x1024 : FVec Ideal S3584x1024 .f32)
      (ix2 R d) = expert x w o R e d := by
    unfold expert
    simp only [Host.dotGeneral]
    rw [Ideal.dotGeneral_apply, ← Equiv.sum_comp (contrEquiv1 dot_S73728x3584_S3584x1024_S73728x1024_1_0_0_1_n_n 3584 rfl rfl).symm]
    refine Finset.sum_congr rfl fun k _ => ?_
    have hk := contrEquiv1_symm_val dot_S73728x3584_S3584x1024_S73728x1024_1_0_0_1_n_n 3584 rfl rfl k
    have el : dot_S73728x3584_S3584x1024_S73728x1024_1_0_0_1_n_n.lhsIdx (ix2 R d) ((contrEquiv1 dot_S73728x3584_S3584x1024_S73728x1024_1_0_0_1_n_n 3584 rfl rfl).symm k) = ix2 R k :=
      funext fun a => Fin.ext (match a with
        | ⟨0, _⟩ => lhs_main_v24_0 _ _
        | ⟨1, _⟩ => (lhs_main_v24_1 _ _).trans hk)
    have er : dot_S73728x3584_S3584x1024_S73728x1024_1_0_0_1_n_n.rhsIdx (ix2 R d) ((contrEquiv1 dot_S73728x3584_S3584x1024_S73728x1024_1_0_0_1_n_n 3584 rfl rfl).symm k) = ix2 k d :=
      funext fun a => Fin.ext (match a with
        | ⟨0, _⟩ => (rhs_main_v24_0 _ _).trans hk
        | ⟨1, _⟩ => rhs_main_v24_1 _ _)
    rw [el, er, refHidden_apply, refLift_apply, refLift_apply, w_out_apply]
    rfl
  rw [← hc, ← hd]
  rfl

/-- One step of the reference at an index, the expert as a plain number. -/
theorem refStep_nat (n : ℕ) (hn : n < 8) (hb : S8x1024x7168.Slices ![n, 0, 0] S1x1024x7168) (ho : S8x3584x1024.Slices ![n, 0, 0] S1x3584x1024)
    (ha : S73728x8.Slices ![0, n] S73728x1)
    (x : FVec Ideal S73728x1024 .f32) (w : FVec Ideal S1x8x1024x7168 .f32) (o : FVec Ideal S1x8x3584x1024 .f32)
    (cw : FVec Ideal S73728x8 .f32) (acc : FVec Ideal S73728x1024 .f32) (R : Fin 73728) (d : Fin 1024) :
    refStep ![n, 0, 0] hb ho ![0, n] ha x w o cw acc (ix2 R d) = acc (ix2 R d) + cw (ix2 R ⟨n, hn⟩) * expert x w o R ⟨n, hn⟩ d :=
  refStep_apply ⟨n, hn⟩ hb ho ha x w o cw acc R d

/-- The combine weight of row `R` for expert `e`: the row's weight in a live tile of that expert, else zero. -/
theorem combine_apply (x0 x1 : IVec S72 32) (h : ∀ i, (x0 i).toNat < 8) (x3 : FVec Ideal S73728 .f32) (R : Fin 73728) (e : Fin 8) :
    val_main_v12 (F := Ideal) x0 x1 x3 (ix2 R e)
      = if e = expertOf x0 (tileOf R) h then (if x1 (ix1 (tileOf R)) ≠ 0#32 then x3 (ix1 R) else 0) else 0 := by
  have e0 : val_main_call1_v2 (F := Ideal) x0 (ix2 R e) = x0 (ix1 (tileOf R)) := by
    rw [val_main_call1_v2_apply, val_main_call1_v0_apply, val_main_v3_apply, val_main_v2_apply]
    exact congrArg x0 (funext fun a => match a with | ⟨0, _⟩ => rfl)
  have e1 : val_main_v5 (F := Ideal) x1 (ix1 R) = x1 (ix1 (tileOf R)) := by
    rw [val_main_v5_apply, val_main_v4_apply]
    exact congrArg x1 (funext fun a => match a with | ⟨0, _⟩ => rfl)
  have e2 : val_main_v11 (F := Ideal) x1 x3 (ix2 R e) = if x1 (ix1 (tileOf R)) ≠ 0#32 then x3 (ix1 R) else 0 := by
    rw [val_main_v11_apply, val_main_v10_apply]
    have er : idx_main_v10 (idx_main_v11 (ix2 R e)) = ix1 R := funext fun a => match a with | ⟨0, _⟩ => rfl
    rw [er, val_main_v8_apply, val_main_v7_apply, e1, val_main_v6_apply, val_main_c_apply, val_main_call0_v1_apply, val_main_call0_v0_apply,
      val_main_cst_apply]
    by_cases hx : x1 (ix1 (tileOf R)) = 0#32
    · rw [hx, if_neg (by simp)]
      exact Ideal.ofBits_zero_f32
    · rw [if_pos hx]
      have : IntOp.cmpi .ne (x1 (ix1 (tileOf R))) 0#32 = 1#1 := by simp only [IntOp.cmpi, bne_iff_ne, ne_eq, hx, not_false_eq_true, (bne_iff_ne).mpr hx]; rfl
      rw [this]
      rfl
  rw [val_main_v12_apply, val_main_v9_apply, val_main_call1_v4_apply, e0, e2, val_main_call1_v3_apply, val_main_call1_v1_apply]
  show ((((IntOp.cmpi .eq (x0 (ix1 (tileOf R))) (BitVec.ofNat 32 e.val)).toNat : ℝ) : EReal)) * _ = _
  by_cases he : e = expertOf x0 (tileOf R) h
  · have hx : x0 (ix1 (tileOf R)) = BitVec.ofNat 32 e.val := by
      rw [he]; apply BitVec.eq_of_toNat_eq; simp [expertOf]
    rw [if_pos he, hx]
    simp [IntOp.cmpi]
  · have hx : x0 (ix1 (tileOf R)) ≠ BitVec.ofNat 32 e.val := fun hx => he (Fin.ext (by
      show e.val = (x0 (ix1 (tileOf R))).toNat
      rw [hx]; simp; omega))
    rw [if_neg he]
    simp [IntOp.cmpi, hx]

/-- **The reference's result at an index.** -/
theorem ref_apply (x0 x1 : IVec S72 32) (h : ∀ i, (x0 i).toNat < 8) (x2 : FVec Ideal S73728x1024 .f32) (x3 : FVec Ideal S73728 .f32)
    (x4 : FVec Ideal S1x8x1024x7168 .f32) (x5 : FVec Ideal S1x8x3584x1024 .f32) (R : Fin 73728) (d : Fin 1024) :
    val_main_v125 (F := Ideal) x0 x1 x2 x3 x4 x5 (ix2 R d) = result x0 x1 h x2 x3 x4 x5 R d := by
  have hz : val_main_v13 (F := Ideal) (ix2 R d) = (0 : EReal) := by rw [val_main_v13_apply]; exact Ideal.ofBits_zero_f32
  rw [ref_steps]
  dsimp only
  rw [refStep_nat 7 (by decide), refStep_nat 6 (by decide), refStep_nat 5 (by decide), refStep_nat 4 (by decide), refStep_nat 3 (by decide),
    refStep_nat 2 (by decide), refStep_nat 1 (by decide), refStep_nat 0 (by decide), hz, zero_add]
  refine (Fin.sum_univ_eight (fun e => val_main_v12 (F := Ideal) x0 x1 x3 (ix2 R e) * expert x2 x4 x5 R e d)).symm.trans ?_
  rw [Finset.sum_eq_single (expertOf x0 (tileOf R) h)]
  · rw [combine_apply x0 x1 h, if_pos rfl]
    unfold result
    split
    · rw [mul_comm]
    · rw [zero_mul, zero_mul]
  · intro e _ he
    rw [combine_apply x0 x1 h, if_neg he, zero_mul]
  · exact fun hn => absurd (Finset.mem_univ _) hn

end Cert.Experts

end
-- ==== Proof.ExpertsTiles.lean ====
/- The experts' call, one grid point at a time: what each of the body's six cases leaves in the accumulator, in the
   cast copy of the rows and in the output's staging buffer, as the body's own payloads of what it read. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.Experts

open Idealize.ShloMosaic Idealize.ShloMosaic.TcCoe Idealize.SL.Sem
open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The word of the second table the body tests at tile `i`: whether the tile holds rows to work on. -/
abbrev liveWord (c : Dev nD) (i : grid0.Coords) (xt1 : TbBuf0 (F := F) c tbM0_1) : BitVec 32 :=
  tbM0_1.view.readAt (Elt F) (Rect.unit (s := S72) (k0_off1 i) S1.size (k0_off1_inb i)).toLoadRect xt1 (Shape.Idx.first (numel1_S1.symm ▸ Nat.one_pos))

section cases

variable (c : Dev nD) (i : grid0.Coords)
  (a4 : Memref sig .tc .vmem S1024x1024 .f32) (h4 : a4.IsWhole) (a5 : Memref sig .tc .vmem S1024x1 .f32) (h5 : a5.IsWhole)
  (a6 : Memref sig .tc .vmem S1x1024x512 .bf16) (h6 : a6.IsWhole) (a7 : Memref sig .tc .vmem S1x1024x512 .bf16) (h7 : a7.IsWhole)
  (a8 : Memref sig .tc .vmem S1x512x1024 .bf16) (h8 : a8.IsWhole) (a9 : Memref sig .tc .vmem S1024x1024 .f32) (h9 : a9.IsWhole)
  (a10 : Memref sig .tc .vmem S1024x1024 .f32) (h10 : a10.IsWhole) (a11 : Memref sig .tc .vmem S1024x1024 .bf16) (h11 : a11.IsWhole)
  (x0 : Vec F S1024x1024 .f32) (x1 : Vec F S1024x1 .f32) (x2 x3 : Vec F S1x1024x512 .bf16) (x4 : Vec F S1x512x1024 .bf16)
  (xt0 : TbBuf0 (F := F) c tbM0_0) (xt1 : TbBuf0 (F := F) c tbM0_1) (xs0 : Vec F S1024x1024 .f32) (xs1 : Vec F S1024x1024 .bf16)

/-- First block, live tile: the accumulator is the first block's product added to zero. -/
theorem acc_A (hc0 : cond0_0 i) (hc2 : ¬cond0_2 i) (hc1 : cond0_1 i (liveWord c i xt1)) :
    sout0_A_0 c i a4 h4 a5 h5 a6 h6 a7 h7 a8 h8 a9 h9 a10 h10 a11 h11 hc0 hc2 x0 x1 x2 x3 x4 xt0 xt1 hc1
      = k0_pay3 (k0_pay2 x0) x2 x3 k0_pay1 x4 := by
  unfold sout0_A_0
  rw [View.read_writes_eq_canon _ _ _ (scover0_A_0 c i a4 h4 a5 h5 a6 h6 a7 h7 a8 h8 a9 h9 a10 h10 a11 h11 hc0 hc2 x0 x1 x2 x3 x4 xt0 xt1 hc1)]
  unfold kernelRun0_A
  dsimp only
  sl_unfold_words
  rw [View.canon_cons_unit_zero (S := S1024x1024) zero2]
  simp only [View.readCov_unit_zero (S := S1024x1024) _ zero2, View.readAt_eq_ld, h4.read_unread, h6.read_unread, h7.read_unread, h8.read_unread,
    View.ld_unit_zero (S := S1024x1024) zero2, View.ld_unit_zero (S := S1x1024x512) zero3, View.ld_unit_zero (S := S1x512x1024) zero3]

/-- First block: the cast copy of the rows, live tile. -/
theorem cast_A (hc0 : cond0_0 i) (hc2 : ¬cond0_2 i) (hc1 : cond0_1 i (liveWord c i xt1)) :
    sout0_A_1 c i a4 h4 a5 h5 a6 h6 a7 h7 a8 h8 a9 h9 a10 h10 a11 h11 hc0 hc2 x0 x1 x2 x3 x4 xt0 xt1 hc1 = k0_pay2 x0 := by
  unfold sout0_A_1
  rw [View.read_writes_eq_canon _ _ _ (scover0_A_1 c i a4 h4 a5 h5 a6 h6 a7 h7 a8 h8 a9 h9 a10 h10 a11 h11 hc0 hc2 x0 x1 x2 x3 x4 xt0 xt1 hc1)]
  unfold kernelRun0_A
  dsimp only
  sl_unfold_words
  rw [View.canon_unit_zero zero2]
  simp only [View.readAt_eq_ld, h4.read_unread, View.ld_unit_zero (S := S1024x1024) zero2]

/-- First block, idle tile: the accumulator is zero. -/
theorem acc_B (hc0 : cond0_0 i) (hc2 : ¬cond0_2 i) (hc1 : ¬cond0_1 i (liveWord c i xt1)) :
    sout0_B_0 c i a4 h4 a5 h5 a6 h6 a7 h7 a8 h8 a9 h9 a10 h10 a11 h11 hc0 hc2 x0 x1 x2 x3 x4 xt0 xt1 hc1 = k0_pay1 := by
  unfold sout0_B_0
  rw [View.read_writes_eq_canon _ _ _ (scover0_B_0 c i a4 h4 a5 h5 a6 h6 a7 h7 a8 h8 a9 h9 a10 h10 a11 h11 hc0 hc2 x0 x1 x2 x3 x4 xt0 xt1 hc1)]
  unfold kernelRun0_B
  dsimp only
  sl_unfold_words
  rw [View.canon_unit_zero zero2]

/-- First block: the cast copy of the rows, idle tile. -/
theorem cast_B (hc0 : cond0_0 i) (hc2 : ¬cond0_2 i) (hc1 : ¬cond0_1 i (liveWord c i xt1)) :
    sout0_B_1 c i a4 h4 a5 h5 a6 h6 a7 h7 a8 h8 a9 h9 a10 h10 a11 h11 hc0 hc2 x0 x1 x2 x3 x4 xt0 xt1 hc1 = k0_pay2 x0 := by
  unfold sout0_B_1
  rw [View.read_writes_eq_canon _ _ _ (scover0_B_1 c i a4 h4 a5 h5 a6 h6 a7 h7 a8 h8 a9 h9 a10 h10 a11 h11 hc0 hc2 x0 x1 x2 x3 x4 xt0 xt1 hc1)]
  unfold kernelRun0_B
  dsimp only
  sl_unfold_words
  rw [View.canon_unit_zero zero2]
  simp only [View.readAt_eq_ld, h4.read_unread, View.ld_unit_zero (S := S1024x1024) zero2]

/-- A middle block, live tile: its product is added to the accumulator. -/
theorem acc_C (hc0 : ¬cond0_0 i) (hc2 : ¬cond0_2 i) (hc1 : cond0_1 i (liveWord c i xt1)) :
    sout0_C_0 c i a4 h4 a5 h5 a6 h6 a7 h7 a8 h8 a9 h9 a10 h10 a11 h11 hc0 hc2 x0 x1 x2 x3 x4 xt0 xt1 xs0 xs1 hc1
      = k0_pay3 xs1 x2 x3 xs0 x4 := by
  unfold sout0_C_0
  rw [View.read_writes_eq_canon _ _ _ (scover0_C_0 c i a4 h4 a5 h5 a6 h6 a7 h7 a8 h8 a9 h9 a10 h10 a11 h11 hc0 hc2 x0 x1 x2 x3 x4 xt0 xt1 xs0 xs1 hc1)]
  unfold kernelRun0_C
  dsimp only
  sl_unfold_words
  rw [View.canon_unit_zero zero2]
  simp only [View.readAt_eq_ld, h6.read_unread, h7.read_unread, h8.read_unread, h10.read_unread, h11.read_unread,
    View.ld_unit_zero (S := S1024x1024) zero2, View.ld_unit_zero (S := S1x1024x512) zero3, View.ld_unit_zero (S := S1x512x1024) zero3]

/-- The last block, live tile: its product is added to the accumulator. -/
theorem acc_E (hc0 : ¬cond0_0 i) (hc2 : cond0_2 i) (hc1 : cond0_1 i (liveWord c i xt1)) :
    sout0_E_0 c i a4 h4 a5 h5 a6 h6 a7 h7 a8 h8 a9 h9 a10 h10 a11 h11 hc0 hc2 x0 x1 x2 x3 x4 xt0 xt1 xs0 xs1 hc1
      = k0_pay3 xs1 x2 x3 xs0 x4 := by
  unfold sout0_E_0
  rw [View.read_writes_eq_canon _ _ _ (scover0_E_0 c i a4 h4 a5 h5 a6 h6 a7 h7 a8 h8 a9 h9 a10 h10 a11 h11 hc0 hc2 x0 x1 x2 x3 x4 xt0 xt1 xs0 xs1 hc1)]
  unfold kernelRun0_E
  dsimp only
  sl_unfold_words
  rw [View.canon_unit_zero zero2]
  simp only [View.readAt_eq_ld, h6.read_unread, h7.read_unread, h8.read_unread, h10.read_unread, h11.read_unread,
    View.ld_unit_zero (S := S1024x1024) zero2, View.ld_unit_zero (S := S1x1024x512) zero3, View.ld_unit_zero (S := S1x512x1024) zero3]

/-- The last block, live tile: the output is the finished accumulator, each row times its weight. -/
theorem out_E (hc0 : ¬cond0_0 i) (hc2 : cond0_2 i) (hc1 : cond0_1 i (liveWord c i xt1)) :
    out0_E_5 c i a4 h4 a5 h5 a6 h6 a7 h7 a8 h8 a9 h9 a10 h10 a11 h11 hc0 hc2 x0 x1 x2 x3 x4 xt0 xt1 xs0 xs1 hc1
      = k0_pay4 (k0_pay3 xs1 x2 x3 xs0 x4) x1 := by
  unfold out0_E_5
  rw [View.read_writes_eq_canon _ _ _ (cover0_E_5 c i a4 h4 a5 h5 a6 h6 a7 h7 a8 h8 a9 h9 a10 h10 a11 h11 hc0 hc2 x0 x1 x2 x3 x4 xt0 xt1 xs0 xs1 hc1)]
  unfold kernelRun0_E
  dsimp only
  sl_unfold_words
  rw [View.canon_unit_zero zero2]
  simp only [View.readCov_unit_zero (S := S1024x1024) _ zero2, View.readAt_eq_ld, h5.read_unread, h6.read_unread, h7.read_unread, h8.read_unread, h10.read_unread, h11.read_unread,
    View.ld_unit_zero (S := S1024x1) zero2,
    View.ld_unit_zero (S := S1024x1024) zero2, View.ld_unit_zero (S := S1x1024x512) zero3, View.ld_unit_zero (S := S1x512x1024) zero3]

/-- The last block, idle tile: the output is the accumulator as it stands, each row times its weight. -/
theorem out_F (hc0 : ¬cond0_0 i) (hc2 : cond0_2 i) (hc1 : ¬cond0_1 i (liveWord c i xt1)) :
    out0_F_5 c i a4 h4 a5 h5 a6 h6 a7 h7 a8 h8 a9 h9 a10 h10 a11 h11 hc0 hc2 x0 x1 x2 x3 x4 xt0 xt1 xs0 xs1 hc1
      = k0_pay4 xs0 x1 := by
  unfold out0_F_5
  rw [View.read_writes_eq_canon _ _ _ (cover0_F_5 c i a4 h4 a5 h5 a6 h6 a7 h7 a8 h8 a9 h9 a10 h10 a11 h11 hc0 hc2 x0 x1 x2 x3 x4 xt0 xt1 xs0 xs1 hc1)]
  unfold kernelRun0_F
  dsimp only
  sl_unfold_words
  rw [View.canon_unit_zero zero2]
  simp only [View.readAt_eq_ld, h5.read_unread, h10.read_unread, View.ld_unit_zero (S := S1024x1) zero2, View.ld_unit_zero (S := S1024x1024) zero2]

end cases

/-! ## The state after each point -/

variable (m : (ℓ : Loc nD τ sig) → Buf (Elt F) ℓ) (hO : Ok m) (c : Dev nD)

/-- The tile that point `t` works on holds rows to work on. -/
abbrev live (t : Fin (cfgM m hO).N) : Prop := cond0_1 (grid0.coords t) (liveWord c (grid0.coords t) (tbl m 1))

/-- The three components of a triple given as one. -/
theorem triple_fst {A B C : Type} {p : A × B × C} {a : A} {b : B} {d : C} (e : p = (a, b, d)) : p.1 = a := by rw [e]
theorem triple_snd {A B C : Type} {p : A × B × C} {a : A} {b : B} {d : C} (e : p = (a, b, d)) : p.2.1 = b := by rw [e]
theorem triple_thd {A B C : Type} {p : A × B × C} {a : A} {b : B} {d : C} (e : p = (a, b, d)) : p.2.2 = d := by rw [e]

/-- What the point before `t` left. -/
abbrev prev (t : Fin (cfgM m hO).N) : Vec F S1024x1024 .f32 × Vec F S1024x1024 .f32 × Vec F S1024x1024 .bf16 :=
  outsAt0 m hO c (t.val - 1) (Nat.lt_of_le_of_lt (Nat.sub_le _ _) t.isLt)

/-- After a tile's first point: the rows' cast copy. -/
theorem first_cast (t : Fin (cfgM m hO).N) (h0 : t.val % 7 = 0) :
    (outsAt0 m hO c t.val t.isLt).2.2 = k0_pay2 (iblk m hO c 0 t) := by
  have h2 : ¬t.val % 7 = 6 := by omega
  by_cases h1 : live m hO c t
  · have e := triple_thd (outsAt0_A m hO c t h0 h1 h2)
    rw [e]; exact cast_A ..
  · have e := triple_thd (outsAt0_B m hO c t h0 h1 h2)
    rw [e]; exact cast_B ..

/-- After a live tile's first point: the first block's product added to zero. -/
theorem first_live (t : Fin (cfgM m hO).N) (h0 : t.val % 7 = 0) (h1 : live m hO c t) :
    (outsAt0 m hO c t.val t.isLt).2.1
      = k0_pay3 (k0_pay2 (iblk m hO c 0 t)) (iblk m hO c 2 t) (iblk m hO c 3 t) k0_pay1 (iblk m hO c 4 t) := by
  have h2 : ¬t.val % 7 = 6 := by omega
  have e := triple_snd (outsAt0_A m hO c t h0 h1 h2)
  rw [e]; exact acc_A ..

/-- After an idle tile's first point: zero. -/
theorem first_idle (t : Fin (cfgM m hO).N) (h0 : t.val % 7 = 0) (h1 : ¬live m hO c t) :
    (outsAt0 m hO c t.val t.isLt).2.1 = k0_pay1 := by
  have h2 : ¬t.val % 7 = 6 := by omega
  have e := triple_snd (outsAt0_B m hO c t h0 h1 h2)
  rw [e]; exact acc_B ..

/-- A later point of a tile keeps the rows' cast copy. -/
theorem later_cast (t : Fin (cfgM m hO).N) (h0 : ¬t.val % 7 = 0) :
    (outsAt0 m hO c t.val t.isLt).2.2 = (prev m hO c t).2.2 := by
  by_cases h2 : t.val % 7 = 6
  · by_cases h1 : live m hO c t
    · have e := triple_thd (outsAt0_E m hO c t h0 h1 h2)
      rw [e]; rfl
    · have e := triple_thd (outsAt0_F m hO c t h0 h1 h2)
      rw [e]; rfl
  · by_cases h1 : live m hO c t
    · have e := triple_thd (outsAt0_C m hO c t h0 h1 h2)
      rw [e]; rfl
    · have e := triple_thd (outsAt0_D m hO c t h0 h1 h2)
      rw [e]; rfl

/-- A later point of a live tile adds its block's product. -/
theorem later_live (t : Fin (cfgM m hO).N) (h0 : ¬t.val % 7 = 0) (h1 : live m hO c t) :
    (outsAt0 m hO c t.val t.isLt).2.1
      = k0_pay3 (prev m hO c t).2.2 (iblk m hO c 2 t) (iblk m hO c 3 t) (prev m hO c t).2.1 (iblk m hO c 4 t) := by
  by_cases h2 : t.val % 7 = 6
  · have e := triple_snd (outsAt0_E m hO c t h0 h1 h2)
    rw [e]; exact acc_E ..
  · have e := triple_snd (outsAt0_C m hO c t h0 h1 h2)
    rw [e]; exact acc_C ..

/-- A later point of an idle tile leaves the accumulator. -/
theorem later_idle (t : Fin (cfgM m hO).N) (h0 : ¬t.val % 7 = 0) (h1 : ¬live m hO c t) :
    (outsAt0 m hO c t.val t.isLt).2.1 = (prev m hO c t).2.1 := by
  by_cases h2 : t.val % 7 = 6
  · have e := triple_snd (outsAt0_F m hO c t h0 h1 h2)
    rw [e]; rfl
  · have e := triple_snd (outsAt0_D m hO c t h0 h1 h2)
    rw [e]; rfl

/-- At a tile's last point the output is the accumulator as that point leaves it, each row times its weight. -/
theorem last_point (t : Fin (cfgM m hO).N) (h2 : t.val % 7 = 6) :
    (outsAt0 m hO c t.val t.isLt).1 = k0_pay4 (outsAt0 m hO c t.val t.isLt).2.1 (iblk m hO c 1 t) := by
  have h0 : ¬t.val % 7 = 0 := by omega
  by_cases h1 : live m hO c t
  · rw [later_live m hO c t h0 h1]
    have e := triple_fst (outsAt0_E m hO c t h0 h1 h2)
    rw [e]; exact out_E ..
  · rw [later_idle m hO c t h0 h1]
    have e := triple_fst (outsAt0_F m hO c t h0 h1 h2)
    rw [e]; exact out_F ..

end Cert.Experts

end
-- ==== Proof.ExpertsBlocks.lean ====
/- The experts' blocks read at an index of the argument arrays: point `t` of the grid is step `t % 7` of tile `t / 7`,
   whose weight blocks are those of the expert the first table names for that tile. -/
module

public import proofs.«01_k».proof.Proof.ExpertsTiles
public import proofs.«01_k».proof.Proof.ExpertsSpec
public import Idealize.ShloMosaic.Lib.StableHlo.Run

@[expose] public section

set_option maxRecDepth 16384

noncomputable section

namespace Cert.Experts

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (hO : Ok m) (c : Dev nD)

theorem coords_tile (t : Fin grid0.N) : (grid0.coords t 0).val = t.val / 7 := by
  revert t; decide +kernel
theorem coords_step (t : Fin grid0.N) : (grid0.coords t 1).val = t.val % 7 := by
  revert t; decide +kernel

/-- The tile of grid point `t`. -/
def tileAt (t : Fin grid0.N) : Fin 72 := ⟨t.val / 7, by have : t.val < 504 := lt_of_lt_of_eq t.isLt N_0; omega⟩
/-- The step of grid point `t` within its tile. -/
def stepAt (t : Fin grid0.N) : Fin 7 := ⟨t.val % 7, by omega⟩
/-- Row `r` of tile `i`. -/
def rowAt (i : Fin 72) (r : Fin 1024) : Fin 73728 := ⟨i.val * 1024 + r.val, by omega⟩
/-- Hidden feature `f` of step `j`'s block. -/
def featAt (j : Fin 7) (f : Fin 512) : Fin 3584 := ⟨j.val * 512 + f.val, by omega⟩

/-- The weights of the rows as the kernel's call finds them: the vector as a column. -/
theorem V_weights : V m c main_v0 = broadcastInDim S73728x1 ![0] bcast_S73728_S73728x1_0 (m (c.tc.loc main_arg3)) := by
  unfold V hostOps0
  after_results

/-- The input weights as the call finds them: cast, the leading one dropped. -/
theorem V_w_in : V m c main_v2 = (truncf .bf16 (shapeCast S8x1024x7168 (m (c.tc.loc main_arg4) : FVec Ideal S1x8x1024x7168 .f32) shapeCasts_S1x8x1024x7168_S8x1024x7168 : FVec Ideal S8x1024x7168 .f32) bitsLt_bf16_f32 : FVec Ideal S8x1024x7168 .bf16) := by
  unfold V hostOps0
  after_results
  rfl

/-- The output weights as the call finds them. -/
theorem V_w_out : V m c main_v4 = (truncf .bf16 (shapeCast S8x3584x1024 (m (c.tc.loc main_arg5) : FVec Ideal S1x8x3584x1024 .f32) shapeCasts_S1x8x3584x1024_S8x3584x1024 : FVec Ideal S8x3584x1024 .f32) bitsLt_bf16_f32 : FVec Ideal S8x3584x1024 .bf16) := by
  unfold V hostOps0
  after_results
  rfl

theorem w_in_read (e : Fin 8) (k : Fin 1024) (g : Fin 7168) :
    (V m c main_v2 : FVec Ideal S8x1024x7168 .bf16) (ix3 e k g) = (m (c.tc.loc main_arg4) : FVec Ideal S1x8x1024x7168 .f32) (ix4 (0 : Fin 1) e k g) := by
  rw [V_w_in]
  exact shapeCast_apply _ shapeCasts_S1x8x1024x7168_S8x1024x7168 (ix3 e k g) (ix4 (0 : Fin 1) e k g)
    (by rewrite [Shape.rowMajor_val_four, Shape.rowMajor_val_three]; show ((0 * 8 + e.val) * 1024 + k.val) * 7168 + g.val = (e.val * 1024 + k.val) * 7168 + g.val; omega)

theorem w_out_read (e : Fin 8) (f : Fin 3584) (d : Fin 1024) :
    (V m c main_v4 : FVec Ideal S8x3584x1024 .bf16) (ix3 e f d) = (m (c.tc.loc main_arg5) : FVec Ideal S1x8x3584x1024 .f32) (ix4 (0 : Fin 1) e f d) := by
  rw [V_w_out]
  exact shapeCast_apply _ shapeCasts_S1x8x3584x1024_S8x3584x1024 (ix3 e f d) (ix4 (0 : Fin 1) e f d)
    (by rewrite [Shape.rowMajor_val_four, Shape.rowMajor_val_three]; show ((0 * 8 + e.val) * 3584 + f.val) * 1024 + d.val = (e.val * 3584 + f.val) * 1024 + d.val; omega)

theorem weights_read (R : Fin 73728) : (V m c main_v0 : FVec Ideal S73728x1 .f32) (ix2 R (0 : Fin 1)) = (m (c.tc.loc main_arg3) : FVec Ideal S73728 .f32) (ix1 R) := by
  rw [V_weights]
  exact broadcastInDim_apply _ bcast_S73728_S73728x1_0 _ (ix2 R (0 : Fin 1)) (ix1 R) (fun a => match a with
    | ⟨0, _⟩ => by show R.val = if (73728 : Nat) = 1 then 0 else R.val; rw [if_neg (by decide)])

/-- A coordinate of the grid as a word and back. -/
theorem word_of {n : ℕ} (h : n < 2 ^ 32) : (BitVec.ofNat 32 n).toNat = n := by
  rw [BitVec.toNat_ofNat]; exact Nat.mod_eq_of_lt h

theorem tile_word (t : Fin grid0.N) : (BitVec.ofNat 32 (grid0.coords t 0).val).toNat = t.val / 7 := by
  have : t.val < 504 := lt_of_lt_of_eq t.isLt N_0
  rw [coords_tile, word_of (by omega)]

theorem step_word (t : Fin grid0.N) : (BitVec.ofNat 32 (grid0.coords t 1).val).toNat = t.val % 7 := by
  rw [coords_step, word_of (by omega)]

theorem step_word7 (t : Fin grid0.N) : (Scalar.addi (BitVec.ofNat 32 (grid0.coords t 1).val) 7#32).toNat = t.val % 7 + 7 := by
  show (BitVec.ofNat 32 (grid0.coords t 1).val + 7#32).toNat = _
  rw [BitVec.toNat_add, step_word]; show (t.val % 7 + 7) % 2 ^ 32 = _; omega

/-- A one-word read of a table at the tile of grid point `t`. -/
theorem table_at (x : S72.Idx → BitVec 32) (t : Fin grid0.N) :
    x ((Rect.unit (s := S72) (k0_off1 (grid0.coords t)) S1.size (k0_off1_inb (grid0.coords t))).emb (Shape.Idx.first (numel1_S1.symm ▸ Nat.one_pos)))
      = x (ix1 (tileAt t)) := by
  congr 1
  funext a
  match a with
  | ⟨0, _⟩ =>
    apply Fin.ext
    show (BitVec.ofNat 32 (grid0.coords t 0).val).toNat + 1 * 0 = t.val / 7
    rw [tile_word]; omega

/-- The expert word an index map reads at grid point `t`. -/
theorem expert_word (h : ∀ i, ((m (c.tc.loc main_arg0) : IVec S72 32) i).toNat < 8) (t : Fin grid0.N) :
    BitVec.toNat (w := 32) (tbl m 0 ((Rect.unit (s := S72) (k0_off1 (grid0.coords t)) S1.size (k0_off1_inb (grid0.coords t))).emb (Shape.Idx.first (numel1_S1.symm ▸ Nat.one_pos)))) * 1 + 1 * 0
      = (expertOf (m (c.tc.loc main_arg0)) (tileAt t) h).val := by
  rw [table_at (tbl m 0) t, ← V_pre m c 0]
  rw [show V m c (pre0.ref 0) = m (c.tc.loc main_arg0) from V_main_arg0 m c, Nat.mul_one, Nat.mul_zero, Nat.add_zero]
  rfl

/-- The body's test of a word is whether it is not zero. -/
theorem word_test (x : BitVec 32) : IntOp.cmpi .ne (BitVec.setWidth 32 (IntOp.cmpi .ne x 0#32)) 0#32 = 1#1 ↔ x ≠ 0#32 := by
  by_cases hx : x = 0#32
  · subst hx; simp [IntOp.cmpi]
  · have hb : (x != 0#32) = true := bne_iff_ne.mpr hx
    simp [IntOp.cmpi, hb, hx]

/-- The body works at grid point `t` exactly when the second table's word of its tile is not zero. -/
theorem live_iff (t : Fin (cfgM m hO).N) : live m hO c t ↔ (m (c.tc.loc main_arg1) : IVec S72 32) (ix1 (tileAt t)) ≠ 0#32 := by
  have e : liveWord (F := Ideal) c (grid0.coords t) (tbl m 1) = (m (c.tc.loc main_arg1) : IVec S72 32) (ix1 (tileAt t)) := by
    refine Eq.trans ?_ (table_at (m (c.tc.loc main_arg1) : IVec S72 32) t)
    rw [← V_main_arg1 m c]
    exact congrFun (V_pre m c 1).symm _
  unfold live
  rw [e]
  unfold cond0_1
  exact word_test _

/-- The rows' block at grid point `t`. -/
theorem rows_block (t : Fin grid0.N) (r k : Fin 1024) :
    (iblk m hO c 0 t : Vec Ideal S1024x1024 .f32) (ix2 r k) = (m (c.tc.loc main_arg2) : FVec Ideal S73728x1024 .f32) (ix2 (rowAt (tileAt t) r) k) := by
  refine Eq.trans ?_ (congrFun (V_main_arg2 m c) _)
  unfold iblk
  refine (View.read_apply ..).trans ?_
  show V m c main_arg2 _ = V m c main_arg2 _
  congr 1
  funext a
  apply Fin.ext
  match a with
  | ⟨0, _⟩ => show (BitVec.ofNat 32 (grid0.coords t 0).val).toNat * 1024 + 1 * r.val = t.val / 7 * 1024 + r.val; rw [tile_word]; omega
  | ⟨1, _⟩ => show 0 * 1024 + 1 * k.val = k.val; omega

/-- The rows' weights at grid point `t`. -/
theorem weights_block (t : Fin grid0.N) (r : Fin 1024) :
    (iblk m hO c 1 t : Vec Ideal S1024x1 .f32) (ix2 r (0 : Fin 1)) = (m (c.tc.loc main_arg3) : FVec Ideal S73728 .f32) (ix1 (rowAt (tileAt t) r)) := by
  refine Eq.trans ?_ (weights_read m c _)
  unfold iblk
  refine (View.read_apply ..).trans ?_
  show V m c main_v0 _ = V m c main_v0 _
  congr 1
  funext a
  apply Fin.ext
  match a with
  | ⟨0, _⟩ => show (BitVec.ofNat 32 (grid0.coords t 0).val).toNat * 1024 + 1 * r.val = t.val / 7 * 1024 + r.val; rw [tile_word]; omega
  | ⟨1, _⟩ => show 0 * 1 + 1 * 0 = 0; omega

/-- The gate's weight block at grid point `t`. -/
theorem gate_block (h : ∀ i, ((m (c.tc.loc main_arg0) : IVec S72 32) i).toNat < 8) (t : Fin grid0.N) (k : Fin 1024) (f : Fin 512) :
    (iblk m hO c 2 t : Vec Ideal S1x1024x512 .bf16) (ix3 (0 : Fin 1) k f)
      = (m (c.tc.loc main_arg4) : FVec Ideal S1x8x1024x7168 .f32) (ix4 (0 : Fin 1) (expertOf (m (c.tc.loc main_arg0)) (tileAt t) h) k (gateCol (featAt (stepAt t) f))) := by
  refine Eq.trans ?_ (w_in_read m c _ _ _)
  unfold iblk
  refine (View.read_apply ..).trans ?_
  show V m c main_v2 _ = V m c main_v2 _
  congr 1
  funext a
  apply Fin.ext
  match a with
  | ⟨0, _⟩ =>
    exact expert_word m c h t
  | ⟨1, _⟩ => show 0 * 1024 + 1 * k.val = k.val; omega
  | ⟨2, _⟩ => show (BitVec.ofNat 32 (grid0.coords t 1).val).toNat * 512 + 1 * f.val = t.val % 7 * 512 + f.val; rw [step_word]; omega

/-- The other factor's weight block at grid point `t`. -/
theorem up_block (h : ∀ i, ((m (c.tc.loc main_arg0) : IVec S72 32) i).toNat < 8) (t : Fin grid0.N) (k : Fin 1024) (f : Fin 512) :
    (iblk m hO c 3 t : Vec Ideal S1x1024x512 .bf16) (ix3 (0 : Fin 1) k f)
      = (m (c.tc.loc main_arg4) : FVec Ideal S1x8x1024x7168 .f32) (ix4 (0 : Fin 1) (expertOf (m (c.tc.loc main_arg0)) (tileAt t) h) k (upCol (featAt (stepAt t) f))) := by
  refine Eq.trans ?_ (w_in_read m c _ _ _)
  unfold iblk
  refine (View.read_apply ..).trans ?_
  show V m c main_v2 _ = V m c main_v2 _
  congr 1
  funext a
  apply Fin.ext
  match a with
  | ⟨0, _⟩ => exact expert_word m c h t
  | ⟨1, _⟩ => show 0 * 1024 + 1 * k.val = k.val; omega
  | ⟨2, _⟩ =>
    show (Scalar.addi (BitVec.ofNat 32 (grid0.coords t 1).val) 7#32).toNat * 512 + 1 * f.val = 3584 + (t.val % 7 * 512 + f.val)
    rw [step_word7]; omega

/-- The output weight block at grid point `t`. -/
theorem out_block (h : ∀ i, ((m (c.tc.loc main_arg0) : IVec S72 32) i).toNat < 8) (t : Fin grid0.N) (f : Fin 512) (d : Fin 1024) :
    (iblk m hO c 4 t : Vec Ideal S1x512x1024 .bf16) (ix3 (0 : Fin 1) f d)
      = (m (c.tc.loc main_arg5) : FVec Ideal S1x8x3584x1024 .f32) (ix4 (0 : Fin 1) (expertOf (m (c.tc.loc main_arg0)) (tileAt t) h) (featAt (stepAt t) f) d) := by
  refine Eq.trans ?_ (w_out_read m c _ _ _)
  unfold iblk
  refine (View.read_apply ..).trans ?_
  show V m c main_v4 _ = V m c main_v4 _
  congr 1
  funext a
  apply Fin.ext
  match a with
  | ⟨0, _⟩ => exact expert_word m c h t
  | ⟨1, _⟩ => show (BitVec.ofNat 32 (grid0.coords t 1).val).toNat * 512 + 1 * f.val = t.val % 7 * 512 + f.val; rw [step_word]; omega
  | ⟨2, _⟩ => show 0 * 1024 + 1 * d.val = d.val; omega

end Cert.Experts
end
-- ==== Proof.ExpertsValue.lean ====
/- The experts' kernel over the extended reals: a tile's seven steps add up the seven blocks of hidden features, and
   the result array holds each row's weight times its expert's output. -/
module

public import proofs.«01_k».proof.Proof.ExpertsBlocks
public import Idealize.ShloMosaic.Lib.IdealHost
public import Idealize.ShloMosaic.Lib.MatmulPlain

@[expose] public section

set_option maxRecDepth 16384

noncomputable section

open scoped BigOperators

namespace Cert.Experts

open Idealize.ShloMosaic Idealize.ShloMosaic.TcCoe Idealize.ShloMosaic.ValueIdx Idealize.SL.Sem
open Cert.KernelIdeal Cert.KernelIdeal.Gen

/-- The zero block at an index. -/
theorem pay1_apply (j : S1024x1024.Idx) : k0_pay1 (F := Ideal) j = (0 : EReal) := by
  unfold k0_pay1
  rw [shapeCast_self]
  exact Ideal.ofBits_zero_f32

/-- The cast copy of the rows is the rows. -/
theorem pay2_eq (x : Vec Ideal S1024x1024 .f32) : k0_pay2 x = x := by
  unfold k0_pay2
  exact shapeCast_self (s := S1024x1024) (α := EReal) x _

/-- The last step's store at an index: the accumulator times the row's weight. -/
theorem pay4_apply (a : Vec Ideal S1024x1024 .f32) (s : Vec Ideal S1024x1 .f32) (r d : Fin 1024) :
    k0_pay4 a s (ix2 r d) = a (ix2 r d) * s (ix2 r (0 : Fin 1)) := by
  unfold k0_pay4
  rw [shapeCast_self]
  show a (ix2 r d) * _ = _
  congr 1
  exact broadcastTo_apply s broadcasts_S1024x1_S1024x1024 (ix2 r d) (ix2 r (0 : Fin 1)) (fun a => match a with
    | ⟨0, _⟩ => by show r.val = if (1024 : Nat) = 1 then 0 else r.val; rw [if_neg (by decide)]
    | ⟨1, _⟩ => by show 0 = if (1 : Nat) = 1 then 0 else d.val; rw [if_pos rfl])

/-- A product of a `1024 × K` block by a `K × N` one into zero, at an index. -/
theorem product_apply {M K N : ℕ} (x : FVec Ideal ⟨2, ![M, K]⟩ .bf16) (w : FVec Ideal ⟨2, ![K, N]⟩ .bf16) (r : Fin M) (f : Fin N) :
    FloatOps.matmul (DotDims.plain M K N) none x w (constant ⟨2, ![M, N]⟩ .f32 0x00000000#32) (ix2 r f)
      = ∑ k : Fin K, x (ix2 r k) * w (ix2 k f) := by
  rw [Ideal.matmul_plain_apply]
  show Ideal.ofBits .f32 0x00000000#32 + _ = _
  rw [Ideal.ofBits_zero_f32, zero_add]

/-- A block of the first product, at an index, as a sum over the block's own entries. -/
def blockLift (x : Vec Ideal S1024x1024 .bf16) (w : Vec Ideal S1x1024x512 .bf16) (r : Fin 1024) (f : Fin 512) : EReal :=
  ∑ k : Fin 1024, (x (ix2 r k) : EReal) * w (ix3 (0 : Fin 1) k f)

theorem lift_block (x : FVec Ideal S1024x1024 .bf16) (w : FVec Ideal S1x1024x512 .bf16) (r : Fin 1024) (f : Fin 512) :
    (matmul dot_S1024x1024_S1024x512_S1024x512_1_0_0_1_n_n none x (shapeCast S1024x512 w shapeCasts_S1x1024x512_S1024x512 : FVec Ideal S1024x512 .bf16)
      (constant S1024x512 .f32 0x00000000#32) : FVec Ideal S1024x512 .f32) (ix2 r f) = blockLift x w r f := by
  refine (product_apply (M := 1024) (K := 1024) (N := 512) x _ r f).trans ?_
  refine Finset.sum_congr rfl fun k _ => congrArg (x (ix2 r k) * ·) ?_
  exact shapeCast_apply _ shapeCasts_S1x1024x512_S1024x512 (ix2 k f) (ix3 (0 : Fin 1) k f)
    (by rewrite [Shape.rowMajor_val_three, Shape.rowMajor_val_two]; show (0 * 1024 + k.val) * 512 + f.val = k.val * 512 + f.val; omega)

/-- A step's store at an index: the accumulator plus the block's features times their output weights. -/
theorem pay3_apply (x : FVec Ideal S1024x1024 .bf16) (g u : FVec Ideal S1x1024x512 .bf16) (acc : FVec Ideal S1024x1024 .f32)
    (o : FVec Ideal S1x512x1024 .bf16) (r d : Fin 1024) :
    k0_pay3 x g u acc o (ix2 r d)
      = acc (ix2 r d) + ∑ f : Fin 512, blockLift x g r f * Ideal.logistic (blockLift x g r f) * blockLift x u r f * o (ix3 (0 : Fin 1) f d) := by
  unfold k0_pay3
  rw [shapeCast_self]
  refine congrArg (acc (ix2 r d) + ·) ?_
  refine (product_apply (M := 1024) (K := 512) (N := 1024) _ _ r d).trans ?_
  refine Finset.sum_congr rfl fun f _ => ?_
  rw [← lift_block x g r f, ← lift_block x u r f]
  have ho : (shapeCast S512x1024 o shapeCasts_S1x512x1024_S512x1024 : FVec Ideal S512x1024 .bf16) (ix2 f d) = o (ix3 (0 : Fin 1) f d) :=
    shapeCast_apply _ shapeCasts_S1x512x1024_S512x1024 (ix2 f d) (ix3 (0 : Fin 1) f d)
      (by rewrite [Shape.rowMajor_val_three, Shape.rowMajor_val_two]; show (0 * 512 + f.val) * 1024 + d.val = f.val * 1024 + d.val; omega)
  refine congrArg₂ (· * ·) ?_ ho
  generalize (matmul dot_S1024x1024_S1024x512_S1024x512_1_0_0_1_n_n none x (shapeCast S1024x512 g shapeCasts_S1x1024x512_S1024x512 : FVec Ideal S1024x512 .bf16)
      (constant S1024x512 .f32 0x00000000#32) : FVec Ideal S1024x512 .f32) = G
  show G (ix2 r f) * Ideal.div (Ideal.ofBits .f32 0x3F800000#32) (Ideal.ofBits .f32 0x3F800000#32 + Ideal.exp (Ideal.ofBits .f32 0x00000000#32 - G (ix2 r f))) * _ = _
  unfold Ideal.logistic
  rw [Ideal.ofBits_one_f32, Ideal.ofBits_zero_f32, zero_sub]

/-! ## A tile's steps -/

variable (m : (ℓ : Loc nD τ sig) → Buf (Elt Ideal) ℓ) (hO : Ok m) (c : Dev nD)
  (h : ∀ i, ((m (c.tc.loc main_arg0) : IVec S72 32) i).toNat < 8)

/-- The rows of tile `i`. -/
def tileRows (i : Fin 72) : FVec Ideal S1024x1024 .bf16 :=
  fun y => (m (c.tc.loc main_arg2) : FVec Ideal S73728x1024 .f32) (ix2 (rowAt i (y 0)) (y 1))

/-- Hidden feature `f`'s part of the output of row `r` of tile `i`, feature `d`, in terms of the arguments. -/
abbrev tilePart (i : Fin 72) (r d : Fin 1024) (f : Fin 3584) : EReal :=
  part (m (c.tc.loc main_arg2)) (m (c.tc.loc main_arg4)) (m (c.tc.loc main_arg5)) (rowAt i r) (expertOf (m (c.tc.loc main_arg0)) i h) d f

/-- What one step of tile `i` adds, by the step's number. -/
def stepSum (i : Fin 72) (r d : Fin 1024) (j : ℕ) : EReal :=
  if hj : j < 7 then ∑ f : Fin 512, tilePart m c h i r d (featAt ⟨j, hj⟩ f) else 0

theorem rows_eq (t : Fin (cfgM m hO).N) : k0_pay2 (iblk m hO c 0 t) = tileRows m c (tileAt t) := by
  refine (pay2_eq _).trans (funext fun (y : S1024x1024.Idx) => ?_)
  obtain ⟨r, k, rfl⟩ : ∃ r k : Fin 1024, y = ix2 r k := ⟨y 0, y 1, eq_ix2 y⟩
  exact rows_block m hO c t r k

theorem gate_lift (t : Fin (cfgM m hO).N) (r : Fin 1024) (f : Fin 512) :
    blockLift (tileRows m c (tileAt t)) (iblk m hO c 2 t) r f
      = lift (m (c.tc.loc main_arg2)) (m (c.tc.loc main_arg4)) (rowAt (tileAt t) r) (expertOf (m (c.tc.loc main_arg0)) (tileAt t) h) (gateCol (featAt (stepAt t) f)) :=
  Finset.sum_congr rfl fun k _ => congrArg (_ * ·) (gate_block m hO c h t k f)

theorem up_lift (t : Fin (cfgM m hO).N) (r : Fin 1024) (f : Fin 512) :
    blockLift (tileRows m c (tileAt t)) (iblk m hO c 3 t) r f
      = lift (m (c.tc.loc main_arg2)) (m (c.tc.loc main_arg4)) (rowAt (tileAt t) r) (expertOf (m (c.tc.loc main_arg0)) (tileAt t) h) (upCol (featAt (stepAt t) f)) :=
  Finset.sum_congr rfl fun k _ => congrArg (_ * ·) (up_block m hO c h t k f)

/-- A live step adds its step's sum to the accumulator it finds. -/
theorem step_apply (t : Fin (cfgM m hO).N) (acc : FVec Ideal S1024x1024 .f32) (r d : Fin 1024) :
    k0_pay3 (tileRows m c (tileAt t)) (iblk m hO c 2 t) (iblk m hO c 3 t) acc (iblk m hO c 4 t) (ix2 r d)
      = acc (ix2 r d) + stepSum m c h (tileAt t) r d (t.val % 7) := by
  refine (pay3_apply _ _ _ _ _ r d).trans (congrArg (acc (ix2 r d) + ·) ?_)
  unfold stepSum
  rw [dif_pos (Nat.mod_lt _ (by decide))]
  refine Finset.sum_congr rfl fun f _ => ?_
  rw [gate_lift m hO c h, up_lift m hO c h]
  exact congrArg (fun z : EReal => _ * z) (out_block m hO c h t f d)

/-- Whether tile `i` has rows to work on. -/
abbrev busy (i : Fin 72) : Prop := (m (c.tc.loc main_arg1) : IVec S72 32) (ix1 i) ≠ 0#32

/-- After point `n`: the cast copy is the tile's rows, and the accumulator is the sum of the tile's steps so far. -/
theorem state_at : ∀ (n : ℕ) (hn : n < (cfgM m hO).N),
    (outsAt0 m hO c n hn).2.2 = tileRows m c (tileAt ⟨n, hn⟩)
    ∧ ∀ r d : Fin 1024, (outsAt0 m hO c n hn).2.1 (ix2 r d)
        = if busy m c (tileAt ⟨n, hn⟩) then ∑ j ∈ Finset.range (n % 7 + 1), stepSum m c h (tileAt ⟨n, hn⟩) r d j else 0
  | n, hn => by
    by_cases h0 : n % 7 = 0
    · refine ⟨(first_cast m hO c ⟨n, hn⟩ h0).trans (rows_eq ..), fun r d => ?_⟩
      by_cases hl : live m hO c ⟨n, hn⟩
      · rw [if_pos ((live_iff m hO c _).mp hl)]
        have e := first_live m hO c ⟨n, hn⟩ h0 hl
        rw [rows_eq] at e
        rw [congrFun e (ix2 r d), step_apply m hO c h, pay1_apply, zero_add]
        show stepSum m c h _ r d (n % 7) = _
        rw [h0, Finset.sum_range_one]
      · rw [if_neg (fun hb => hl ((live_iff m hO c _).mpr hb))]
        rw [congrFun (first_idle m hO c ⟨n, hn⟩ h0 hl) (ix2 r d), pay1_apply]
    · have hp : n - 1 < (cfgM m hO).N := Nat.lt_of_le_of_lt (Nat.sub_le _ _) hn
      have ht : tileAt ⟨n - 1, hp⟩ = tileAt ⟨n, hn⟩ := Fin.ext (by show (n - 1) / 7 = n / 7; omega)
      obtain ⟨i1, i2⟩ := state_at (n - 1) hp
      rw [ht] at i1 i2
      refine ⟨(later_cast m hO c ⟨n, hn⟩ h0).trans i1, fun r d => ?_⟩
      by_cases hl : live m hO c ⟨n, hn⟩
      · have hb := (live_iff m hO c _).mp hl
        have e := later_live m hO c ⟨n, hn⟩ h0 hl
        rw [show (prev m hO c ⟨n, hn⟩).2.2 = _ from i1] at e
        rw [if_pos hb, congrFun e (ix2 r d), step_apply m hO c h, Finset.sum_range_succ]
        refine congrArg (· + _) ((i2 r d).trans ?_)
        rw [if_pos hb, show (n - 1) % 7 + 1 = n % 7 by omega]
      · have hb : ¬busy m c (tileAt ⟨n, hn⟩) := fun hb => hl ((live_iff m hO c _).mpr hb)
        rw [if_neg hb, congrFun (later_idle m hO c ⟨n, hn⟩ h0 hl) (ix2 r d)]
        exact (i2 r d).trans (if_neg hb)
  termination_by n => n
  decreasing_by omega

/-- The seven steps' sums are the sum over all hidden features. -/
theorem steps_sum (i : Fin 72) (r d : Fin 1024) :
    ∑ j ∈ Finset.range 7, stepSum m c h i r d j
      = expert (m (c.tc.loc main_arg2)) (m (c.tc.loc main_arg4)) (m (c.tc.loc main_arg5)) (rowAt i r) (expertOf (m (c.tc.loc main_arg0)) i h) d := by
  rw [Finset.sum_range]
  unfold expert
  rw [← Equiv.sum_comp (finProdFinEquiv (m := 7) (n := 512)), Fintype.sum_prod_type]
  refine Finset.sum_congr rfl fun j _ => ?_
  unfold stepSum
  rw [dif_pos j.isLt]
  refine Finset.sum_congr rfl fun f _ => ?_
  refine congrArg (tilePart m c h i r d) (Fin.ext ?_)
  show j.val * 512 + f.val = f.val + 512 * j.val
  omega

/-! ## The result array -/

/-- The result array, entry by entry. -/
def resultArr : FVec Ideal S73728x1024 .f32 := fun y =>
  result (m (c.tc.loc main_arg0)) (m (c.tc.loc main_arg1)) h (m (c.tc.loc main_arg2)) (m (c.tc.loc main_arg3)) (m (c.tc.loc main_arg4)) (m (c.tc.loc main_arg5))
    (y 0) (y 1)

/-- What a tile's last point leaves in the output's buffer, at an index. -/
theorem last_apply (t : Fin (cfgM m hO).N) (h6 : t.val % 7 = 6) (r d : Fin 1024) :
    (outsAt0 m hO c t.val t.isLt).1 (ix2 r d) = resultArr m c h (ix2 (rowAt (tileAt t) r) d) := by
  obtain ⟨-, i2⟩ := state_at m hO c h t.val t.isLt
  rw [congrFun (last_point m hO c t h6) (ix2 r d)]
  refine (pay4_apply _ _ r d).trans ?_
  rw [i2 r d, h6, steps_sum]
  have ht : tileOf (rowAt (tileAt t) r) = tileAt t := Fin.ext (by
    show ((tileAt t).val * 1024 + r.val) / 1024 = (tileAt t).val; omega)
  unfold resultArr result
  show _ = (if (m (c.tc.loc main_arg1) : IVec S72 32) (ix1 (tileOf (rowAt (tileAt t) r))) ≠ 0#32 then _ else _) * _
  refine congrArg₂ (· * ·) ?_ (weights_block m hO c t r)
  show _ = if (m (c.tc.loc main_arg1) : IVec S72 32) (ix1 (tileOf (rowAt (tileAt t) r))) ≠ 0#32 then
    expert (m (c.tc.loc main_arg2)) (m (c.tc.loc main_arg4)) (m (c.tc.loc main_arg5)) (rowAt (tileAt t) r)
      (expertOf (m (c.tc.loc main_arg0)) (tileOf (rowAt (tileAt t) r)) h) d else 0
  rw [ht]

/-- What a tile's last point writes back is the result's block. -/
theorem flushed_eq (t : Fin (cfgM m hO).N) (hf : ((cfgM m hO).win 5).flush t = true) :
    (dats m hO 0 c).flushed 5 t = (((cfgM m hO).win 5).blk t).view.read (Elt Ideal) (resultArr m c h) := by
  have h6 : t.val % 7 = 6 := (flush0_5 _ t).mp hf
  refine funext fun (y : S1024x1024.Idx) => ?_
  refine Eq.trans ?_ (View.read_apply ..).symm
  refine Eq.trans (b := (outsAt0 m hO c t.val t.isLt).1 y) (congrFun (after0_5 m hO c t) y) ?_
  obtain ⟨r, d, rfl⟩ : ∃ r d : Fin 1024, y = ix2 r d := ⟨y 0, y 1, eq_ix2 y⟩
  refine (last_apply m hO c h t h6 r d).trans ?_
  show resultArr m c h _ = resultArr m c h _
  congr 1
  funext a
  apply Fin.ext
  match a with
  | ⟨0, _⟩ => show t.val / 7 * 1024 + r.val = (BitVec.ofNat 32 (grid0.coords t 0).val).toNat * 1024 + 1 * r.val; rw [tile_word]; omega
  | ⟨1, _⟩ => show d.val = 0 * 1024 + 1 * d.val; omega

/-- Every index of the array is in the block some tile's last point writes back. -/
theorem covered (y : S73728x1024.Idx) :
    ∃ t : Fin (cfgM m hO).N, ((cfgM m hO).win 5).flush t = true ∧ y ∈ (((cfgM m hO).win 5).blk t).view.set := by
  have h0 : (y 0 : Nat) < 73728 := (y 0).isLt
  have h1 : (y 1 : Nat) < 1024 := (y 1).isLt
  have hN : (cfgM m hO).N = 504 := N_0
  let t : Fin (cfgM m hO).N := ⟨(y 0).val / 1024 * 7 + 6, by omega⟩
  have hc : (BitVec.ofNat 32 (grid0.coords t 0).val).toNat = (y 0).val / 1024 := by
    rw [tile_word]; show ((y 0).val / 1024 * 7 + 6) / 7 = _; omega
  refine ⟨t, (flush0_5 _ t).mpr (by show ((y 0).val / 1024 * 7 + 6) % 7 = 6; omega), ?_⟩
  refine (iff_of_eq (congrArg (fun S => y ∈ S) (View.set_slice_whole main_v5 (((cfgM m hO).win 5).rect t)))).mpr ?_
  refine Rect.mem_set_unit.mpr fun a => ?_
  match a with
  | ⟨0, _⟩ =>
    show (BitVec.ofNat 32 (grid0.coords t 0).val).toNat * 1024 ≤ (y 0).val ∧ (y 0).val < (BitVec.ofNat 32 (grid0.coords t 0).val).toNat * 1024 + 1024
    rw [hc]; omega
  | ⟨1, _⟩ => show 0 * 1024 ≤ (y 1).val ∧ (y 1).val < 0 * 1024 + 1024; omega

/-- The tiles' blocks cover the array, so the array ends holding the result. -/
theorem final_arr : (dats m hO 0 c).arrAt 5 (cfgM m hO).N = resultArr m c h :=
  (dats m hO 0 c).arrAt_eq_of_cover 5 (resultArr m c h) (flushed_eq m hO c h) (covered m hO)

/-- The run read: the result array at its closed form, the arguments unchanged. -/
theorem kernel_run (hO : Ok m) (ρ : Dev nD → PrngReg) (h : ∀ (c : Dev nD) i, ((m (c.tc.loc main_arg0) : IVec S72 32) i).toNat < 8) :
    θ_run defs (onTc (τ := τ) (main (F := Ideal))) ⟨m, fun _ => 0, ρ⟩ fun r => ∀ c : Dev nD,
      r.2.mem ((c.tc : Thread nD τ).loc main_v5) = resultArr m c (h c) :=
  (θ_run defs _ _).mono (fun _ hr c => ((hr c).1 5).trans (final_arr m hO c (h c))) (run_main m ρ hO)

end Cert.Experts
end
-- ==== Proof.ExpertsClaim.lean ====
/- The experts' claims: the runs leave the arguments, and the kernel's result is the reference's. -/
module

public import proofs.«01_k».proof.Defs
public import proofs.«01_k».proof.Proof.ExpertsOk
public import proofs.«01_k».proof.Proof.ExpertsRef
public import proofs.«01_k».proof.Proof.ExpertsValue
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read

@[expose] public section

set_option maxRecDepth 16384

noncomputable section

namespace Cert.Experts

open Idealize.ShloMosaic Idealize.ShloMosaic.TcCoe Idealize.ShloMosaic.ValueIdx Idealize.SL.Sem

/-- The kernel runs and leaves its arguments. -/
theorem frame_kernel : Cert.quiescent_Kernel := fun m ρ h => Cert.Kernel.Gen.frame m ρ (ok_of_pre m h)

/-- The ideal kernel runs and leaves its arguments. -/
theorem frame_ideal : Cert.quiescent_KernelIdeal := fun m ρ h => Cert.KernelIdeal.Gen.frame m ρ (ok_of_pre_ideal m h)

/-- The reference runs and leaves its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference runs and leaves its arguments, from the precondition too. -/
theorem frame_reference_pre : Cert.quiescent_ReferenceIdeal_pre_experts_in_range := fun m ρ _ => frame_reference m ρ trivial

/-- The reference's array is the kernel's result, from the kernel's memory. -/
theorem ref_eq (m : (ℓ : Loc Cert.KernelIdeal.nD Cert.KernelIdeal.τ Cert.KernelIdeal.sig) → Buf (Elt Ideal) ℓ)
    (c : Dev Cert.KernelIdeal.nD) (h : ∀ i, ((m (c.tc.loc Cert.KernelIdeal.main_arg0) : IVec Cert.KernelIdeal.S72 32) i).toNat < 8) :
    Cert.ReferenceIdeal.Read.val_main_v125 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) = resultArr m c h := by
  refine funext fun (y : Cert.KernelIdeal.S73728x1024.Idx) => ?_
  obtain ⟨r, d, rfl⟩ : ∃ (r : Fin 73728) (d : Fin 1024), y = ix2 r d := ⟨y 0, y 1, eq_ix2 y⟩
  exact ref_apply _ _ h _ _ _ _ r d

/-- Where the precondition holds, the expert indices are below eight on every device. -/
theorem words_of_pre (m : (ℓ : Loc Cert.KernelIdeal.nD Cert.KernelIdeal.τ Cert.KernelIdeal.sig) → Buf (Elt Ideal) ℓ) (hp : Cert.Pre_KernelIdeal m)
    (c : Dev Cert.KernelIdeal.nD) (i : Cert.KernelIdeal.S72.Idx) : ((m (c.tc.loc Cert.KernelIdeal.main_arg0) : IVec Cert.KernelIdeal.S72 32) i).toNat < 8 :=
  word_lt _ _ _ _ _ _ (hp c) i

/-- From memories that agree on the arguments the reference's array is the same. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' (c.tc.loc Cert.ReferenceIdeal.main_arg0) = m (c.tc.loc Cert.KernelIdeal.main_arg0)
      ∧ m' (c.tc.loc Cert.ReferenceIdeal.main_arg1) = m (c.tc.loc Cert.KernelIdeal.main_arg1)
      ∧ m' (c.tc.loc Cert.ReferenceIdeal.main_arg2) = m (c.tc.loc Cert.KernelIdeal.main_arg2)
      ∧ m' (c.tc.loc Cert.ReferenceIdeal.main_arg3) = m (c.tc.loc Cert.KernelIdeal.main_arg3)
      ∧ m' (c.tc.loc Cert.ReferenceIdeal.main_arg4) = m (c.tc.loc Cert.KernelIdeal.main_arg4)
      ∧ m' (c.tc.loc Cert.ReferenceIdeal.main_arg5) = m (c.tc.loc Cert.KernelIdeal.main_arg5)) :
    Cert.ReferenceIdeal.Read.val_main_v125 (F := Ideal) (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3)) (m' (c.tc.loc Cert.ReferenceIdeal.main_arg4))
      (m' (c.tc.loc Cert.ReferenceIdeal.main_arg5))
    = Cert.ReferenceIdeal.Read.val_main_v125 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) := by
  obtain ⟨e0, e1, e2, e3, e4, e5⟩ := h
  congr 1

/-- The experts' kernel and their plain definition end with the same array. -/
theorem same : Cert.algebraic_KernelIdeal_ReferenceIdeal := by
  intro m ρ m' ρ' hp hag
  refine ⟨fun c => resultArr m c (words_of_pre m hp c), ?_, ?_⟩
  · exact (θ_run Cert.KernelIdeal.defs _ _).mono (fun r h c => ⟨h.1 c, h.2 c⟩)
      (θ_run_and (kernel_run m (ok_of_pre_ideal m hp) ρ (words_of_pre m hp)) (Cert.KernelIdeal.Gen.unchanged m ρ (ok_of_pre_ideal m hp)))
  · refine (θ_run Cert.ReferenceIdeal.defs _ _).mono (fun r h c => ⟨(h c).1.trans ?_, (h c).2⟩)
      (Cert.ReferenceIdeal.Value.run (F := Ideal) m' ρ')
    exact (Cert.ReferenceIdeal.Read.val_main_v125_eq (F := Ideal) (StableHlo.launchContents m' c)).trans
      ((args_eq m m' c (hag c)).trans (ref_eq m c (words_of_pre m hp c)))

end Cert.Experts

end
-- ==== Proof.Norm.lean ====
/- The root-mean-square normalisation of a row over the extended reals. -/
module

public import Idealize.ShloMosaic.Lib.Pointwise

@[expose] public section

noncomputable section

open scoped BigOperators

namespace Cert.Norm

open Idealize.ShloMosaic

/-- Feature `k` of the row `x` over the root of its mean square, times the weight `g`. -/
def rms (x g : Fin 1024 → EReal) (k : Fin 1024) : EReal :=
  x k * Ideal.rsqrt (Ideal.div (∑ j, x j * x j) (Ideal.ofBits .f32 0x44800000#32) + Ideal.ofBits .f32 0x358637BD#32) * g k

theorem zero2 : (![0, 0] : Fin 2 → Nat) = fun _ => 0 := funext fun a => by fin_cases a <;> rfl

/-- A coordinate of the grid as a word and back. -/
theorem word_of {n : ℕ} (h : n < 2 ^ 32) : (BitVec.ofNat 32 n).toNat = n := by
  rw [BitVec.toNat_ofNat]; exact Nat.mod_eq_of_lt h

/-- An index of rank two by its coordinates. -/
theorem idx2 {a b : ℕ} (y : (⟨2, ![a, b]⟩ : Shape).Idx) : ∃ (r : Fin a) (k : Fin b), y = ix2 r k :=
  ⟨y 0, y 1, funext fun i => match i with
    | ⟨0, _⟩ => rfl
    | ⟨1, _⟩ => rfl⟩

end Cert.Norm
-- ==== Proof.InProj.lean ====
/- The projection kernel over the extended reals: each block of rows is normalised once, kept, and multiplied by the
   three blocks of columns of the reordered weight. -/
module

public import proofs.«01_k».proof.Proof.Norm
public import proofs.«01_k».proof.Proof.Gen.Kernel2Ideal.Value

@[expose] public section

set_option maxRecDepth 16384

noncomputable section

open scoped BigOperators

namespace Cert.InProj

open Idealize.ShloMosaic Idealize.ShloMosaic.TcCoe Idealize.SL.Sem Idealize.ShloMosaic.StableHlo
open Cert.Kernel2Ideal Cert.Kernel2Ideal.Gen Cert.Norm

section cases

variable {F : FTy → Type} [FloatOps F] (c : Dev nD) (i : grid0.Coords)
  (a2 : Memref sig .tc .vmem S1024x1024 .f32) (h2 : a2.IsWhole) (a3 : Memref sig .tc .vmem S1x1024 .f32) (h3 : a3.IsWhole)
  (a4 : Memref sig .tc .vmem S1024x2944 .bf16) (h4 : a4.IsWhole) (a5 : Memref sig .tc .vmem S1024x2944 .f32) (h5 : a5.IsWhole)
  (a6 : Memref sig .tc .vmem S1024x1024 .bf16) (h6 : a6.IsWhole)
  (x0 : Vec F S1024x1024 .f32) (x1 : Vec F S1x1024 .f32) (x2 : Vec F S1024x2944 .bf16) (xs0 : Vec F S1024x1024 .bf16)

/-- The first block of columns: the rows are normalised and kept. -/
theorem kept_A (hc : cond0_0 i) : sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero zero2]
  simp only [View.readAt_eq_ld, h2.read_unread, h3.read_unread, View.ld_unit_zero (S := S1024x1024) zero2, View.ld_unit_zero (S := S1x1024) zero2]

/-- The first block of columns: the product of the normalised rows. -/
theorem out_A (hc : cond0_0 i) : out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero zero2]
  simp only [View.readCov_unit_zero (S := S1024x1024) _ zero2, View.readAt_eq_ld, h2.read_unread, h3.read_unread, h4.read_unread,
    View.ld_unit_zero (S := S1024x1024) zero2, View.ld_unit_zero (S := S1x1024) zero2, View.ld_unit_zero (S := S1024x2944) zero2]

/-- A later block of columns: the product of the kept rows. -/
theorem out_B (hc : ¬cond0_0 i) : out0_B_3 c i a2 h2 a3 h3 a4 h4 a5 h5 a6 h6 hc x0 x1 x2 xs0 = k0_pay2 xs0 x2 := by
  unfold out0_B_3
  rw [View.read_writes_eq_canon _ _ _ (cover0_B_3 c i a2 h2 a3 h3 a4 h4 a5 h5 a6 h6 hc x0 x1 x2 xs0)]
  unfold kernelRun0_B
  dsimp only
  sl_unfold_words
  rw [View.canon_unit_zero zero2]
  simp only [View.readAt_eq_ld, h4.read_unread, h6.read_unread,
    View.ld_unit_zero (S := S1024x1024) zero2, View.ld_unit_zero (S := S1024x2944) zero2]

end cases

/-- The normalised block at an index. -/
theorem pay1_apply (x : Vec Ideal S1024x1024 .f32) (g : Vec Ideal S1x1024 .f32) (r k : Fin 1024) :
    k0_pay1 x g (ix2 r k) = rms (fun j => x (ix2 r j)) (fun j => g (ix2 (0 : Fin 1) j)) k := by
  unfold rms
  pointwise [k0_pay1]

/-- The product at an index. -/
theorem pay2_apply (u : Vec Ideal S1024x1024 .bf16) (w : Vec Ideal S1024x2944 .bf16) (r : Fin 1024) (q : Fin 2944) :
    k0_pay2 u w (ix2 r q) = ∑ k : Fin 1024, u (ix2 r k) * w (ix2 k q) := by
  pointwise [k0_pay2]

variable (m : (ℓ : Loc nD τ sig) → Buf (Elt Ideal) ℓ) (c : Dev nD)

theorem coords_row (t : Fin grid0.N) : (grid0.coords t 0).val = t.val / 3 := by
  revert t; decide +kernel
theorem coords_col (t : Fin grid0.N) : (grid0.coords t 1).val = t.val % 3 := by
  revert t; decide +kernel
theorem row_word (t : Fin grid0.N) : (BitVec.ofNat 32 (grid0.coords t 0).val).toNat = t.val / 3 := by
  have : t.val < 96 := lt_of_lt_of_eq t.isLt N_0
  rw [coords_row, word_of (by omega)]
theorem col_word (t : Fin grid0.N) : (BitVec.ofNat 32 (grid0.coords t 1).val).toNat = t.val % 3 := by
  rw [coords_col, word_of (by omega)]

/-- Row `r` of the block of rows at grid point `t`. -/
def rowAt (t : Fin grid0.N) (r : Fin 1024) : Fin 32768 := ⟨t.val / 3 * 1024 + r.val, by have : t.val < 96 := lt_of_lt_of_eq t.isLt N_0; omega⟩
/-- Column `q` of the block of columns at grid point `t`. -/
def colAt (t : Fin grid0.N) (q : Fin 2944) : Fin 8832 := ⟨t.val % 3 * 2944 + q.val, by omega⟩

/-- The rows, the norm's weight and the projection's weight as launched. -/
abbrev rows (R : Fin 32768) (k : Fin 1024) : EReal := (m (c.tc.loc main_arg0) : FVec Ideal S32768x1024 .f32) (ix2 R k)
abbrev gain (k : Fin 1024) : EReal := (m (c.tc.loc main_arg1) : FVec Ideal S1024 .f32) (ix1 k)
abbrev weight (k : Fin 1024) (j : Fin 8720) : EReal := (m (c.tc.loc main_arg2) : FVec Ideal S1024x8720 .f32) (ix2 k j)

/-- Column `q` of five pieces side by side: the last 3072 columns, the first 4096, the 1536 after the next sixteen,
    those sixteen, and 112 zeros. -/
def regroup (f : Fin 8720 → EReal) (q : Fin 8832) : EReal :=
  if h : q.val < 3072 then f ⟨5648 + q.val, by omega⟩
  else if h : q.val - 3072 < 4096 then f ⟨q.val - 3072, by omega⟩
  else if h : q.val - 3072 - 4096 < 1536 then f ⟨4112 + (q.val - 3072 - 4096), by omega⟩
  else if h : q.val - 3072 - 4096 - 1536 < 16 then f ⟨4096 + (q.val - 3072 - 4096 - 1536), by omega⟩
  else 0

/-- A column of the product: the normalised row times that column. -/
def column (R : Fin 32768) (j : Fin 8720) : EReal := ∑ k : Fin 1024, rms (rows m c R) (gain m c) k * weight m c k j

/-- The result array. -/
def resultArr : FVec Ideal S32768x8832 .f32 := fun y => regroup (column m c (y 0)) (y 1)

theorem V_gain : V m c main_v0 = broadcastInDim S1x1024 ![1] bcast_S1024_S1x1024_1 (m (c.tc.loc main_arg1)) := by
  unfold V hostOps0
  after_results

theorem gain_read (k : Fin 1024) : (V m c main_v0 : FVec Ideal S1x1024 .f32) (ix2 (0 : Fin 1) k) = gain m c k := by
  rw [V_gain]
  pointwise

/-- The projection's weight as the kernel's call finds it: its columns regrouped, then cast. -/
theorem V_weight_eq : V m c main_v7
    = (truncf .bf16 (concatenate S1024x8832 1
        [⟨S1024x3072, extractStridedSlice S1024x3072 ![0, 5648] (m (c.tc.loc main_arg2) : FVec Ideal S1024x8720 .f32) slices_S1024x8720_S1024x3072_0_5648⟩,
         ⟨S1024x4096, extractStridedSlice S1024x4096 ![0, 0] (m (c.tc.loc main_arg2) : FVec Ideal S1024x8720 .f32) slices_S1024x8720_S1024x4096_0_0⟩,
         ⟨S1024x1536, extractStridedSlice S1024x1536 ![0, 4112] (m (c.tc.loc main_arg2) : FVec Ideal S1024x8720 .f32) slices_S1024x8720_S1024x1536_0_4112⟩,
         ⟨S1024x16, extractStridedSlice S1024x16 ![0, 4096] (m (c.tc.loc main_arg2) : FVec Ideal S1024x8720 .f32) slices_S1024x8720_S1024x16_0_4096⟩,
         ⟨S1024x112, broadcastInDim S1024x112 ![] bcast_S_S1024x112 (constant (F := Ideal) S_ .f32 0x00000000#32)⟩]
        concatenates_S1024x3072_S1024x4096_S1024x1536_S1024x16_S1024x112_S1024x8832_d1 : FVec Ideal S1024x8832 .f32) bitsLt_bf16_f32
      : FVec Ideal S1024x8832 .bf16) := by
  unfold V hostOps0
  after_results
  rfl

theorem V_weight (k : Fin 1024) (q : Fin 8832) : (V m c main_v7 : FVec Ideal S1024x8832 .bf16) (ix2 k q) = regroup (weight m c k) q := by
  rw [V_weight_eq]
  unfold regroup
  pointwise

/-- The rows' block at grid point `t`. -/
theorem rows_block (t : Fin grid0.N) (r k : Fin 1024) :
    (iblk m c 0 t : Vec Ideal S1024x1024 .f32) (ix2 r k) = rows m c (rowAt t r) k := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show (BitVec.ofNat 32 (grid0.coords t 0).val).toNat * 1024 + 1 * r.val = t.val / 3 * 1024 + r.val; rw [row_word]; omega
  | ⟨1, _⟩ => show 0 * 1024 + 1 * k.val = k.val; omega

/-- The norm's weight at every grid point. -/
theorem gain_block (t : Fin grid0.N) (k : Fin 1024) :
    (iblk m c 1 t : Vec Ideal S1x1024 .f32) (ix2 (0 : Fin 1) k) = gain m c k := by
  refine Eq.trans ?_ (gain_read m c k)
  unfold iblk
  refine (View.read_apply ..).trans ?_
  show V m c main_v0 _ = V m c main_v0 _
  congr 1
  funext a
  apply Fin.ext
  match a with
  | ⟨0, _⟩ => show 0 * 1 + 1 * 0 = 0; omega
  | ⟨1, _⟩ => show 0 * 1024 + 1 * k.val = k.val; omega

/-- The block of columns at grid point `t`. -/
theorem weight_block (t : Fin grid0.N) (k : Fin 1024) (q : Fin 2944) :
    (iblk m c 2 t : Vec Ideal S1024x2944 .bf16) (ix2 k q) = regroup (weight m c k) (colAt t q) := by
  refine Eq.trans ?_ (V_weight m c k _)
  unfold iblk
  refine (View.read_apply ..).trans ?_
  show V m c main_v7 _ = V m c main_v7 _
  congr 1
  funext a
  apply Fin.ext
  match a with
  | ⟨0, _⟩ => show 0 * 1024 + 1 * k.val = k.val; omega
  | ⟨1, _⟩ => show (BitVec.ofNat 32 (grid0.coords t 1).val).toNat * 2944 + 1 * q.val = t.val % 3 * 2944 + q.val; rw [col_word]; omega

theorem pair_fst {A B : Type} {p : A × B} {a : A} {b : B} (e : p = (a, b)) : p.1 = a := by rw [e]
theorem pair_snd {A B : Type} {p : A × B} {a : A} {b : B} (e : p = (a, b)) : p.2 = b := by rw [e]

/-- After every point the kept rows are the point's rows normalised. -/
theorem kept_at (n : ℕ) : ∀ (hn : n < cfg0.N) (r k : Fin 1024),
    (outsAt0 m c n hn).2 (ix2 r k) = rms (rows m c (rowAt ⟨n, hn⟩ r)) (gain m c) k := by
  induction n with
  | zero =>
    intro hn r k
    rw [pair_snd (outsAt0_A m c ⟨0, hn⟩ rfl), kept_A, pay1_apply]
    simp only [rows_block, gain_block]
  | succ n ih =>
    intro hn r k
    by_cases h0 : (n + 1) % 3 = 0
    · rw [pair_snd (outsAt0_A m c ⟨n + 1, hn⟩ h0), kept_A, pay1_apply]
      simp only [rows_block, gain_block]
    · rw [pair_snd (outsAt0_B m c ⟨n + 1, hn⟩ h0)]
      unfold sout0_B_0
      refine (ih (Nat.lt_of_succ_lt hn) r k).trans ?_
      have e : rowAt ⟨n, Nat.lt_of_succ_lt hn⟩ r = rowAt ⟨n + 1, hn⟩ r := by
        apply Fin.ext
        show n / 3 * 1024 + r.val = (n + 1) / 3 * 1024 + r.val
        omega
      rw [e]

/-- What every point leaves in its block of the result. -/
theorem out_at (t : Fin cfg0.N) : (outsAt0 m c t.val t.isLt).1 = k0_pay2 (outsAt0 m c t.val t.isLt).2 (iblk m c 2 t) := by
  by_cases h0 : t.val % 3 = 0
  · rw [outsAt0_A m c t h0]
    dsimp only
    rw [out_A, kept_A]
  · rw [outsAt0_B m c t h0]
    dsimp only
    rw [out_B]
    unfold sout0_B_0
    rfl

/-- Regrouping the columns and multiplying by a row exchange. -/
theorem regroup_sum (u : Fin 1024 → EReal) (w : Fin 1024 → Fin 8720 → EReal) (q : Fin 8832) :
    ∑ k, u k * regroup (w k) q = regroup (fun j => ∑ k, u k * w k j) q := by
  unfold regroup
  split_ifs <;> simp

theorem block_at (t : Fin cfg0.N) (r : Fin 1024) (q : Fin 2944) :
    (outsAt0 m c t.val t.isLt).1 (ix2 r q) = regroup (column m c (rowAt t r)) (colAt t q) := by
  rw [out_at, pay2_apply]
  unfold column
  rw [← regroup_sum]
  refine Finset.sum_congr rfl fun k _ => ?_
  rw [kept_at m c t.val t.isLt r k, weight_block]

/-- The array after the run. -/
theorem final_eq : Value.G3 m c = resultArr m c := by
  refine funext fun (y : S32768x8832.Idx) => ?_
  obtain ⟨R, q, rfl⟩ := idx2 y
  have hp : 3 * (R.val / 1024 - 0) + 1 * (q.val / 2944 - 0) < cfg0.N := lt_of_lt_of_eq (by omega) N_0.symm
  have e : Value.G3 m c (ix2 R q) = (outsAt0 m c (3 * (R.val / 1024 - 0) + 1 * (q.val / 2944 - 0)) hp).1
      (ix2 (⟨R.val % 1024, by omega⟩ : Fin 1024) (⟨q.val % 2944, by omega⟩ : Fin 2944)) := by
    unfold Value.G3
    rw [dif_pos (show Value.pt3Of (ix2 R q) < cfg0.N from hp), Value.outsAt0_sweep]
    rw [show Value.loc3Of (ix2 R q) = ix2 (⟨R.val % 1024, by omega⟩ : Fin 1024) (⟨q.val % 2944, by omega⟩ : Fin 2944) from
      funext fun a => match a with
        | ⟨0, _⟩ => rfl
        | ⟨1, _⟩ => rfl]
    rfl
  rw [e]
  refine (block_at m c ⟨_, hp⟩ _ _).trans ?_
  have e0 : rowAt ⟨3 * (R.val / 1024 - 0) + 1 * (q.val / 2944 - 0), hp⟩ ⟨R.val % 1024, by omega⟩ = R := by
    apply Fin.ext
    show (3 * (R.val / 1024 - 0) + 1 * (q.val / 2944 - 0)) / 3 * 1024 + R.val % 1024 = R.val
    omega
  have e1 : colAt ⟨3 * (R.val / 1024 - 0) + 1 * (q.val / 2944 - 0), hp⟩ ⟨q.val % 2944, by omega⟩ = q := by
    apply Fin.ext
    show (3 * (R.val / 1024 - 0) + 1 * (q.val / 2944 - 0)) % 3 * 2944 + q.val % 2944 = q.val
    omega
  rw [e0, e1]
  rfl

end Cert.InProj

end
-- ==== Proof.InProjClaim.lean ====
/- The projection's claims: its plain definition at an index, and the kernel's result beside it. -/
module

public import proofs.«01_k».proof.Proof.InProj
public import proofs.«01_k».proof.Proof.Gen.Kernel2.Frame
public import proofs.«01_k».proof.Proof.Gen.Reference2Ideal.Run
public import proofs.«01_k».proof.Proof.Gen.Reference2Ideal.Read
public import proofs.«01_k».proof.Defs

@[expose] public section

set_option maxRecDepth 16384

noncomputable section

open scoped BigOperators

namespace Cert.InProj

open Idealize.ShloMosaic Idealize.ShloMosaic.TcCoe Idealize.SL.Sem
open Cert.Norm

section reference

open Cert.Reference2Ideal Cert.Reference2Ideal.Read

variable (x : FVec Ideal S32768x1024 .f32) (g : FVec Ideal S1024 .f32) (w : FVec Ideal S1024x8720 .f32)

/-- The reference's normalised rows at an index. -/
theorem ref_norm (R : Fin 32768) (k : Fin 1024) :
    val_main_v12 (F := Ideal) x g (ix2 R k) = rms (fun j => x (ix2 R j)) (fun j => g (ix1 j)) k := by
  unfold rms
  pointwise [val_main_v12, val_main_v11, val_main_v10, val_main_v9, val_main_v8, val_main_v7, val_main_v6, val_main_v5, val_main_cst_1,
    val_main_v4, val_main_v3, val_main_cst_0, val_main_v2, val_main_v1, val_main_v0, val_main_cst]

/-- The reference's product at an index. -/
theorem ref_column (R : Fin 32768) (j : Fin 8720) :
    val_main_v13 (F := Ideal) x g w (ix2 R j) = ∑ k : Fin 1024, rms (fun j => x (ix2 R j)) (fun j => g (ix1 j)) k * w (ix2 k j) := by
  unfold val_main_v13
  refine Eq.trans ?_ (Finset.sum_congr rfl fun k _ => by rw [← ref_norm])
  generalize val_main_v12 (F := Ideal) x g = u
  pointwise

/-- The reference's result at an index. -/
theorem ref_apply (R : Fin 32768) (q : Fin 8832) :
    val_main_v19 (F := Ideal) x g w (ix2 R q)
      = regroup (fun j => ∑ k : Fin 1024, rms (fun j => x (ix2 R j)) (fun j => g (ix1 j)) k * w (ix2 k j)) q := by
  simp only [← ref_column]
  unfold val_main_v19 val_main_v14 val_main_v15 val_main_v16 val_main_v17 val_main_v18 val_main_cst_2 regroup
  generalize val_main_v13 (F := Ideal) x g w = u
  pointwise

end reference

/-- The kernel runs and leaves its arguments. -/
theorem frame_kernel : Cert.quiescent_Kernel2 := fun m ρ _ => Cert.Kernel2.Gen.frame m ρ

/-- The ideal kernel runs and leaves its arguments. -/
theorem frame_ideal : Cert.quiescent_Kernel2Ideal := fun m ρ _ => Cert.Kernel2Ideal.Gen.frame m ρ

/-- The reference runs and leaves its arguments. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's array is the kernel's result, from the kernel's memory. -/
theorem ref_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v19 (F := Ideal) (m (c.tc.loc Cert.Kernel2Ideal.main_arg0)) (m (c.tc.loc Cert.Kernel2Ideal.main_arg1))
      (m (c.tc.loc Cert.Kernel2Ideal.main_arg2)) = resultArr m c := by
  refine funext fun (y : Cert.Kernel2Ideal.S32768x8832.Idx) => ?_
  obtain ⟨R, q, rfl⟩ := idx2 y
  exact ref_apply _ _ _ R q

/-- From memories that agree on the arguments the reference's array is the same. -/
theorem args_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' (c.tc.loc Cert.Reference2Ideal.main_arg0) = m (c.tc.loc Cert.Kernel2Ideal.main_arg0)
      ∧ m' (c.tc.loc Cert.Reference2Ideal.main_arg1) = m (c.tc.loc Cert.Kernel2Ideal.main_arg1)
      ∧ m' (c.tc.loc Cert.Reference2Ideal.main_arg2) = m (c.tc.loc Cert.Kernel2Ideal.main_arg2)) :
    Cert.Reference2Ideal.Read.val_main_v19 (F := Ideal) (m' (c.tc.loc Cert.Reference2Ideal.main_arg0)) (m' (c.tc.loc Cert.Reference2Ideal.main_arg1))
      (m' (c.tc.loc Cert.Reference2Ideal.main_arg2))
    = Cert.Reference2Ideal.Read.val_main_v19 (F := Ideal) (m (c.tc.loc Cert.Kernel2Ideal.main_arg0)) (m (c.tc.loc Cert.Kernel2Ideal.main_arg1))
      (m (c.tc.loc Cert.Kernel2Ideal.main_arg2)) := by
  obtain ⟨e0, e1, e2⟩ := h
  congr 1

/-- The projection kernel and its plain definition end with the same array. -/
theorem same : Cert.algebraic_Kernel2Ideal_Reference2Ideal := by
  intro m ρ m' ρ' _ hag
  refine ⟨fun c => resultArr m c, ?_, ?_⟩
  · exact (θ_run Cert.Kernel2Ideal.defs _ _).mono (fun r h c => ⟨(h c).1.trans (final_eq m c), (h c).2⟩)
      (Cert.Kernel2Ideal.Value.run m ρ)
  · refine (θ_run Cert.Reference2Ideal.defs _ _).mono (fun r h c => ⟨(h c).1.trans ?_, (h c).2⟩)
      (Cert.Reference2Ideal.Value.run (F := Ideal) m' ρ')
    exact (Cert.Reference2Ideal.Read.val_main_v19_eq (F := Ideal) m' c).trans
      ((args_eq m m' c (hag c)).trans (ref_eq m c))

end Cert.InProj

end
-- ==== Proof.Ffn.lean ====
/- The dense layer's kernel over the extended reals: a block of rows is normalised once, and its two steps add up the two
   halves of the hidden features. -/
module

public import proofs.«01_k».proof.Proof.Norm
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Defs
public import Idealize.ShloMosaic.Lib.IdealHost

@[expose] public section

set_option maxRecDepth 16384

noncomputable section

open scoped BigOperators

namespace Cert.Ffn

open Idealize.ShloMosaic Idealize.ShloMosaic.TcCoe Idealize.SL.Sem Idealize.ShloMosaic.StableHlo
open Cert.Norm

section cases

open Cert.Kernel3Ideal Cert.Kernel3Ideal.Gen

variable {F : FTy → Type} [FloatOps F] (c : Dev nD) (i : grid0.Coords)
  (a2 : Memref sig .tc .vmem S512x1024 .f32) (h2 : a2.IsWhole) (a3 : Memref sig .tc .vmem S1x1024 .f32) (h3 : a3.IsWhole)
  (a4 : Memref sig .tc .vmem S1024x1408 .bf16) (h4 : a4.IsWhole) (a5 : Memref sig .tc .vmem S1024x1408 .bf16) (h5 : a5.IsWhole)
  (a6 : Memref sig .tc .vmem S1408x1024 .bf16) (h6 : a6.IsWhole) (a7 : Memref sig .tc .vmem S512x1024 .f32) (h7 : a7.IsWhole)
  (a8 : Memref sig .tc .vmem S512x1024 .bf16) (h8 : a8.IsWhole) (a9 : Memref sig .tc .vmem S512x1024 .f32) (h9 : a9.IsWhole)
  (x0 : Vec F S512x1024 .f32) (x1 : Vec F S1x1024 .f32) (x2 x3 : Vec F S1024x1408 .bf16) (x4 : Vec F S1408x1024 .bf16)
  (xs0 : Vec F S512x1024 .bf16) (xs1 : Vec F S512x1024 .f32)

/-- The first half: the rows are normalised and kept. -/
theorem kept_A (hc0 : cond0_0 i) (hc1 : ¬cond0_1 i) :
    sout0_A_0 c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero zero2]
  simp only [View.readAt_eq_ld, h2.read_unread, h3.read_unread, View.ld_unit_zero (S := S512x1024) zero2, View.ld_unit_zero (S := S1x1024) zero2]

/-- The first half: the accumulator is its product added to zero. -/
theorem acc_A (hc0 : cond0_0 i) (hc1 : ¬cond0_1 i) :
    sout0_A_1 c i a2 h2 a3 h3 a4 h4 a5 h5 a6 h6 a7 h7 a8 h8 a9 h9 hc0 hc1 x0 x1 x2 x3 x4 = k0_pay3 (k0_pay1 x0 x1) x2 x3 k0_pay2 x4 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S512x1024) zero2]
  simp only [View.readCov_unit_zero (S := S512x1024) _ zero2, View.readAt_eq_ld, h2.read_unread, h3.read_unread, h4.read_unread, h5.read_unread,
    h6.read_unread, View.ld_unit_zero (S := S512x1024) zero2, View.ld_unit_zero (S := S1x1024) zero2,
    View.ld_unit_zero (S := S1024x1408) zero2, View.ld_unit_zero (S := S1408x1024) zero2]

/-- The second half: the rows plus the accumulator with the half's product added. -/
theorem out_B (hc0 : ¬cond0_0 i) (hc1 : cond0_1 i) :
    out0_B_5 c i a2 h2 a3 h3 a4 h4 a5 h5 a6 h6 a7 h7 a8 h8 a9 h9 hc0 hc1 x0 x1 x2 x3 x4 xs0 xs1 = k0_pay4 x0 (k0_pay3 xs0 x2 x3 xs1 x4) := by
  unfold out0_B_5
  rw [View.read_writes_eq_canon _ _ _ (cover0_B_5 c i a2 h2 a3 h3 a4 h4 a5 h5 a6 h6 a7 h7 a8 h8 a9 h9 hc0 hc1 x0 x1 x2 x3 x4 xs0 xs1)]
  unfold kernelRun0_B
  dsimp only
  sl_unfold_words
  rw [View.canon_unit_zero zero2]
  simp only [View.readCov_unit_zero (S := S512x1024) _ zero2, View.readAt_eq_ld, h2.read_unread, h4.read_unread, h5.read_unread,
    h6.read_unread, h8.read_unread, h9.read_unread, View.ld_unit_zero (S := S512x1024) zero2,
    View.ld_unit_zero (S := S1024x1408) zero2, View.ld_unit_zero (S := S1408x1024) zero2]

end cases

/-- A hidden feature from its two columns: `silu(a) * b`. -/
def gated (a b : EReal) : EReal := a * Ideal.logistic a * b

section kernel

open Cert.Kernel3Ideal Cert.Kernel3Ideal.Gen

/-- The normalised block at an index. -/
theorem pay1_apply (x : Vec Ideal S512x1024 .f32) (g : Vec Ideal S1x1024 .f32) (r : Fin 512) (k : Fin 1024) :
    k0_pay1 x g (ix2 r k) = rms (fun j => x (ix2 r j)) (fun j => g (ix2 (0 : Fin 1) j)) k := by
  unfold rms
  pointwise [k0_pay1]

/-- The zero block at an index. -/
theorem pay2_apply (r : Fin 512) (d : Fin 1024) : k0_pay2 (F := Ideal) (ix2 r d) = 0 := by
  pointwise [k0_pay2]

/-- A half's product added to the accumulator, at an index. -/
theorem pay3_apply (u : Vec Ideal S512x1024 .bf16) (a b : Vec Ideal S1024x1408 .bf16) (acc : Vec Ideal S512x1024 .f32)
    (o : Vec Ideal S1408x1024 .bf16) (r : Fin 512) (d : Fin 1024) :
    k0_pay3 u a b acc o (ix2 r d) = acc (ix2 r d)
      + ∑ f : Fin 1408, gated (∑ k : Fin 1024, u (ix2 r k) * a (ix2 k f)) (∑ k : Fin 1024, u (ix2 r k) * b (ix2 k f)) * o (ix2 f d) := by
  unfold gated Ideal.logistic
  pointwise [k0_pay3]
  simp only [zero_sub]

/-- The last sum at an index. -/
theorem pay4_apply (x acc : Vec Ideal S512x1024 .f32) (r : Fin 512) (d : Fin 1024) :
    k0_pay4 x acc (ix2 r d) = x (ix2 r d) + acc (ix2 r d) := by
  pointwise [k0_pay4]

variable (m : (ℓ : Loc nD τ sig) → Buf (Elt Ideal) ℓ) (c : Dev nD)

theorem coords_row (t : Fin grid0.N) : (grid0.coords t 0).val = t.val / 2 := by
  revert t; decide +kernel
theorem coords_half (t : Fin grid0.N) : (grid0.coords t 1).val = t.val % 2 := by
  revert t; decide +kernel
theorem row_word (t : Fin grid0.N) : (BitVec.ofNat 32 (grid0.coords t 0).val).toNat = t.val / 2 := by
  have : t.val < 128 := lt_of_lt_of_eq t.isLt N_0
  rw [coords_row, word_of (by omega)]
theorem half_word (t : Fin grid0.N) : (BitVec.ofNat 32 (grid0.coords t 1).val).toNat = t.val % 2 := by
  rw [coords_half, word_of (by omega)]
theorem upper_word (t : Fin grid0.N) : (Scalar.addi (BitVec.ofNat 32 (grid0.coords t 1).val) 2#32).toNat = t.val % 2 + 2 := by
  revert t; decide +kernel

/-- Row `r` of the block of rows at grid point `t`. -/
def rowAt (t : Fin grid0.N) (r : Fin 512) : Fin 32768 := ⟨t.val / 2 * 512 + r.val, by have : t.val < 128 := lt_of_lt_of_eq t.isLt N_0; omega⟩

/-- The hidden feature `f` of the half at grid point `t`. -/
def featAt (t : Fin grid0.N) (f : Fin 1408) : Fin 2816 := ⟨t.val % 2 * 1408 + f.val, by omega⟩

/-- The two columns of the first product that hidden feature `f` is made of. -/
def lower (f : Fin 2816) : Fin 5632 := ⟨f.val, by omega⟩
def upper (f : Fin 2816) : Fin 5632 := ⟨2816 + f.val, by omega⟩

/-- The rows, the norm's weight and the two products' weights as launched. -/
abbrev rows (R : Fin 32768) (k : Fin 1024) : EReal := (m (c.tc.loc main_arg0) : FVec Ideal S32768x1024 .f32) (ix2 R k)
abbrev gain (k : Fin 1024) : EReal := (m (c.tc.loc main_arg1) : FVec Ideal S1024 .f32) (ix1 k)
abbrev win (k : Fin 1024) (j : Fin 5632) : EReal := (m (c.tc.loc main_arg2) : FVec Ideal S1x1024x5632 .f32) (ix3 (0 : Fin 1) k j)
abbrev wout (f : Fin 2816) (d : Fin 1024) : EReal := (m (c.tc.loc main_arg3) : FVec Ideal S1x2816x1024 .f32) (ix3 (0 : Fin 1) f d)

/-- A column of the first product: the normalised row times that column. -/
def column (R : Fin 32768) (j : Fin 5632) : EReal := ∑ k : Fin 1024, rms (rows m c R) (gain m c) k * win m c k j

/-- What hidden feature `f` adds to output feature `d`. -/
def term (R : Fin 32768) (d : Fin 1024) (f : Fin 2816) : EReal :=
  gated (column m c R (lower f)) (column m c R (upper f)) * wout m c f d

/-- The result array. -/
def resultArr : FVec Ideal S32768x1024 .f32 := fun y => rows m c (y 0) (y 1) + ∑ f : Fin 2816, term m c (y 0) (y 1) f

theorem V_gain : V m c main_v0 = broadcastInDim S1x1024 ![1] bcast_S1024_S1x1024_1 (m (c.tc.loc main_arg1)) := by
  unfold V hostOps0
  after_results

theorem gain_read (k : Fin 1024) : (V m c main_v0 : FVec Ideal S1x1024 .f32) (ix2 (0 : Fin 1) k) = gain m c k := by
  rw [V_gain]
  pointwise

theorem V_win : V m c main_v2
    = (truncf .bf16 (shapeCast S1024x5632 (m (c.tc.loc main_arg2) : FVec Ideal S1x1024x5632 .f32) shapeCasts_S1x1024x5632_S1024x5632
        : FVec Ideal S1024x5632 .f32) bitsLt_bf16_f32 : FVec Ideal S1024x5632 .bf16) := by
  unfold V hostOps0
  after_results
  rfl

theorem win_read (k : Fin 1024) (j : Fin 5632) : (V m c main_v2 : FVec Ideal S1024x5632 .bf16) (ix2 k j) = win m c k j := by
  rw [V_win]
  exact shapeCast_apply _ shapeCasts_S1x1024x5632_S1024x5632 (ix2 k j) (ix3 (0 : Fin 1) k j)
    (by rewrite [Shape.rowMajor_val_three, Shape.rowMajor_val_two]; show (0 * 1024 + k.val) * 5632 + j.val = k.val * 5632 + j.val; omega)

theorem V_wout : V m c main_v4
    = (truncf .bf16 (shapeCast S2816x1024 (m (c.tc.loc main_arg3) : FVec Ideal S1x2816x1024 .f32) shapeCasts_S1x2816x1024_S2816x1024
        : FVec Ideal S2816x1024 .f32) bitsLt_bf16_f32 : FVec Ideal S2816x1024 .bf16) := by
  unfold V hostOps0
  after_results
  rfl

theorem wout_read (f : Fin 2816) (d : Fin 1024) : (V m c main_v4 : FVec Ideal S2816x1024 .bf16) (ix2 f d) = wout m c f d := by
  rw [V_wout]
  exact shapeCast_apply _ shapeCasts_S1x2816x1024_S2816x1024 (ix2 f d) (ix3 (0 : Fin 1) f d)
    (by rewrite [Shape.rowMajor_val_three, Shape.rowMajor_val_two]; show (0 * 2816 + f.val) * 1024 + d.val = f.val * 1024 + d.val; omega)

/-- The rows' block at grid point `t`. -/
theorem rows_block (t : Fin grid0.N) (r : Fin 512) (k : Fin 1024) :
    (iblk m c 0 t : Vec Ideal S512x1024 .f32) (ix2 r k) = rows m c (rowAt t r) k := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show (BitVec.ofNat 32 (grid0.coords t 0).val).toNat * 512 + 1 * r.val = t.val / 2 * 512 + r.val; rw [row_word]; omega
  | ⟨1, _⟩ => show 0 * 1024 + 1 * k.val = k.val; omega

/-- The norm's weight at every grid point. -/
theorem gain_block (t : Fin grid0.N) (k : Fin 1024) :
    (iblk m c 1 t : Vec Ideal S1x1024 .f32) (ix2 (0 : Fin 1) k) = gain m c k := by
  refine Eq.trans ?_ (gain_read m c k)
  unfold iblk
  refine (View.read_apply ..).trans ?_
  show V m c main_v0 _ = V m c main_v0 _
  congr 1
  funext a
  apply Fin.ext
  match a with
  | ⟨0, _⟩ => show 0 * 1 + 1 * 0 = 0; omega
  | ⟨1, _⟩ => show 0 * 1024 + 1 * k.val = k.val; omega

/-- The half's columns of the first product's weight, in the array's first half. -/
theorem lower_block (t : Fin grid0.N) (k : Fin 1024) (f : Fin 1408) :
    (iblk m c 2 t : Vec Ideal S1024x1408 .bf16) (ix2 k f) = win m c k (lower (featAt t f)) := by
  refine Eq.trans ?_ (win_read m c k _)
  unfold iblk
  refine (View.read_apply ..).trans ?_
  show V m c main_v2 _ = V m c main_v2 _
  congr 1
  funext a
  apply Fin.ext
  match a with
  | ⟨0, _⟩ => show 0 * 1024 + 1 * k.val = k.val; omega
  | ⟨1, _⟩ => show (BitVec.ofNat 32 (grid0.coords t 1).val).toNat * 1408 + 1 * f.val = t.val % 2 * 1408 + f.val; rw [half_word]; omega

/-- The half's columns of the first product's weight, in the array's second half. -/
theorem upper_block (t : Fin grid0.N) (k : Fin 1024) (f : Fin 1408) :
    (iblk m c 3 t : Vec Ideal S1024x1408 .bf16) (ix2 k f) = win m c k (upper (featAt t f)) := by
  refine Eq.trans ?_ (win_read m c k _)
  unfold iblk
  refine (View.read_apply ..).trans ?_
  show V m c main_v2 _ = V m c main_v2 _
  congr 1
  funext a
  apply Fin.ext
  match a with
  | ⟨0, _⟩ => show 0 * 1024 + 1 * k.val = k.val; omega
  | ⟨1, _⟩ => show (Scalar.addi (BitVec.ofNat 32 (grid0.coords t 1).val) 2#32).toNat * 1408 + 1 * f.val = 2816 + (t.val % 2 * 1408 + f.val); rw [upper_word]; omega

/-- The half's rows of the second product's weight. -/
theorem wout_block (t : Fin grid0.N) (f : Fin 1408) (d : Fin 1024) :
    (iblk m c 4 t : Vec Ideal S1408x1024 .bf16) (ix2 f d) = wout m c (featAt t f) d := by
  refine Eq.trans ?_ (wout_read m c _ d)
  unfold iblk
  refine (View.read_apply ..).trans ?_
  show V m c main_v4 _ = V m c main_v4 _
  congr 1
  funext a
  apply Fin.ext
  match a with
  | ⟨0, _⟩ => show (BitVec.ofNat 32 (grid0.coords t 1).val).toNat * 1408 + 1 * f.val = t.val % 2 * 1408 + f.val; rw [half_word]; omega
  | ⟨1, _⟩ => show 0 * 1024 + 1 * d.val = d.val; omega

theorem second {A B C : Type} {p : A × B × C} {a : A} {b : B} {x : C} (e : p = (a, b, x)) : p.2.1 = b := by rw [e]
theorem third {A B C : Type} {p : A × B × C} {a : A} {b : B} {x : C} (e : p = (a, b, x)) : p.2.2 = x := by rw [e]
theorem first {A B C : Type} {p : A × B × C} {a : A} {b : B} {x : C} (e : p = (a, b, x)) : p.1 = a := by rw [e]

/-- After a first half the kept rows are the point's rows normalised. -/
theorem kept_at (t : Fin cfg0.N) (h0 : t.val % 2 = 0) (r : Fin 512) (k : Fin 1024) :
    (outsAt0 m c t.val t.isLt).2.1 (ix2 r k) = rms (rows m c (rowAt t r)) (gain m c) k := by
  rw [second (outsAt0_A m c t h0 (by omega)), kept_A, pay1_apply]
  simp only [rows_block, gain_block]

/-- The half's product over rows that are the point's rows normalised. -/
theorem half_apply (t : Fin grid0.N) (u : Vec Ideal S512x1024 .bf16) (acc : Vec Ideal S512x1024 .f32) (r : Fin 512) (d : Fin 1024)
    (hu : ∀ k : Fin 1024, u (ix2 r k) = rms (rows m c (rowAt t r)) (gain m c) k) :
    k0_pay3 u (iblk m c 2 t) (iblk m c 3 t) acc (iblk m c 4 t) (ix2 r d)
      = acc (ix2 r d) + ∑ f : Fin 1408, term m c (rowAt t r) d (featAt t f) := by
  rw [pay3_apply]
  simp only [hu, lower_block, upper_block, wout_block]
  rfl

/-- After a first half the accumulator is that half's sum. -/
theorem acc_at (t : Fin cfg0.N) (h0 : t.val % 2 = 0) (r : Fin 512) (d : Fin 1024) :
    (outsAt0 m c t.val t.isLt).2.2 (ix2 r d) = ∑ f : Fin 1408, term m c (rowAt t r) d (featAt t f) := by
  rw [third (outsAt0_A m c t h0 (by omega)), acc_A, half_apply m c t _ _ r d, pay2_apply, zero_add]
  intro k
  rw [pay1_apply]
  simp only [rows_block, gain_block]

/-- The hidden features' sum is the sum of its two halves. -/
theorem sum_halves (g : Fin 2816 → EReal) (t s : Fin grid0.N) (ht : t.val % 2 = 0) (hs : s.val % 2 = 1) :
    (∑ f : Fin 1408, g (featAt t f)) + ∑ f : Fin 1408, g (featAt s f) = ∑ f : Fin 2816, g f := by
  refine Eq.trans ?_ (Fin.sum_univ_add (a := 1408) (b := 1408) g).symm
  refine congrArg₂ (· + ·) (Finset.sum_congr rfl fun f _ => congrArg g (Fin.ext ?_)) (Finset.sum_congr rfl fun f _ => congrArg g (Fin.ext ?_))
  · show t.val % 2 * 1408 + f.val = f.val
    omega
  · show s.val % 2 * 1408 + f.val = 1408 + f.val
    omega

/-- What a second half leaves in its block of the result. -/
theorem block_at (t : Fin cfg0.N) (h1 : t.val % 2 = 1) (r : Fin 512) (d : Fin 1024) :
    (outsAt0 m c t.val t.isLt).1 (ix2 r d) = resultArr m c (ix2 (rowAt t r) d) := by
  have hp : t.val - 1 < cfg0.N := Nat.lt_of_le_of_lt (Nat.sub_le _ _) t.isLt
  have he : rowAt ⟨t.val - 1, hp⟩ r = rowAt t r := by
    apply Fin.ext
    show (t.val - 1) / 2 * 512 + r.val = t.val / 2 * 512 + r.val
    omega
  rw [first (outsAt0_B m c t (by omega) h1), out_B, pay4_apply, half_apply m c t _ _ r d, rows_block]
  · rw [acc_at m c ⟨t.val - 1, hp⟩ (by show (t.val - 1) % 2 = 0; omega) r d, he,
      sum_halves (term m c (rowAt t r) d) ⟨t.val - 1, hp⟩ t (by show (t.val - 1) % 2 = 0; omega) h1]
    rfl
  · intro k
    refine (kept_at m c ⟨t.val - 1, hp⟩ (by show (t.val - 1) % 2 = 0; omega) r k).trans ?_
    rw [he]

/-- The array after the run. -/
theorem final_eq : Value.G5 m c = resultArr m c := by
  refine funext fun (y : S32768x1024.Idx) => ?_
  obtain ⟨R, q, rfl⟩ := idx2 y
  have hp : 2 * (1 * (R.val / 512 - 0) + 1 * (q.val / 1024 - 0)) + 1 < cfg0.N := lt_of_lt_of_eq (by omega) N_0.symm
  have e : Value.G5 m c (ix2 R q) = (outsAt0 m c (2 * (1 * (R.val / 512 - 0) + 1 * (q.val / 1024 - 0)) + 1) hp).1
      (ix2 (⟨R.val % 512, by omega⟩ : Fin 512) (⟨q.val % 1024, by omega⟩ : Fin 1024)) := by
    unfold Value.G5
    rw [dif_pos (show Value.pt5Of (ix2 R q) < cfg0.N from hp), Value.outsAt0_sweep]
    rw [show Value.loc5Of (ix2 R q) = ix2 (⟨R.val % 512, by omega⟩ : Fin 512) (⟨q.val % 1024, by omega⟩ : Fin 1024) from
      funext fun a => match a with
        | ⟨0, _⟩ => rfl
        | ⟨1, _⟩ => rfl]
    rfl
  rw [e]
  refine (block_at m c ⟨_, hp⟩ (by show (2 * (1 * (R.val / 512 - 0) + 1 * (q.val / 1024 - 0)) + 1) % 2 = 1; omega) _ _).trans ?_
  have e0 : rowAt ⟨2 * (1 * (R.val / 512 - 0) + 1 * (q.val / 1024 - 0)) + 1, hp⟩ ⟨R.val % 512, by omega⟩ = R := by
    apply Fin.ext
    show (2 * (1 * (R.val / 512 - 0) + 1 * (q.val / 1024 - 0)) + 1) / 2 * 512 + R.val % 512 = R.val
    omega
  have e1 : (⟨q.val % 1024, by omega⟩ : Fin 1024) = q := Fin.ext (Nat.mod_eq_of_lt q.isLt)
  rw [e0, e1]

end kernel

section reference

open Cert.Reference3Ideal Cert.Reference3Ideal.Read

variable (x : FVec Ideal S32768x1024 .f32) (g : FVec Ideal S1024 .f32) (w : FVec Ideal S1x1024x5632 .f32) (o : FVec Ideal S1x2816x1024 .f32)

/-- The reference's normalised rows at an index. -/
theorem ref_norm (R : Fin 32768) (k : Fin 1024) :
    val_main_v12 (F := Ideal) x g (ix2 R k) = rms (fun j => x (ix2 R j)) (fun j => g (ix1 j)) k := by
  unfold rms
  pointwise [val_main_v12, val_main_v11, val_main_v10, val_main_v9, val_main_v8, val_main_v7, val_main_v6, val_main_v5, val_main_cst_1,
    val_main_v4, val_main_v3, val_main_cst_0, val_main_v2, val_main_v1, val_main_v0, val_main_cst]

/-- The reference's first product at an index. -/
theorem ref_column (R : Fin 32768) (j : Fin 5632) :
    val_main_v15 (F := Ideal) x g w (ix2 R j)
      = ∑ k : Fin 1024, rms (fun j => x (ix2 R j)) (fun j => g (ix1 j)) k * w (ix3 (0 : Fin 1) k j) := by
  unfold val_main_v15 val_main_v13
  refine Eq.trans ?_ (Finset.sum_congr rfl fun k _ => by rw [← ref_norm])
  generalize val_main_v12 (F := Ideal) x g = u
  pointwise

/-- The reference's result at an index, over its first product. -/
theorem ref_hidden (R : Fin 32768) (d : Fin 1024) :
    val_main_v21 (F := Ideal) x g w o (ix2 R d)
      = x (ix2 R d) + ∑ f : Fin 2816, gated (val_main_v15 (F := Ideal) x g w (ix2 R (⟨f.val, by omega⟩ : Fin 5632)))
          (val_main_v15 (F := Ideal) x g w (ix2 R (⟨2816 + f.val, by omega⟩ : Fin 5632))) * o (ix3 (0 : Fin 1) f d) := by
  unfold gated Ideal.logistic
  unfold val_main_v21 val_main_v20 val_main_v14 val_main_v19 val_main_v18 val_main_call0_v5 val_main_call0_v4 val_main_call0_cst_0 val_main_call0_v3
    val_main_call0_v2 val_main_call0_cst val_main_call0_v1 val_main_call0_v0 val_main_v17 val_main_v16
  generalize val_main_v15 (F := Ideal) x g w = u
  pointwise

end reference

/-- The kernel runs and leaves its arguments. -/
theorem frame_kernel : Cert.quiescent_Kernel3 := fun m ρ _ => Cert.Kernel3.Gen.frame m ρ

/-- The ideal kernel runs and leaves its arguments. -/
theorem frame_ideal : Cert.quiescent_Kernel3Ideal := fun m ρ _ => Cert.Kernel3Ideal.Gen.frame m ρ

/-- The reference runs and leaves its arguments. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's array is the kernel's result, from the kernel's memory. -/
theorem ref_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v21 (F := Ideal) (m (c.tc.loc Cert.Kernel3Ideal.main_arg0)) (m (c.tc.loc Cert.Kernel3Ideal.main_arg1))
      (m (c.tc.loc Cert.Kernel3Ideal.main_arg2)) (m (c.tc.loc Cert.Kernel3Ideal.main_arg3)) = resultArr m c := by
  refine funext fun (y : Cert.Kernel3Ideal.S32768x1024.Idx) => ?_
  obtain ⟨R, q, rfl⟩ := idx2 y
  refine (ref_hidden _ _ _ _ R q).trans ?_
  simp only [ref_column]
  rfl

/-- From memories that agree on the arguments the reference's array is the same. -/
theorem args_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' (c.tc.loc Cert.Reference3Ideal.main_arg0) = m (c.tc.loc Cert.Kernel3Ideal.main_arg0)
      ∧ m' (c.tc.loc Cert.Reference3Ideal.main_arg1) = m (c.tc.loc Cert.Kernel3Ideal.main_arg1)
      ∧ m' (c.tc.loc Cert.Reference3Ideal.main_arg2) = m (c.tc.loc Cert.Kernel3Ideal.main_arg2)
      ∧ m' (c.tc.loc Cert.Reference3Ideal.main_arg3) = m (c.tc.loc Cert.Kernel3Ideal.main_arg3)) :
    Cert.Reference3Ideal.Read.val_main_v21 (F := Ideal) (m' (c.tc.loc Cert.Reference3Ideal.main_arg0)) (m' (c.tc.loc Cert.Reference3Ideal.main_arg1))
      (m' (c.tc.loc Cert.Reference3Ideal.main_arg2)) (m' (c.tc.loc Cert.Reference3Ideal.main_arg3))
    = Cert.Reference3Ideal.Read.val_main_v21 (F := Ideal) (m (c.tc.loc Cert.Kernel3Ideal.main_arg0)) (m (c.tc.loc Cert.Kernel3Ideal.main_arg1))
      (m (c.tc.loc Cert.Kernel3Ideal.main_arg2)) (m (c.tc.loc Cert.Kernel3Ideal.main_arg3)) := by
  obtain ⟨e0, e1, e2, e3⟩ := h
  congr 1

/-- The dense layer's kernel and its plain definition end with the same array. -/
theorem same : Cert.algebraic_Kernel3Ideal_Reference3Ideal := by
  intro m ρ m' ρ' _ hag
  refine ⟨fun c => resultArr m c, ?_, ?_⟩
  · exact (θ_run Cert.Kernel3Ideal.defs _ _).mono (fun r h c => ⟨(h c).1.trans (final_eq m c), (h c).2⟩)
      (Cert.Kernel3Ideal.Value.run m ρ)
  · refine (θ_run Cert.Reference3Ideal.defs _ _).mono (fun r h c => ⟨(h c).1.trans ?_, (h c).2⟩)
      (Cert.Reference3Ideal.Value.run (F := Ideal) m' ρ')
    exact (Cert.Reference3Ideal.Read.val_main_v21_eq (F := Ideal) _ _ _ _).trans
      ((args_eq m m' c (hag c)).trans (ref_eq m c))

end Cert.Ffn

end
-- ==== Proof.Merge.lean ====
/- The merge kernel over the extended reals: each block of rows adds its three gated projections, then projects and adds
   the sum to the rows. -/
module

public import proofs.«01_k».proof.Proof.Norm
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Defs
public import Idealize.ShloMosaic.Lib.IdealHost

@[expose] public section

set_option maxRecDepth 16384

noncomputable section

open scoped BigOperators

namespace Cert.Merge

open Idealize.ShloMosaic Idealize.ShloMosaic.TcCoe Idealize.SL.Sem Idealize.ShloMosaic.StableHlo
open Cert.Norm

section cases

open Cert.Kernel4Ideal Cert.Kernel4Ideal.Gen

variable {F : FTy → Type} [FloatOps F] (c : Dev nD) (i : grid0.Coords)
  (a1 : Memref sig .tc .vmem S512x1024 .f32) (h1 : a1.IsWhole)
  (a2 : Memref sig .tc .vmem S512x512 .f32) (h2 : a2.IsWhole)
  (a3 : Memref sig .tc .vmem S512x512 .f32) (h3 : a3.IsWhole)
  (a4 : Memref sig .tc .vmem S512x512 .f32) (h4 : a4.IsWhole)
  (a5 : Memref sig .tc .vmem S512x1024 .f32) (h5 : a5.IsWhole)
  (a6 : Memref sig .tc .vmem S512x1024 .f32) (h6 : a6.IsWhole)
  (a7 : Memref sig .tc .vmem S512x1024 .f32) (h7 : a7.IsWhole)
  (a8 : Memref sig .tc .vmem S512x1024 .bf16) (h8 : a8.IsWhole)
  (a9 : Memref sig .tc .vmem S512x1024 .bf16) (h9 : a9.IsWhole)
  (a10 : Memref sig .tc .vmem S512x1024 .bf16) (h10 : a10.IsWhole)
  (a11 : Memref sig .tc .vmem S1024x1024 .bf16) (h11 : a11.IsWhole)
  (a12 : Memref sig .tc .vmem S512x1024 .f32) (h12 : a12.IsWhole)
  (x0 : Vec F S512x1024 .f32) (x1 x2 x3 : Vec F S512x512 .f32) (x4 x5 x6 : Vec F S512x1024 .f32)
  (x7 x8 x9 : Vec F S512x1024 .bf16) (x10 : Vec F S1024x1024 .bf16)

/-- What the body leaves in its block of the result. -/
theorem out_A :
    out0_A_11 c i a1 h1 a2 h2 a3 h3 a4 h4 a5 h5 a6 h6 a7 h7 a8 h8 a9 h9 a10 h10 a11 h11 a12 h12 x0 x1 x2 x3 x4 x5 x6 x7 x8 x9 x10
      = k0_pay1 (k0_pay2 x4 x1 x7 x5 x2 x8) (k0_pay3 x6) x3 x9 x0 x10 := by
  unfold out0_A_11
  rw [View.read_writes_eq_canon _ _ _ (cover0_A_11 c i a1 h1 a2 h2 a3 h3 a4 h4 a5 h5 a6 h6 a7 h7 a8 h8 a9 h9 a10 h10 a11 h11 a12 h12 x0 x1 x2 x3 x4 x5 x6 x7 x8 x9 x10)]
  unfold kernelRun0_A
  dsimp only
  sl_unfold_words
  rw [View.canon_unit_zero zero2]
  simp only [View.readAt_eq_ld, h1.read_unread, h2.read_unread, h3.read_unread, h4.read_unread, h5.read_unread, h6.read_unread, h7.read_unread, h8.read_unread, h9.read_unread, h10.read_unread, h11.read_unread,
    View.ld_unit_zero (S := S512x1024) zero2, View.ld_unit_zero (S := S512x512) zero2, View.ld_unit_zero (S := S1024x1024) zero2]

end cases

/-- One output of the three gated projections, added up: each mixer's row times a column, times its gate's logistic. -/
def merged (p : Fin 3 → EReal) (r g h : Fin 512 → EReal) (wr wg wh : Fin 512 → EReal) : EReal :=
  Ideal.logistic (p 0) * (∑ j : Fin 512, r j * wr j) + Ideal.logistic (p 1) * (∑ j : Fin 512, g j * wg j)
    + Ideal.logistic (p 2) * ∑ j : Fin 512, h j * wh j

section kernel

open Cert.Kernel4Ideal Cert.Kernel4Ideal.Gen

/-- The body's block at an index. -/
theorem pay_apply (x0 : Vec Ideal S512x1024 .f32) (x1 x2 x3 : Vec Ideal S512x512 .f32) (x4 x5 x6 : Vec Ideal S512x1024 .f32)
    (x7 x8 x9 : Vec Ideal S512x1024 .bf16) (x10 : Vec Ideal S1024x1024 .bf16) (r : Fin 512) (d : Fin 1024) :
    k0_pay1 (k0_pay2 x4 x1 x7 x5 x2 x8) (k0_pay3 x6) x3 x9 x0 x10 (ix2 r d)
      = x0 (ix2 r d) + ∑ k : Fin 1024, merged ![x4 (ix2 r k), x5 (ix2 r k), x6 (ix2 r k)]
          (fun j => x1 (ix2 r j)) (fun j => x2 (ix2 r j)) (fun j => x3 (ix2 r j))
          (fun j => x7 (ix2 j k)) (fun j => x8 (ix2 j k)) (fun j => x9 (ix2 j k)) * x10 (ix2 k d) := by
  show _ = x0 (ix2 r d) + ∑ k : Fin 1024, (Ideal.logistic (x4 (ix2 r k)) * (∑ j : Fin 512, x1 (ix2 r j) * x7 (ix2 j k))
    + Ideal.logistic (x5 (ix2 r k)) * (∑ j : Fin 512, x2 (ix2 r j) * x8 (ix2 j k))
    + Ideal.logistic (x6 (ix2 r k)) * ∑ j : Fin 512, x3 (ix2 r j) * x9 (ix2 j k)) * x10 (ix2 k d)
  unfold Ideal.logistic
  pointwise [k0_pay1, k0_pay2, k0_pay3]
  simp only [zero_sub]

variable (m : (ℓ : Loc nD τ sig) → Buf (Elt Ideal) ℓ) (c : Dev nD)

theorem coords_row (t : Fin grid0.N) : (grid0.coords t 0).val = t.val := by
  revert t; decide +kernel
theorem row_word (t : Fin grid0.N) : (BitVec.ofNat 32 (grid0.coords t 0).val).toNat = t.val := by
  have : t.val < 64 := lt_of_lt_of_eq t.isLt N_0
  rw [coords_row, word_of (by omega)]

/-- Row `r` of the block of rows at grid point `t`. -/
def rowAt (t : Fin grid0.N) (r : Fin 512) : Fin 32768 := ⟨t.val * 512 + r.val, by have : t.val < 64 := lt_of_lt_of_eq t.isLt N_0; omega⟩

/-- Column `k` of a mixer's gate: the projection's first 3072 columns are the three gates. -/
def gateCol (n : Fin 3) (k : Fin 1024) : Fin 8832 := ⟨n.val * 1024 + k.val, by omega⟩

/-- The rows, the projection, the mixers' outputs and the weights as launched. -/
abbrev rows (R : Fin 32768) (k : Fin 1024) : EReal := (m (c.tc.loc main_arg0) : FVec Ideal S32768x1024 .f32) (ix2 R k)
abbrev proj (R : Fin 32768) (j : Fin 8832) : EReal := (m (c.tc.loc main_arg1) : FVec Ideal S32768x8832 .f32) (ix2 R j)
abbrev mix1 (R : Fin 32768) (j : Fin 512) : EReal := (m (c.tc.loc main_arg2) : FVec Ideal S32768x512 .f32) (ix2 R j)
abbrev mix2 (R : Fin 32768) (j : Fin 512) : EReal := (m (c.tc.loc main_arg3) : FVec Ideal S32768x512 .f32) (ix2 R j)
abbrev mix3 (R : Fin 32768) (j : Fin 512) : EReal := (m (c.tc.loc main_arg4) : FVec Ideal S32768x512 .f32) (ix2 R j)
abbrev lift1 (j : Fin 512) (k : Fin 1024) : EReal := (m (c.tc.loc main_arg5) : FVec Ideal S512x1024 .f32) (ix2 j k)
abbrev lift2 (j : Fin 512) (k : Fin 1024) : EReal := (m (c.tc.loc main_arg6) : FVec Ideal S512x1024 .f32) (ix2 j k)
abbrev lift3 (j : Fin 512) (k : Fin 1024) : EReal := (m (c.tc.loc main_arg7) : FVec Ideal S512x1024 .f32) (ix2 j k)
abbrev wout (k d : Fin 1024) : EReal := (m (c.tc.loc main_arg8) : FVec Ideal S1024x1024 .f32) (ix2 k d)

/-- The merged row `R` at feature `k`. -/
def feature (R : Fin 32768) (k : Fin 1024) : EReal :=
  merged ![proj m c R (gateCol 0 k), proj m c R (gateCol 1 k), proj m c R (gateCol 2 k)] (mix1 m c R) (mix2 m c R) (mix3 m c R)
    (fun j => lift1 m c j k) (fun j => lift2 m c j k) (fun j => lift3 m c j k)

/-- The result array. -/
def resultArr : FVec Ideal S32768x1024 .f32 := fun y => rows m c (y 0) (y 1) + ∑ k : Fin 1024, feature m c (y 0) k * wout m c k (y 1)

theorem lift1_read (i : Fin 512) (j : Fin 1024) : (V m c main_v0 : FVec Ideal S512x1024 .bf16) (ix2 i j) = lift1 m c i j := by
  have e : V m c main_v0 = (truncf .bf16 (m (c.tc.loc main_arg5) : FVec Ideal S512x1024 .f32) bitsLt_bf16_f32 : FVec Ideal S512x1024 .bf16) := by
    unfold V hostOps0
    after_results
  rw [e]
  pointwise

theorem lift2_read (i : Fin 512) (j : Fin 1024) : (V m c main_v1 : FVec Ideal S512x1024 .bf16) (ix2 i j) = lift2 m c i j := by
  have e : V m c main_v1 = (truncf .bf16 (m (c.tc.loc main_arg6) : FVec Ideal S512x1024 .f32) bitsLt_bf16_f32 : FVec Ideal S512x1024 .bf16) := by
    unfold V hostOps0
    after_results
  rw [e]
  pointwise

theorem lift3_read (i : Fin 512) (j : Fin 1024) : (V m c main_v2 : FVec Ideal S512x1024 .bf16) (ix2 i j) = lift3 m c i j := by
  have e : V m c main_v2 = (truncf .bf16 (m (c.tc.loc main_arg7) : FVec Ideal S512x1024 .f32) bitsLt_bf16_f32 : FVec Ideal S512x1024 .bf16) := by
    unfold V hostOps0
    after_results
  rw [e]
  pointwise

theorem wout_read (i : Fin 1024) (j : Fin 1024) : (V m c main_v3 : FVec Ideal S1024x1024 .bf16) (ix2 i j) = wout m c i j := by
  have e : V m c main_v3 = (truncf .bf16 (m (c.tc.loc main_arg8) : FVec Ideal S1024x1024 .f32) bitsLt_bf16_f32 : FVec Ideal S1024x1024 .bf16) := by
    unfold V hostOps0
    after_results
  rw [e]
  pointwise

/-- The rows' block at grid point `t`. -/
theorem rows_block (t : Fin grid0.N) (r : Fin 512) (k : Fin 1024) :
    (iblk m c 0 t : Vec Ideal S512x1024 .f32) (ix2 r k) = rows m c (rowAt t r) k := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show (BitVec.ofNat 32 (grid0.coords t 0).val).toNat * 512 + 1 * r.val = t.val * 512 + r.val; rw [row_word]; omega
  | ⟨1, _⟩ => show 0 * 1024 + 1 * k.val = k.val; omega

/-- Mixer 1's block at grid point `t`. -/
theorem mix1_block (t : Fin grid0.N) (r j : Fin 512) :
    (iblk m c 1 t : Vec Ideal S512x512 .f32) (ix2 r j) = mix1 m c (rowAt t r) j := by
  refine Eq.trans ?_ (congrFun (V_main_arg2 m c) _)
  unfold iblk
  refine (View.read_apply ..).trans ?_
  show V m c main_arg2 _ = V m c main_arg2 _
  congr 1
  funext a
  apply Fin.ext
  match a with
  | ⟨0, _⟩ => show (BitVec.ofNat 32 (grid0.coords t 0).val).toNat * 512 + 1 * r.val = t.val * 512 + r.val; rw [row_word]; omega
  | ⟨1, _⟩ => show 0 * 512 + 1 * j.val = j.val; omega

/-- Mixer 2's block at grid point `t`. -/
theorem mix2_block (t : Fin grid0.N) (r j : Fin 512) :
    (iblk m c 2 t : Vec Ideal S512x512 .f32) (ix2 r j) = mix2 m c (rowAt t r) j := by
  refine Eq.trans ?_ (congrFun (V_main_arg3 m c) _)
  unfold iblk
  refine (View.read_apply ..).trans ?_
  show V m c main_arg3 _ = V m c main_arg3 _
  congr 1
  funext a
  apply Fin.ext
  match a with
  | ⟨0, _⟩ => show (BitVec.ofNat 32 (grid0.coords t 0).val).toNat * 512 + 1 * r.val = t.val * 512 + r.val; rw [row_word]; omega
  | ⟨1, _⟩ => show 0 * 512 + 1 * j.val = j.val; omega

/-- Mixer 3's block at grid point `t`. -/
theorem mix3_block (t : Fin grid0.N) (r j : Fin 512) :
    (iblk m c 3 t : Vec Ideal S512x512 .f32) (ix2 r j) = mix3 m c (rowAt t r) j := by
  refine Eq.trans ?_ (congrFun (V_main_arg4 m c) _)
  unfold iblk
  refine (View.read_apply ..).trans ?_
  show V m c main_arg4 _ = V m c main_arg4 _
  congr 1
  funext a
  apply Fin.ext
  match a with
  | ⟨0, _⟩ => show (BitVec.ofNat 32 (grid0.coords t 0).val).toNat * 512 + 1 * r.val = t.val * 512 + r.val; rw [row_word]; omega
  | ⟨1, _⟩ => show 0 * 512 + 1 * j.val = j.val; omega

/-- Mixer 1's gate's block at grid point `t`. -/
theorem gate1_block (t : Fin grid0.N) (r : Fin 512) (k : Fin 1024) :
    (X0_4 m c t : Vec Ideal S512x1024 .f32) (ix2 r k) = proj m c (rowAt t r) (gateCol 0 k) := by
  refine Eq.trans ?_ (congrFun (V_main_arg1 m c) _)
  unfold X0_4 Pipeline.Window.fill
  rw [dif_pos (moved0_4 t _)]
  unfold iblk
  refine (View.read_apply ..).trans ?_
  show V m c main_arg1 _ = V m c main_arg1 _
  congr 1
  funext a
  apply Fin.ext
  match a with
  | ⟨0, _⟩ => show (BitVec.ofNat 32 (grid0.coords t 0).val).toNat * 512 + 1 * r.val = t.val * 512 + r.val; rw [row_word]; omega
  | ⟨1, _⟩ => show 0 * 1024 + 1 * k.val = 0 * 1024 + k.val; omega

/-- Mixer 2's gate's block at grid point `t`. -/
theorem gate2_block (t : Fin grid0.N) (r : Fin 512) (k : Fin 1024) :
    (X0_5 m c t : Vec Ideal S512x1024 .f32) (ix2 r k) = proj m c (rowAt t r) (gateCol 1 k) := by
  refine Eq.trans ?_ (congrFun (V_main_arg1 m c) _)
  unfold X0_5 Pipeline.Window.fill
  rw [dif_pos (moved0_5 t _)]
  unfold iblk
  refine (View.read_apply ..).trans ?_
  show V m c main_arg1 _ = V m c main_arg1 _
  congr 1
  funext a
  apply Fin.ext
  match a with
  | ⟨0, _⟩ => show (BitVec.ofNat 32 (grid0.coords t 0).val).toNat * 512 + 1 * r.val = t.val * 512 + r.val; rw [row_word]; omega
  | ⟨1, _⟩ => show 1 * 1024 + 1 * k.val = 1 * 1024 + k.val; omega

/-- Mixer 3's gate's block at grid point `t`. -/
theorem gate3_block (t : Fin grid0.N) (r : Fin 512) (k : Fin 1024) :
    (X0_6 m c t : Vec Ideal S512x1024 .f32) (ix2 r k) = proj m c (rowAt t r) (gateCol 2 k) := by
  refine Eq.trans ?_ (congrFun (V_main_arg1 m c) _)
  unfold X0_6 Pipeline.Window.fill
  rw [dif_pos (moved0_6 t _)]
  unfold iblk
  refine (View.read_apply ..).trans ?_
  show V m c main_arg1 _ = V m c main_arg1 _
  congr 1
  funext a
  apply Fin.ext
  match a with
  | ⟨0, _⟩ => show (BitVec.ofNat 32 (grid0.coords t 0).val).toNat * 512 + 1 * r.val = t.val * 512 + r.val; rw [row_word]; omega
  | ⟨1, _⟩ => show 2 * 1024 + 1 * k.val = 2 * 1024 + k.val; omega

/-- Mixer 1's projection weight at every grid point. -/
theorem lift1_block (t : Fin grid0.N) (j : Fin 512) (k : Fin 1024) :
    (iblk m c 7 t : Vec Ideal S512x1024 .bf16) (ix2 j k) = lift1 m c j k := by
  refine Eq.trans ?_ (lift1_read m c j k)
  unfold iblk
  refine (View.read_apply ..).trans ?_
  show V m c main_v0 _ = V m c main_v0 _
  congr 1
  funext a
  apply Fin.ext
  match a with
  | ⟨0, _⟩ => show 0 * 512 + 1 * j.val = j.val; omega
  | ⟨1, _⟩ => show 0 * 1024 + 1 * k.val = k.val; omega

/-- Mixer 2's projection weight at every grid point. -/
theorem lift2_block (t : Fin grid0.N) (j : Fin 512) (k : Fin 1024) :
    (iblk m c 8 t : Vec Ideal S512x1024 .bf16) (ix2 j k) = lift2 m c j k := by
  refine Eq.trans ?_ (lift2_read m c j k)
  unfold iblk
  refine (View.read_apply ..).trans ?_
  show V m c main_v1 _ = V m c main_v1 _
  congr 1
  funext a
  apply Fin.ext
  match a with
  | ⟨0, _⟩ => show 0 * 512 + 1 * j.val = j.val; omega
  | ⟨1, _⟩ => show 0 * 1024 + 1 * k.val = k.val; omega

/-- Mixer 3's projection weight at every grid point. -/
theorem lift3_block (t : Fin grid0.N) (j : Fin 512) (k : Fin 1024) :
    (iblk m c 9 t : Vec Ideal S512x1024 .bf16) (ix2 j k) = lift3 m c j k := by
  refine Eq.trans ?_ (lift3_read m c j k)
  unfold iblk
  refine (View.read_apply ..).trans ?_
  show V m c main_v2 _ = V m c main_v2 _
  congr 1
  funext a
  apply Fin.ext
  match a with
  | ⟨0, _⟩ => show 0 * 512 + 1 * j.val = j.val; omega
  | ⟨1, _⟩ => show 0 * 1024 + 1 * k.val = k.val; omega

/-- The last projection's weight at every grid point. -/
theorem wout_block (t : Fin grid0.N) (k d : Fin 1024) :
    (iblk m c 10 t : Vec Ideal S1024x1024 .bf16) (ix2 k d) = wout m c k d := by
  refine Eq.trans ?_ (wout_read m c k d)
  unfold iblk
  refine (View.read_apply ..).trans ?_
  show V m c main_v3 _ = V m c main_v3 _
  congr 1
  funext a
  apply Fin.ext
  match a with
  | ⟨0, _⟩ => show 0 * 1024 + 1 * k.val = k.val; omega
  | ⟨1, _⟩ => show 0 * 1024 + 1 * d.val = d.val; omega

/-- What every point leaves in its block of the result. -/
theorem block_at (t : Fin grid0.N) (r : Fin 512) (d : Fin 1024) :
    outsAt0 m c t (ix2 r d) = resultArr m c (ix2 (rowAt t r) d) := by
  unfold outsAt0
  rw [out_A, pay_apply]
  simp only [rows_block, mix1_block, mix2_block, mix3_block, gate1_block, gate2_block, gate3_block, lift1_block, lift2_block, lift3_block, wout_block]
  rfl

/-- What a point writes back is its block of the result. -/
theorem flushed_eq (t : Fin cfg0.N) (hf : (cfg0.win 11).flush t = true) :
    (dats m 0 c).flushed 11 t = ((cfg0.win 11).blk t).view.read (Elt Ideal) (resultArr m c) := by
  refine funext fun (y : S512x1024.Idx) => ?_
  refine Eq.trans ?_ (View.read_apply ..).symm
  refine Eq.trans (b := outsAt0 m c t y) (congrFun (after0_11 m c t) y) ?_
  obtain ⟨r, k, rfl⟩ := idx2 y
  refine (block_at m c t r k).trans ?_
  show resultArr m c (ix2 (rowAt t r) k) = resultArr m c _
  congr 1
  funext a
  apply Fin.ext
  match a with
  | ⟨0, _⟩ => show t.val * 512 + r.val = (BitVec.ofNat 32 (grid0.coords t 0).val).toNat * 512 + 1 * r.val; rw [row_word]; omega
  | ⟨1, _⟩ => show k.val = 0 * 1024 + 1 * k.val; omega

/-- Every index of the array is in the block some point writes back. -/
theorem covered (y : S32768x1024.Idx) : ∃ t : Fin cfg0.N, (cfg0.win 11).flush t = true ∧ y ∈ ((cfg0.win 11).blk t).view.set := by
  have h0 : (y 0 : Nat) < 32768 := (y 0).isLt
  have h1 : (y 1 : Nat) < 1024 := (y 1).isLt
  have hN : cfg0.N = 64 := N_0
  let t : Fin cfg0.N := ⟨(y 0).val / 512, by omega⟩
  refine ⟨t, flush0_11 t, ?_⟩
  refine (iff_of_eq (congrArg (fun S => y ∈ S) (View.set_slice_whole main_v4 ((cfg0.win 11).rect t)))).mpr ?_
  refine Rect.mem_set_unit.mpr fun a => ?_
  match a with
  | ⟨0, _⟩ =>
    show (BitVec.ofNat 32 (grid0.coords t 0).val).toNat * 512 ≤ (y 0).val ∧ (y 0).val < (BitVec.ofNat 32 (grid0.coords t 0).val).toNat * 512 + 512
    rw [row_word]; show (y 0).val / 512 * 512 ≤ (y 0).val ∧ (y 0).val < (y 0).val / 512 * 512 + 512; omega
  | ⟨1, _⟩ => show 0 * 1024 ≤ (y 1).val ∧ (y 1).val < 0 * 1024 + 1024; omega

/-- The array after the run. -/
theorem final_eq : (dats m 0 c).arrAt 11 cfg0.N = resultArr m c :=
  (dats m 0 c).arrAt_eq_of_cover 11 (resultArr m c) (flushed_eq m c) covered

end kernel

section reference

open Cert.Reference4Ideal Cert.Reference4Ideal.Read

variable (x0 : FVec Ideal S32768x1024 .f32) (x1 : FVec Ideal S32768x8832 .f32) (x2 x3 x4 : FVec Ideal S32768x512 .f32)
  (x5 x6 x7 : FVec Ideal S512x1024 .f32) (x8 : FVec Ideal S1024x1024 .f32)

/-- The reference's merged rows at an index. -/
theorem ref_merged (R : Fin 32768) (k : Fin 1024) :
    val_main_v17 (F := Ideal) x1 x2 x3 x4 x5 x6 x7 (ix2 R k)
      = Ideal.logistic (x1 (ix2 R (⟨k.val, by omega⟩ : Fin 8832))) * (∑ j : Fin 512, x2 (ix2 R j) * x5 (ix2 j k))
        + Ideal.logistic (x1 (ix2 R (⟨1024 + k.val, by omega⟩ : Fin 8832))) * (∑ j : Fin 512, x3 (ix2 R j) * x6 (ix2 j k))
        + Ideal.logistic (x1 (ix2 R (⟨2048 + k.val, by omega⟩ : Fin 8832))) * ∑ j : Fin 512, x4 (ix2 R j) * x7 (ix2 j k) := by
  unfold Ideal.logistic
  pointwise [val_main_v17, val_main_v16, val_main_v15, val_main_v14, val_main_v13, val_main_v12, val_main_v11, val_main_v10, val_main_v9,
    val_main_v8, val_main_v7, val_main_v6, val_main_v5, val_main_cst_0, val_main_v4, val_main_v3, val_main_cst, val_main_v2, val_main_v1,
    val_main_v0]

/-- The reference's result at an index, over its merged rows. -/
theorem ref_apply (R : Fin 32768) (d : Fin 1024) :
    val_main_v19 (F := Ideal) x0 x1 x2 x3 x4 x5 x6 x7 x8 (ix2 R d)
      = x0 (ix2 R d) + ∑ k : Fin 1024, val_main_v17 (F := Ideal) x1 x2 x3 x4 x5 x6 x7 (ix2 R k) * x8 (ix2 k d) := by
  unfold val_main_v19 val_main_v18
  generalize val_main_v17 (F := Ideal) x1 x2 x3 x4 x5 x6 x7 = u
  pointwise

end reference

/-- The kernel runs and leaves its arguments. -/
theorem frame_kernel : Cert.quiescent_Kernel4 := fun m ρ _ => Cert.Kernel4.Gen.frame m ρ

/-- The ideal kernel runs and leaves its arguments. -/
theorem frame_ideal : Cert.quiescent_Kernel4Ideal := fun m ρ _ => Cert.Kernel4Ideal.Gen.frame m ρ

/-- The reference runs and leaves its arguments. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference's array is the kernel's result, from the kernel's memory. -/
theorem ref_eq (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v19 (F := Ideal) (m (c.tc.loc Cert.Kernel4Ideal.main_arg0)) (m (c.tc.loc Cert.Kernel4Ideal.main_arg1)) (m (c.tc.loc Cert.Kernel4Ideal.main_arg2)) (m (c.tc.loc Cert.Kernel4Ideal.main_arg3)) (m (c.tc.loc Cert.Kernel4Ideal.main_arg4)) (m (c.tc.loc Cert.Kernel4Ideal.main_arg5)) (m (c.tc.loc Cert.Kernel4Ideal.main_arg6)) (m (c.tc.loc Cert.Kernel4Ideal.main_arg7)) (m (c.tc.loc Cert.Kernel4Ideal.main_arg8)) = resultArr m c := by
  refine funext fun (y : Cert.Kernel4Ideal.S32768x1024.Idx) => ?_
  obtain ⟨R, d, rfl⟩ := idx2 y
  refine (ref_apply _ _ _ _ _ _ _ _ _ R d).trans ?_
  show _ = rows m c R d + ∑ k : Fin 1024, feature m c R k * wout m c k d
  refine congrArg (rows m c R d + ·) (Finset.sum_congr rfl fun k _ => congrArg (· * wout m c k d) ?_)
  refine (ref_merged _ _ _ _ _ _ _ R k).trans ?_
  have e : gateCol 0 k = ⟨k.val, by omega⟩ := Fin.ext (by show 0 * 1024 + k.val = k.val; omega)
  show _ = Ideal.logistic (proj m c R (gateCol 0 k)) * _ + _ + _
  rw [e]
  rfl

/-- From memories that agree on the arguments the reference's array is the same. -/
theorem args_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' (c.tc.loc Cert.Reference4Ideal.main_arg0) = m (c.tc.loc Cert.Kernel4Ideal.main_arg0)
      ∧ m' (c.tc.loc Cert.Reference4Ideal.main_arg1) = m (c.tc.loc Cert.Kernel4Ideal.main_arg1)
      ∧ m' (c.tc.loc Cert.Reference4Ideal.main_arg2) = m (c.tc.loc Cert.Kernel4Ideal.main_arg2)
      ∧ m' (c.tc.loc Cert.Reference4Ideal.main_arg3) = m (c.tc.loc Cert.Kernel4Ideal.main_arg3)
      ∧ m' (c.tc.loc Cert.Reference4Ideal.main_arg4) = m (c.tc.loc Cert.Kernel4Ideal.main_arg4)
      ∧ m' (c.tc.loc Cert.Reference4Ideal.main_arg5) = m (c.tc.loc Cert.Kernel4Ideal.main_arg5)
      ∧ m' (c.tc.loc Cert.Reference4Ideal.main_arg6) = m (c.tc.loc Cert.Kernel4Ideal.main_arg6)
      ∧ m' (c.tc.loc Cert.Reference4Ideal.main_arg7) = m (c.tc.loc Cert.Kernel4Ideal.main_arg7)
      ∧ m' (c.tc.loc Cert.Reference4Ideal.main_arg8) = m (c.tc.loc Cert.Kernel4Ideal.main_arg8)) :
    Cert.Reference4Ideal.Read.val_main_v19 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg5)) (m' (c.tc.loc Cert.Reference4Ideal.main_arg6)) (m' (c.tc.loc Cert.Reference4Ideal.main_arg7)) (m' (c.tc.loc Cert.Reference4Ideal.main_arg8))
    = Cert.Reference4Ideal.Read.val_main_v19 (F := Ideal) (m (c.tc.loc Cert.Kernel4Ideal.main_arg0)) (m (c.tc.loc Cert.Kernel4Ideal.main_arg1)) (m (c.tc.loc Cert.Kernel4Ideal.main_arg2)) (m (c.tc.loc Cert.Kernel4Ideal.main_arg3)) (m (c.tc.loc Cert.Kernel4Ideal.main_arg4)) (m (c.tc.loc Cert.Kernel4Ideal.main_arg5)) (m (c.tc.loc Cert.Kernel4Ideal.main_arg6)) (m (c.tc.loc Cert.Kernel4Ideal.main_arg7)) (m (c.tc.loc Cert.Kernel4Ideal.main_arg8)) := by
  obtain ⟨e0, e1, e2, e3, e4, e5, e6, e7, e8⟩ := h
  congr 1

/-- The merge kernel and its plain definition end with the same array. -/
theorem same : Cert.algebraic_Kernel4Ideal_Reference4Ideal := by
  intro m ρ m' ρ' _ hag
  refine ⟨fun c => resultArr m c, ?_, ?_⟩
  · exact (θ_run Cert.Kernel4Ideal.defs _ _).mono (fun r h c => ⟨(h c).1.trans (final_eq m c), (h c).2⟩)
      (Cert.Kernel4Ideal.Value.run_blocks m ρ)
  · refine (θ_run Cert.Reference4Ideal.defs _ _).mono (fun r h c => ⟨(h c).1.trans ?_, (h c).2⟩)
      (Cert.Reference4Ideal.Value.run (F := Ideal) m' ρ')
    exact (Cert.Reference4Ideal.Read.val_main_v19_eq (F := Ideal) _ _ _ _ _ _ _ _ _).trans
      ((args_eq m m' c (hag c)).trans (ref_eq m c))

end Cert.Merge

end
-- ==== Proof.FinalNorm.lean ====
/- The final norm's kernel over the extended reals: each block of rows is normalised on its own. -/
module

public import proofs.«01_k».proof.Proof.Norm
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Defs

@[expose] public section

set_option maxRecDepth 16384

noncomputable section

open scoped BigOperators

namespace Cert.FinalNorm

open Idealize.ShloMosaic Idealize.ShloMosaic.TcCoe Idealize.SL.Sem Idealize.ShloMosaic.StableHlo
open Cert.Norm

section kernel

open Cert.Kernel5Ideal Cert.Kernel5Ideal.Gen

/-- What the body leaves in its block of the result. -/
theorem out_eq (x : Vec Ideal S1024x1024 .f32) (g : Vec Ideal S1x1024 .f32) : out0_2 x g = k0_pay1 x g := by
  unfold out0_2
  rw [View.canon_unit_zero zero2]
  simp only [View.ld_unit_zero (S := S1024x1024) zero2, View.ld_unit_zero (S := S1x1024) zero2]

/-- The normalised block at an index. -/
theorem pay1_apply (x : Vec Ideal S1024x1024 .f32) (g : Vec Ideal S1x1024 .f32) (r k : Fin 1024) :
    k0_pay1 x g (ix2 r k) = rms (fun j => x (ix2 r j)) (fun j => g (ix2 (0 : Fin 1) j)) k := by
  unfold rms
  pointwise [k0_pay1]

variable (m : (ℓ : Loc nD τ sig) → Buf (Elt Ideal) ℓ) (c : Dev nD)

theorem coords_row (t : Fin grid0.N) : (grid0.coords t 0).val = t.val := by
  revert t; decide +kernel
theorem row_word (t : Fin grid0.N) : (BitVec.ofNat 32 (grid0.coords t 0).val).toNat = t.val := by
  have : t.val < 32 := lt_of_lt_of_eq t.isLt N_0
  rw [coords_row, word_of (by omega)]

/-- Row `r` of the block of rows at grid point `t`. -/
def rowAt (t : Fin grid0.N) (r : Fin 1024) : Fin 32768 := ⟨t.val * 1024 + r.val, by have : t.val < 32 := lt_of_lt_of_eq t.isLt N_0; omega⟩

/-- The rows and the norm's weight as launched. -/
abbrev rows (R : Fin 32768) (k : Fin 1024) : EReal := (m (c.tc.loc main_arg0) : FVec Ideal S32768x1024 .f32) (ix2 R k)
abbrev gain (k : Fin 1024) : EReal := (m (c.tc.loc main_arg1) : FVec Ideal S1024 .f32) (ix1 k)

/-- The result array. -/
def resultArr : FVec Ideal S32768x1024 .f32 := fun y => rms (rows m c (y 0)) (gain m c) (y 1)

theorem V_gain : V m c main_v0 = broadcastInDim S1x1024 ![1] bcast_S1024_S1x1024_1 (m (c.tc.loc main_arg1)) := by
  unfold V hostOps0
  after_results

theorem gain_read (k : Fin 1024) : (V m c main_v0 : FVec Ideal S1x1024 .f32) (ix2 (0 : Fin 1) k) = gain m c k := by
  rw [V_gain]
  pointwise

/-- The rows' block at grid point `t`. -/
theorem rows_block (t : Fin grid0.N) (r k : Fin 1024) :
    (iblk m c 0 t : Vec Ideal S1024x1024 .f32) (ix2 r k) = rows m c (rowAt t r) k := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show (BitVec.ofNat 32 (grid0.coords t 0).val).toNat * 1024 + 1 * r.val = t.val * 1024 + r.val; rw [row_word]; omega
  | ⟨1, _⟩ => show 0 * 1024 + 1 * k.val = k.val; omega

/-- The norm's weight at every grid point. -/
theorem gain_block (t : Fin grid0.N) (k : Fin 1024) :
    (iblk m c 1 t : Vec Ideal S1x1024 .f32) (ix2 (0 : Fin 1) k) = gain m c k := by
  refine Eq.trans ?_ (gain_read m c k)
  unfold iblk
  refine (View.read_apply ..).trans ?_
  show V m c main_v0 _ = V m c main_v0 _
  congr 1
  funext a
  apply Fin.ext
  match a with
  | ⟨0, _⟩ => show 0 * 1 + 1 * 0 = 0; omega
  | ⟨1, _⟩ => show 0 * 1024 + 1 * k.val = k.val; omega

/-- What every point leaves in its block of the result. -/
theorem block_at (t : Fin grid0.N) (r k : Fin 1024) :
    out0_2 (iblk m c 0 t) (iblk m c 1 t) (ix2 r k) = rms (rows m c (rowAt t r)) (gain m c) k := by
  rw [out_eq, pay1_apply]
  simp only [rows_block, gain_block]

/-- What a point writes back is its block of the result. -/
theorem flushed_eq (t : Fin cfg0.N) (hf : (cfg0.win 2).flush t = true) :
    (dats m 0 c).flushed 2 t = ((cfg0.win 2).blk t).view.read (Elt Ideal) (resultArr m c) := by
  refine funext fun (y : S1024x1024.Idx) => ?_
  refine Eq.trans ?_ (View.read_apply ..).symm
  refine Eq.trans (b := out0_2 (iblk m c 0 t) (iblk m c 1 t) y) (congrFun (after0_2 m c t) y) ?_
  obtain ⟨r, k, rfl⟩ := idx2 y
  refine (block_at m c t r k).trans ?_
  show resultArr m c (ix2 (rowAt t r) k) = resultArr m c _
  congr 1
  funext a
  apply Fin.ext
  match a with
  | ⟨0, _⟩ => show t.val * 1024 + r.val = (BitVec.ofNat 32 (grid0.coords t 0).val).toNat * 1024 + 1 * r.val; rw [row_word]; omega
  | ⟨1, _⟩ => show k.val = 0 * 1024 + 1 * k.val; omega

/-- Every index of the array is in the block some point writes back. -/
theorem covered (y : S32768x1024.Idx) : ∃ t : Fin cfg0.N, (cfg0.win 2).flush t = true ∧ y ∈ ((cfg0.win 2).blk t).view.set := by
  have h0 : (y 0 : Nat) < 32768 := (y 0).isLt
  have h1 : (y 1 : Nat) < 1024 := (y 1).isLt
  have hN : cfg0.N = 32 := N_0
  let t : Fin cfg0.N := ⟨(y 0).val / 1024, by omega⟩
  refine ⟨t, flush0_2 t, ?_⟩
  refine (iff_of_eq (congrArg (fun S => y ∈ S) (View.set_slice_whole main_v1 ((cfg0.win 2).rect t)))).mpr ?_
  refine Rect.mem_set_unit.mpr fun a => ?_
  match a with
  | ⟨0, _⟩ =>
    show (BitVec.ofNat 32 (grid0.coords t 0).val).toNat * 1024 ≤ (y 0).val ∧ (y 0).val < (BitVec.ofNat 32 (grid0.coords t 0).val).toNat * 1024 + 1024
    rw [row_word]; show (y 0).val / 1024 * 1024 ≤ (y 0).val ∧ (y 0).val < (y 0).val / 1024 * 1024 + 1024; omega
  | ⟨1, _⟩ => show 0 * 1024 ≤ (y 1).val ∧ (y 1).val < 0 * 1024 + 1024; omega

/-- The array after the run. -/
theorem final_eq : (dats m 0 c).arrAt 2 cfg0.N = resultArr m c :=
  (dats m 0 c).arrAt_eq_of_cover 2 (resultArr m c) (flushed_eq m c) covered

end kernel

section reference

open Cert.Reference5Ideal Cert.Reference5Ideal.Read

/-- The reference's normalised rows at an index. -/
theorem ref_apply (x : FVec Ideal S32768x1024 .f32) (g : FVec Ideal S1024 .f32) (R : Fin 32768) (k : Fin 1024) :
    val_main_v12 (F := Ideal) x g (ix2 R k) = rms (fun j => x (ix2 R j)) (fun j => g (ix1 j)) k := by
  unfold rms
  pointwise [val_main_v12, val_main_v11, val_main_v10, val_main_v9, val_main_v8, val_main_v7, val_main_v6, val_main_v5, val_main_cst_1,
    val_main_v4, val_main_v3, val_main_cst_0, val_main_v2, val_main_v1, val_main_v0, val_main_cst]

end reference

/-- The kernel runs and leaves its arguments. -/
theorem frame_kernel : Cert.quiescent_Kernel5 := fun m ρ _ => Cert.Kernel5.Gen.frame m ρ

/-- The ideal kernel runs and leaves its arguments. -/
theorem frame_ideal : Cert.quiescent_Kernel5Ideal := fun m ρ _ => Cert.Kernel5Ideal.Gen.frame m ρ

/-- The reference runs and leaves its arguments. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference's array is the kernel's result, from the kernel's memory. -/
theorem ref_eq (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v12 (F := Ideal) (m (c.tc.loc Cert.Kernel5Ideal.main_arg0)) (m (c.tc.loc Cert.Kernel5Ideal.main_arg1))
      = resultArr m c := by
  refine funext fun (y : Cert.Kernel5Ideal.S32768x1024.Idx) => ?_
  obtain ⟨R, q, rfl⟩ := idx2 y
  exact ref_apply _ _ R q

/-- From memories that agree on the arguments the reference's array is the same. -/
theorem args_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h : m' (c.tc.loc Cert.Reference5Ideal.main_arg0) = m (c.tc.loc Cert.Kernel5Ideal.main_arg0)
      ∧ m' (c.tc.loc Cert.Reference5Ideal.main_arg1) = m (c.tc.loc Cert.Kernel5Ideal.main_arg1)) :
    Cert.Reference5Ideal.Read.val_main_v12 (F := Ideal) (m' (c.tc.loc Cert.Reference5Ideal.main_arg0)) (m' (c.tc.loc Cert.Reference5Ideal.main_arg1))
    = Cert.Reference5Ideal.Read.val_main_v12 (F := Ideal) (m (c.tc.loc Cert.Kernel5Ideal.main_arg0)) (m (c.tc.loc Cert.Kernel5Ideal.main_arg1)) := by
  obtain ⟨e0, e1⟩ := h
  congr 1

/-- The final norm's kernel and its plain definition end with the same array. -/
theorem same : Cert.algebraic_Kernel5Ideal_Reference5Ideal := by
  intro m ρ m' ρ' _ hag
  refine ⟨fun c => resultArr m c, ?_, ?_⟩
  · exact (θ_run Cert.Kernel5Ideal.defs _ _).mono (fun r h c => ⟨(h c).1.trans (final_eq m c), (h c).2⟩)
      (Cert.Kernel5Ideal.Value.run_blocks m ρ)
  · refine (θ_run Cert.Reference5Ideal.defs _ _).mono (fun r h c => ⟨(h c).1.trans ?_, (h c).2⟩)
      (Cert.Reference5Ideal.Value.run (F := Ideal) m' ρ')
    exact (Cert.Reference5Ideal.Read.val_main_v12_eq (F := Ideal) _ _).trans
      ((args_eq m m' c (hag c)).trans (ref_eq m c))

end Cert.FinalNorm

end
-- ==== Proof.RouteTop.lean ====
/- The two greatest of a row of eight extended reals: by maximum and first position twice, and by a stable sort. -/
module

public import Idealize.ShloMosaic.Lib.Pointwise
public import Idealize.ShloMosaic.Lib.SortFacts

@[expose] public section

noncomputable section

open scoped BigOperators

namespace Cert.Route

open Idealize.ShloMosaic

/-- `i` is the first position of the row's maximum. -/
def IsTop (l : Fin 8 → EReal) (i : Fin 8) : Prop := ∀ j, l j < l i ∨ (l j = l i ∧ i ≤ j)

/-- `k` is the first position of the maximum beside `i`. -/
def IsNext (l : Fin 8 → EReal) (i k : Fin 8) : Prop := k ≠ i ∧ ∀ j, j ≠ i → l j < l k ∨ (l j = l k ∧ k ≤ j)

/-- The order a stable sort, greatest first, leaves. -/
def Before (l : Fin 8 → EReal) (a b : Fin 8) : Prop := l b < l a ∨ (l b = l a ∧ a < b)

theorem insert_ordered (l : Fin 8 → EReal) (a : Fin 8) (s : List (Fin 8)) (ha : ∀ b ∈ s, a < b) (hs : s.Pairwise (Before l)) :
    (insertBefore (fun x y => decide (l y < l x)) a s).Pairwise (Before l) := by
  induction s with
  | nil => simp [insertBefore]
  | cons b s ih =>
    have hc := List.pairwise_cons.mp hs
    by_cases h : l a < l b
    · have e : insertBefore (fun x y => decide (l y < l x)) a (b :: s) = b :: insertBefore (fun x y => decide (l y < l x)) a s := by
        simp [insertBefore, h]
      rw [e, List.pairwise_cons]
      refine ⟨fun x hx => ?_, ih (fun x hx => ha x (List.mem_cons_of_mem _ hx)) hc.2⟩
      rcases List.mem_cons.mp ((perm_insertBefore _ a s).mem_iff.mp hx) with e | hx
      · exact Or.inl (e ▸ h)
      · exact hc.1 x hx
    · have e : insertBefore (fun x y => decide (l y < l x)) a (b :: s) = a :: b :: s := by
        simp [insertBefore, h]
      rw [e, List.pairwise_cons]
      refine ⟨fun x hx => ?_, hs⟩
      have hxb : l x ≤ l b := by
        rcases List.mem_cons.mp hx with e | hx
        · rw [e]
        · rcases hc.1 x hx with h' | h'
          · exact h'.le
          · exact h'.1.le
      rcases (hxb.trans (not_lt.mp h)).lt_or_eq with h' | h'
      · exact Or.inl h'
      · exact Or.inr ⟨h', ha x hx⟩

theorem sort_ordered (l : Fin 8 → EReal) (s : List (Fin 8)) (hs : s.Pairwise (· < ·)) :
    (stableSort (fun x y => decide (l y < l x)) s).Pairwise (Before l) := by
  induction s with
  | nil => simp [stableSort]
  | cons a s ih =>
    have hc := List.pairwise_cons.mp hs
    exact insert_ordered l a _ (fun b hb => hc.1 b ((perm_stableSort _ s).mem_iff.mp hb)) (ih hc.2)

/-- The sorting permutation of the row, greatest first. -/
abbrev perm (l : Fin 8 → EReal) : Fin 8 → Fin 8 := sortedFrom fun a b => decide (l b < l a)

theorem perm_before (l : Fin 8 → EReal) {a b : Fin 8} (h : a < b) : Before l (perm l a) (perm l b) := by
  have hp := sort_ordered l (List.finRange 8) (List.pairwise_lt_finRange 8)
  exact List.pairwise_iff_get.mp hp _ _ h

theorem perm_top (l : Fin 8 → EReal) : IsTop l (perm l 0) := by
  intro j
  obtain ⟨b, rfl⟩ := sortedFrom_surjective (fun a b => decide (l b < l a)) j
  by_cases hb : b = 0
  · exact Or.inr (by rw [hb]; exact ⟨rfl, le_refl _⟩)
  · rcases perm_before l (Fin.pos_of_ne_zero hb) with h | h
    · exact Or.inl h
    · exact Or.inr ⟨h.1, h.2.le⟩

theorem perm_next (l : Fin 8 → EReal) : IsNext l (perm l 0) (perm l 1) := by
  refine ⟨fun h => absurd (sortedFrom_injective _ h) (by decide), fun j hj => ?_⟩
  obtain ⟨b, rfl⟩ := sortedFrom_surjective (fun a b => decide (l b < l a)) j
  have hb0 : b ≠ 0 := fun h => hj (by rw [h])
  by_cases hb : b = 1
  · exact Or.inr (by rw [hb]; exact ⟨rfl, le_refl _⟩)
  · have hlt : (1 : Fin 8) < b := by
      apply Fin.lt_def.mpr
      have h0 : b.val ≠ 0 := fun h => hb0 (Fin.ext h)
      have h1 : b.val ≠ 1 := fun h => hb (Fin.ext h)
      show 1 < b.val
      omega
    rcases perm_before l hlt with h | h
    · exact Or.inl h
    · exact Or.inr ⟨h.1, h.2.le⟩

theorem top_le {l : Fin 8 → EReal} {i : Fin 8} (h : IsTop l i) (j : Fin 8) : l j ≤ l i :=
  (h j).elim le_of_lt fun h => h.1.le

/-- The maximum of the row, folded from the least value. -/
theorem fold_max {l : Fin 8 → EReal} {i : Fin 8} (h : IsTop l i) : Finset.univ.fold max (⊥ : EReal) l = l i := by
  apply le_antisymm
  · exact (Finset.fold_max_le _).mpr ⟨bot_le, fun j _ => top_le h j⟩
  · exact (Finset.le_fold_max _).mpr (Or.inr ⟨i, Finset.mem_univ _, le_refl _⟩)

theorem fold_first : ∀ (p : Fin 8 → Bool) (i : Fin 8), p i = true → (∀ j, p j = true → i ≤ j) →
    Finset.univ.fold IKind.minsi.op 2147483647#32 (fun j : Fin 8 => if p j then BitVec.ofNat 32 j.val else 8#32) = BitVec.ofNat 32 i.val := by
  decide +kernel

/-- The first position at which the row has its maximum, as a word. -/
theorem fold_index {l : Fin 8 → EReal} {i : Fin 8} (h : IsTop l i) :
    Finset.univ.fold IKind.minsi.op 2147483647#32 (fun j : Fin 8 => if l j = l i then BitVec.ofNat 32 j.val else 8#32) = BitVec.ofNat 32 i.val := by
  have := fold_first (fun j => decide (l j = l i)) i (by simp) fun j hj => by
    rcases h j with h | h
    · exact absurd (of_decide_eq_true hj) h.ne
    · exact h.2
  simpa only [decide_eq_true_eq] using this

/-- With the maximum's position struck out, the next is the maximum. -/
theorem next_top {l : Fin 8 → EReal} {i k : Fin 8} (hb : ∀ j, l j ≠ ⊥) (h : IsNext l i k) :
    IsTop (fun j => if j = i then ⊥ else l j) k := by
  intro j
  by_cases hj : j = i
  · refine Or.inl ?_
    show (if j = i then (⊥ : EReal) else l j) < (if k = i then ⊥ else l k)
    rw [if_neg h.1, if_pos hj]; exact bot_lt_iff_ne_bot.mpr (hb k)
  · show (if j = i then (⊥ : EReal) else l j) < (if k = i then ⊥ else l k)
      ∨ ((if j = i then (⊥ : EReal) else l j) = (if k = i then ⊥ else l k) ∧ k ≤ j)
    rw [if_neg hj, if_neg h.1]; exact h.2 j hj

end Cert.Route

end
-- ==== Proof.RouteBlock.lean ====
/- A block of the router's kernel over the extended reals. -/
module

public import proofs.«01_k».proof.Proof.Norm
public import proofs.«01_k».proof.Proof.RouteTop
public import proofs.«01_k».proof.Proof.Gen.Kernel6Ideal.Value

@[expose] public section

set_option maxRecDepth 16384

noncomputable section

open scoped BigOperators

namespace Cert.Route

open Idealize.ShloMosaic
open Cert.Norm

/-- The logit of expert `e` for the row `x`: the normalised row times the expert's weights. -/
def logit (x g : Fin 1024 → EReal) (w : Fin 1024 → Fin 8 → EReal) (e : Fin 8) : EReal := ∑ k, rms x g k * w k e

open Cert.Kernel6Ideal Cert.Kernel6Ideal.Gen

/-- Row `r` of a block. -/
abbrev brow (x : Vec Ideal S512x1024 .f32) (r : Fin 512) (j : Fin 1024) : EReal := x (ix2 r j)
abbrev bgain (g : Vec Ideal S1x1024 .f32) (j : Fin 1024) : EReal := g (ix2 (0 : Fin 1) j)
abbrev bwt (w : Vec Ideal S8x1024 .f32) (j : Fin 1024) (e : Fin 8) : EReal := w (ix2 e j)

/-- The normalised block at an index. -/
theorem pay5_apply (x : Vec Ideal S512x1024 .f32) (g : Vec Ideal S1x1024 .f32) (r : Fin 512) (k : Fin 1024) :
    k0_pay5 x g (ix2 r k) = rms (brow x r) (bgain g) k := by
  unfold rms
  pointwise [k0_pay5]

/-- The logits' block at an index. -/
theorem pay6_apply (x : Vec Ideal S512x1024 .f32) (g : Vec Ideal S1x1024 .f32) (w : Vec Ideal S8x1024 .f32) (e : Fin 8) (r : Fin 512) :
    k0_pay6 x g w (ix2 e r) = logit (brow x r) (bgain g) (bwt w) e := by
  have h : k0_pay6 x g w (ix2 e r) = ∑ k, w (ix2 e k) * k0_pay5 x g (ix2 r k) := by
    pointwise [k0_pay6]
  rw [h]
  unfold logit
  exact Finset.sum_congr rfl fun k _ => by rw [pay5_apply, mul_comm]

theorem negInf : Ideal.ofBits .f32 0xFF800000#32 = (⊥ : EReal) := by
  simp [Ideal.ofBits, Ideal.ieee]

theorem lift_col (h : S8x512.Reduces [0] S512) (r : Fin 512) (e : Fin 8) : h.lift (ix1 r) e = ix2 e r := by
  funext a
  apply Fin.ext
  match a with
  | ⟨0, _⟩ => rfl
  | ⟨1, _⟩ => rfl

/-- The maximum down a column. -/
theorem colmax (v : FVec Ideal S8x512 .f32) (h : S8x512.Reduces [0] S512) (r : Fin 512) (hφ hacc) :
    multiReduction .maximumf [0] S512 v 0xFF800000#32 h hφ hacc (ix1 r) = Finset.univ.fold max (⊥ : EReal) fun e : Fin 8 => v (ix2 e r) := by
  rw [Ideal.multiReduction_maximumf_single, ← negInf]
  have e : v ∘ h.lift (ix1 r) = fun e : Fin 8 => v (ix2 e r) := funext fun e => congrArg v (lift_col h r e)
  exact congrArg (fun f => Finset.univ.fold max (Ideal.ofBits .f32 0xFF800000#32) f) e

/-- The least word down a column. -/
theorem colmin (v : IVec S8x512 32) (h : S8x512.Reduces [0] S512) (r : Fin 512) (hacc) :
    multiReductionI .minsi [0] S512 v 2147483647#32 h hacc (ix1 r) = Finset.univ.fold IKind.minsi.op 2147483647#32 fun e : Fin 8 => v (ix2 e r) := by
  rw [multiReductionI_eq_fold, h.fold_filter_drop_single]
  have e : v ∘ h.lift (ix1 r) = fun e : Fin 8 => v (ix2 e r) := funext fun e => congrArg v (lift_col h r e)
  exact congrArg (fun f => Finset.univ.fold IKind.minsi.op 2147483647#32 f) e

theorem cmpi_eq_one (a b : BitVec 32) : (IntOp.cmpi .eq a b = 1#1) ↔ a = b := by
  have hb : ∀ c : Bool, BitVec.ofBool c = 1#1 ↔ c = true := by decide
  exact (hb _).trans beq_iff_eq

/-- A word is its expert's number. -/
theorem ofNat_inj {a b : Fin 8} : BitVec.ofNat 32 a.val = BitVec.ofNat 32 b.val ↔ a = b := by
  revert a b; decide

/-- A vector as one row. -/
theorem row_cast {α : Type} (v : S512.Idx → α) (r : Fin 512) : shapeCast S1x512 v shapeCasts_S512_S1x512 (ix2 (0 : Fin 1) r) = v (ix1 r) :=
  shapeCast_apply _ _ (ix2 (0 : Fin 1) r) (ix1 r) (by rewrite [Shape.rowMajor_val_one, Shape.rowMajor_val_two]; show r.val = 0 * 512 + r.val; omega)

section body

variable (x : Vec Ideal S512x1024 .f32) (g : Vec Ideal S1x1024 .f32) (w : Vec Ideal S8x1024 .f32) (r : Fin 512)

/-- The logits of row `r`. -/
abbrev blog : Fin 8 → EReal := logit (brow x r) (bgain g) (bwt w)

theorem pay7_apply : k0_pay7 x g w (ix2 (0 : Fin 1) r) = Finset.univ.fold max (⊥ : EReal) (blog x g w r) := by
  unfold k0_pay7
  dsimp only
  exact (row_cast _ r).trans ((colmax _ _ r _ _).trans
    (congrArg (fun f => Finset.univ.fold max (⊥ : EReal) f) (funext fun e => pay6_apply x g w e r)))

theorem pay8_apply : k0_pay8 x g w (ix2 (0 : Fin 1) r)
    = Finset.univ.fold IKind.minsi.op 2147483647#32 fun e : Fin 8 => if blog x g w r e = k0_pay7 x g w (ix2 (0 : Fin 1) r) then BitVec.ofNat 32 e.val else 8#32 := by
  unfold k0_pay8
  dsimp only
  refine (row_cast _ r).trans ((colmin _ _ r _).trans ?_)
  refine congrArg (fun f => Finset.univ.fold IKind.minsi.op 2147483647#32 f) (funext fun e => ?_)
  show _ = if logit (brow x r) (bgain g) (bwt w) e = _ then _ else _
  rw [← pay6_apply]
  pointwise

theorem pay9_apply (e : Fin 8) : k0_pay9 x g w (ix2 e r)
    = if BitVec.ofNat 32 e.val = k0_pay8 x g w (ix2 (0 : Fin 1) r) then ⊥ else blog x g w r e := by
  show _ = if _ then ⊥ else logit (brow x r) (bgain g) (bwt w) e
  rw [← pay6_apply, ← if_congr (cmpi_eq_one _ _) rfl rfl, ← negInf]
  pointwise [k0_pay9]
  rfl

theorem pay10_apply : k0_pay10 x g w (ix2 (0 : Fin 1) r) = Finset.univ.fold max (⊥ : EReal) fun e : Fin 8 => k0_pay9 x g w (ix2 e r) := by
  unfold k0_pay10
  dsimp only
  exact (row_cast _ r).trans (colmax _ _ r _ _)

theorem pay11_apply : k0_pay1 (k0_pay11 x g w) (ix2 (0 : Fin 1) r)
    = Finset.univ.fold IKind.minsi.op 2147483647#32 fun e : Fin 8 => if k0_pay9 x g w (ix2 e r) = k0_pay10 x g w (ix2 (0 : Fin 1) r) then BitVec.ofNat 32 e.val else 8#32 := by
  unfold k0_pay1 k0_pay11
  dsimp only
  refine (row_cast _ r).trans ((colmin _ _ r _).trans ?_)
  refine congrArg (fun f => Finset.univ.fold IKind.minsi.op 2147483647#32 f) (funext fun e => ?_)
  pointwise

variable {x g w r} {i k : Fin 8}

theorem first_val (hi : IsTop (blog x g w r) i) : k0_pay7 x g w (ix2 (0 : Fin 1) r) = blog x g w r i := by
  rw [pay7_apply, fold_max hi]

theorem first_idx (hi : IsTop (blog x g w r) i) : k0_pay8 x g w (ix2 (0 : Fin 1) r) = BitVec.ofNat 32 i.val := by
  rw [pay8_apply, first_val hi, fold_index hi]

theorem rest_eq (hi : IsTop (blog x g w r) i) (e : Fin 8) : k0_pay9 x g w (ix2 e r) = (fun j => if j = i then ⊥ else blog x g w r j) e := by
  rw [pay9_apply, first_idx hi]
  exact if_congr ofNat_inj rfl rfl

theorem second_val (hb : ∀ j, blog x g w r j ≠ ⊥) (hi : IsTop (blog x g w r) i) (hk : IsNext (blog x g w r) i k) :
    k0_pay10 x g w (ix2 (0 : Fin 1) r) = blog x g w r k := by
  have h : (fun e : Fin 8 => k0_pay9 x g w (ix2 e r)) = fun j => if j = i then ⊥ else blog x g w r j := funext (rest_eq hi)
  rw [pay10_apply, h, fold_max (next_top hb hk)]
  exact if_neg hk.1

theorem second_idx (hb : ∀ j, blog x g w r j ≠ ⊥) (hi : IsTop (blog x g w r) i) (hk : IsNext (blog x g w r) i k) :
    k0_pay1 (k0_pay11 x g w) (ix2 (0 : Fin 1) r) = BitVec.ofNat 32 k.val := by
  have hv := second_val hb hi hk
  have hn : (if k = i then (⊥ : EReal) else blog x g w r k) = blog x g w r k := if_neg hk.1
  have ht := fold_index (next_top hb hk)
  rw [pay11_apply, hv]
  simp only [hn] at ht
  simp only [rest_eq hi]
  exact ht

end body

/-- The weights' rows at a column, from the two maxima. -/
theorem pay3_apply (a b : FVec Ideal S1x512 .f32) (r : Fin 512) :
    k0_pay3 a b (ix2 (0 : Fin 1) r) = Ideal.div 1 (1 + Ideal.exp (b (ix2 (0 : Fin 1) r) - a (ix2 (0 : Fin 1) r))) := by
  pointwise [k0_pay3, k0_pay2]

theorem pay4_apply (a b : FVec Ideal S1x512 .f32) (r : Fin 512) :
    k0_pay4 a b (ix2 (0 : Fin 1) r) = Ideal.div (Ideal.exp (b (ix2 (0 : Fin 1) r) - a (ix2 (0 : Fin 1) r)))
      (1 + Ideal.exp (b (ix2 (0 : Fin 1) r) - a (ix2 (0 : Fin 1) r))) := by
  pointwise [k0_pay4, k0_pay2]

end Cert.Route

end
-- ==== Proof.RouteRef.lean ====
/- The router's plain definition over the extended reals. -/
module

public import proofs.«01_k».proof.Proof.RouteBlock
public import proofs.«01_k».proof.Proof.Gen.Reference6Ideal.Read

@[expose] public section

set_option maxRecDepth 16384

noncomputable section

open scoped BigOperators

namespace Cert.Route

open Idealize.ShloMosaic
open Cert.Norm

/-- The quotient and the root's literals are positive reals. -/
theorem lit_count : Ideal.ofBits .f32 0x44800000#32 = ((1024 : ℝ) : EReal) := by
  simp [Ideal.ofBits, Ideal.ieee, -EReal.coe_mul]; norm_num

theorem lit_eps : ∃ p : ℝ, 0 < p ∧ Ideal.ofBits .f32 0x358637BD#32 = (p : EReal) := by
  refine ⟨_, ?_, rfl⟩
  simp [-EReal.coe_mul]

theorem coe_sum {n : ℕ} (f : Fin n → ℝ) : ∑ j, ((f j : ℝ) : EReal) = ((∑ j, f j : ℝ) : EReal) := by
  induction n with
  | zero => simp
  | succ n ih => rw [Fin.sum_univ_succ, Fin.sum_univ_succ, ih, EReal.coe_add]

/-- The normalised features of a row of reals are reals. -/
theorem rms_real (x g : Fin 1024 → ℝ) (k : Fin 1024) : ∃ u : ℝ, rms (fun j => (x j : EReal)) (fun j => (g j : EReal)) k = u := by
  obtain ⟨p, hp, he⟩ := lit_eps
  have h0 : 0 ≤ ∑ j, x j * x j := Finset.sum_nonneg fun j _ => mul_self_nonneg _
  have hs : ∑ j, (x j : EReal) * (x j : EReal) = ((∑ j, x j * x j : ℝ) : EReal) := by
    rw [← coe_sum]; exact Finset.sum_congr rfl fun j _ => (EReal.coe_mul _ _).symm
  have hd : Ideal.div ((∑ j, x j * x j : ℝ) : EReal) ((1024 : ℝ) : EReal) = (((∑ j, x j * x j) * (1024 : ℝ)⁻¹ : ℝ) : EReal) := by
    unfold Ideal.div
    rw [if_neg (by norm_num), EReal.coe_mul, EReal.coe_inv]
  have hq : 0 < (∑ j, x j * x j) * (1024 : ℝ)⁻¹ + p := by positivity
  have hr : Ideal.rsqrt (((∑ j, x j * x j) * (1024 : ℝ)⁻¹ + p : ℝ) : EReal) = (((Real.sqrt ((∑ j, x j * x j) * (1024 : ℝ)⁻¹ + p))⁻¹ : ℝ) : EReal) := by
    show (if _ < (0 : ℝ) then (⊥ : EReal) else if _ = (0 : ℝ) then ⊤ else _) = _
    rw [if_neg (not_lt.mpr hq.le), if_neg hq.ne']
  refine ⟨x k * (Real.sqrt ((∑ j, x j * x j) * (1024 : ℝ)⁻¹ + p))⁻¹ * g k, ?_⟩
  unfold rms
  rw [hs, lit_count, hd, he, ← EReal.coe_add, hr, EReal.coe_mul, EReal.coe_mul]

/-- The logits of a row of reals are reals. -/
theorem logit_real (x g : Fin 1024 → EReal) (w : Fin 1024 → Fin 8 → EReal) (hx : ∀ k, ∃ a : ℝ, x k = a) (hg : ∀ k, ∃ a : ℝ, g k = a)
    (hw : ∀ k e, ∃ a : ℝ, w k e = a) (e : Fin 8) : ∃ a : ℝ, logit x g w e = a := by
  choose x' hx using hx
  choose g' hg using hg
  choose w' hw using hw
  obtain rfl : x = fun k => (x' k : EReal) := funext hx
  obtain rfl : g = fun k => (g' k : EReal) := funext hg
  obtain rfl : w = fun k e => (w' k e : EReal) := funext fun k => funext (hw k)
  choose u hu using rms_real x' g'
  refine ⟨∑ k, u k * w' k e, ?_⟩
  unfold logit
  rw [← coe_sum]
  exact Finset.sum_congr rfl fun k _ => by rw [hu, EReal.coe_mul]

section reference

open Cert.Reference6Ideal Cert.Reference6Ideal.Read

theorem along_row (R : Fin 32768) (a b : Fin 8) : Shape.Idx.along (s := S32768x8) (ix2 R a) (1 : Fin 2) b = ix2 R b := by
  funext i
  match i with
  | ⟨0, _⟩ => rfl
  | ⟨1, _⟩ => rfl

theorem gt_iff (a b : EReal) : (FloatOps.cmpfTotal (F := Ideal) (φ := .f32) .gt a b == 1#1) = decide (b < a) := by
  have h : ∀ c : Bool, (BitVec.ofBool c == 1#1) = c := by decide
  exact h _

/-- The sorted position of place `j` in row `R`. -/
abbrev place (v : FVec Ideal S32768x8 .f32) (R : Fin 32768) (j : Fin 2) : Fin 8 := perm (fun e => v (ix2 R e)) (j.castLE (by decide))

theorem sorted_eq (v : FVec Ideal S32768x8 .f32) (R : Fin 32768) (j : Fin 2) :
    sortedFrom (fun a b : Fin 8 => FloatOps.cmpfTotal (F := Ideal) (φ := .f32) .gt (v (Shape.Idx.along (s := S32768x8) (ix2 R (j.castLE (by decide))) (1 : Fin 2) a))
      (v (Shape.Idx.along (s := S32768x8) (ix2 R (j.castLE (by decide))) (1 : Fin 2) b)) == 1#1) (j.castLE (by decide)) = place v R j := by
  have h : (fun a b : Fin 8 => FloatOps.cmpfTotal (F := Ideal) (φ := .f32) .gt (v (Shape.Idx.along (s := S32768x8) (ix2 R (j.castLE (by decide))) (1 : Fin 2) a))
      (v (Shape.Idx.along (s := S32768x8) (ix2 R (j.castLE (by decide))) (1 : Fin 2) b)) == 1#1) = fun a b => decide (v (ix2 R b) < v (ix2 R a)) := by
    funext a b
    rw [along_row, along_row, gt_iff]
  rw [h]

theorem slice_idx (h : S32768x8.Slices (fun _ => 0) S32768x2) (R : Fin 32768) (j : Fin 2) {α : Type} (v : S32768x8.Idx → α) :
    extractStridedSlice S32768x2 (fun _ => 0) v h (ix2 R j) = v (ix2 R (j.castLE (by decide))) := by
  unfold extractStridedSlice
  refine congrArg v (funext fun i => Fin.ext ?_)
  match i with
  | ⟨0, _⟩ => exact Nat.zero_add _
  | ⟨1, _⟩ => exact Nat.zero_add _

theorem topK_val (v : FVec Ideal S32768x8 .f32) (h : S32768x8.Slices (fun _ => 0) S32768x2) (R : Fin 32768) (j : Fin 2) :
    (Host.topK S32768x2 1 (FloatOps.cmpfTotal (F := Ideal) (φ := .f32) .gt) v h).1 (ix2 R j) = v (ix2 R (place v R j)) := by
  unfold Host.topK
  dsimp only
  rw [slice_idx]
  unfold Host.sort2
  rw [dif_pos (show 1 < S32768x8.rank from by decide)]
  exact (congrArg (fun a => v (Shape.Idx.along (s := S32768x8) (ix2 R (j.castLE (by decide))) (1 : Fin 2) a)) (sorted_eq v R j)).trans
    (congrArg v (along_row R _ _))

theorem topK_idx (v : FVec Ideal S32768x8 .f32) (h : S32768x8.Slices (fun _ => 0) S32768x2) (R : Fin 32768) (j : Fin 2) :
    (Host.topK S32768x2 1 (FloatOps.cmpfTotal (F := Ideal) (φ := .f32) .gt) v h).2 (ix2 R j) = BitVec.ofNat 32 (place v R j).val := by
  unfold Host.topK
  dsimp only
  rw [slice_idx]
  unfold Host.sort2
  rw [dif_pos (show 1 < S32768x8.rank from by decide)]
  refine (congrArg (fun a => (if hd : 1 < S32768x8.rank then iotaInDim S32768x8 32 ⟨1, hd⟩ (Shape.Idx.along (s := S32768x8) (ix2 R (j.castLE (by decide))) (1 : Fin 2) a) else 0#32)) (sorted_eq v R j)).trans ?_
  rw [dif_pos (by decide), along_row]
  rfl

variable (x : FVec Ideal S32768x1024 .f32) (g : FVec Ideal S1024 .f32) (w : FVec Ideal S1x1024x8 .f32) (R : Fin 32768)

/-- The logits of row `R`. -/
abbrev rlog : Fin 8 → EReal := logit (fun k => x (ix2 R k)) (fun k => g (ix1 k)) fun k e => w (ix3 (0 : Fin 1) k e)

theorem ref_u (k : Fin 1024) : val_main_v12 (F := Ideal) x g (ix2 R k) = rms (fun k => x (ix2 R k)) (fun k => g (ix1 k)) k := by
  unfold rms
  pointwise [val_main_v12, val_main_v11, val_main_v10, val_main_v9, val_main_v8, val_main_v7, val_main_v6, val_main_v5, val_main_cst_1,
    val_main_v4, val_main_v3, val_main_cst_0, val_main_v2, val_main_v1, val_main_v0, val_main_cst]

theorem ref_w (k : Fin 1024) (e : Fin 8) : val_main_v13 (F := Ideal) w (ix2 k e) = w (ix3 (0 : Fin 1) k e) := by
  unfold val_main_v13
  exact shapeCast_apply _ _ (ix2 k e) (ix3 (0 : Fin 1) k e) (by
    rewrite [Shape.rowMajor_val_three, Shape.rowMajor_val_two]; show (0 * 1024 + k.val) * 8 + e.val = k.val * 8 + e.val; omega)

theorem ref_logit (e : Fin 8) : val_main_v14 (F := Ideal) x g w (ix2 R e) = rlog x g w R e := by
  have h : val_main_v14 (F := Ideal) x g w (ix2 R e) = ∑ k, val_main_v12 (F := Ideal) x g (ix2 R k) * val_main_v13 (F := Ideal) w (ix2 k e) := by
    pointwise [val_main_v14]
  rw [h]
  exact Finset.sum_congr rfl fun k _ => by rw [ref_u, ref_w]

/-- The row's greatest and next greatest. -/
abbrev best : Fin 2 → Fin 8 := fun j => perm (rlog x g w R) (j.castLE (by decide))

theorem rlog_eq : (fun e => val_main_v14 (F := Ideal) x g w (ix2 R e)) = rlog x g w R := funext fun e => ref_logit x g w R e

theorem ref_value (j : Fin 2) : val_main_values (F := Ideal) x g w (ix2 R j) = rlog x g w R (best x g w R j) := by
  unfold val_main_values
  refine (topK_val _ _ R j).trans ?_
  unfold place
  rw [rlog_eq, ref_logit]

theorem ref_index (j : Fin 2) : val_main_v26 (F := Ideal) x g w (ix2 j R) = BitVec.ofNat 32 (best x g w R j).val := by
  have h : val_main_v26 (F := Ideal) x g w (ix2 j R) = val_main_indices (F := Ideal) x g w (ix2 R j) := by
    pointwise [val_main_v26]
  rw [h]
  unfold val_main_indices
  refine (topK_idx _ _ R j).trans ?_
  unfold place
  rw [rlog_eq]

theorem ref_max : val_main_v17 (F := Ideal) x g w (ix1 R) = rlog x g w R (best x g w R 0) := by
  have hr : S32768x2.Reduces [1] S32768 := by decide
  have hl : ∀ j : Fin 2, hr.lift (ix1 R) j = ix2 R j := fun j => by
    funext a
    apply Fin.ext
    match a with
    | ⟨0, _⟩ => rfl
    | ⟨1, _⟩ => rfl
  have h : val_main_v15 (F := Ideal) x g w (ix1 R) = Finset.univ.fold max (⊥ : EReal) fun j : Fin 2 => rlog x g w R (best x g w R j) := by
    unfold val_main_v15
    rw [Host.reduce_eq_fold_single _ _ _ _ hr, ← negInf]
    have e : val_main_values (F := Ideal) x g w ∘ hr.lift (ix1 R) = fun j : Fin 2 => rlog x g w R (best x g w R j) :=
      funext fun j => (congrArg (val_main_values (F := Ideal) x g w) (hl j)).trans (ref_value x g w R j)
    exact congrArg (fun f => Finset.univ.fold max (Ideal.ofBits .f32 0xFF800000#32) f) e
  have h16 : val_main_v16 (F := Ideal) (ix1 R) = (⊥ : EReal) := by
    rw [← negInf]
    pointwise [val_main_v16, val_main_cst_3]
  have hm : val_main_v17 (F := Ideal) x g w (ix1 R) = max (val_main_v16 (F := Ideal) (ix1 R)) (val_main_v15 (F := Ideal) x g w (ix1 R)) := by
    pointwise [val_main_v17]
  rw [hm, h16, h, max_eq_right bot_le]
  apply le_antisymm
  · exact (Finset.fold_max_le _).mpr ⟨bot_le, fun j _ => top_le (perm_top _) _⟩
  · exact (Finset.le_fold_max _).mpr (Or.inr ⟨0, Finset.mem_univ _, le_refl _⟩)

theorem ref_exp (j : Fin 2) : val_main_v21 (F := Ideal) x g w (ix2 R j)
    = Ideal.exp (rlog x g w R (best x g w R j) - rlog x g w R (best x g w R 0)) := by
  rw [← ref_value, ← ref_max]
  pointwise [val_main_v21, val_main_v20, val_main_v19, val_main_v18]

theorem ref_weight (j : Fin 2) : val_main_v27 (F := Ideal) x g w (ix2 j R)
    = Ideal.div (Ideal.exp (rlog x g w R (best x g w R j) - rlog x g w R (best x g w R 0)))
      (Ideal.exp (rlog x g w R (best x g w R 0) - rlog x g w R (best x g w R 0))
        + Ideal.exp (rlog x g w R (best x g w R 1) - rlog x g w R (best x g w R 0))) := by
  have h : val_main_v27 (F := Ideal) x g w (ix2 j R) = Ideal.div (val_main_v21 (F := Ideal) x g w (ix2 R j))
      (∑ k : Fin 2, val_main_v21 (F := Ideal) x g w (ix2 R k)) := by
    pointwise [val_main_v27, val_main_v25, val_main_v24, val_main_v23, val_main_v22, val_main_cst_4]
  rw [h, Fin.sum_univ_two, ref_exp, ref_exp, ref_exp]

end reference

/-- The two weights, for logits that are reals. -/
theorem weight_first (a b : ℝ) : Ideal.div (Ideal.exp ((a : EReal) - a)) (Ideal.exp ((a : EReal) - a) + Ideal.exp ((b : EReal) - a))
    = Ideal.div 1 (1 + Ideal.exp ((b : EReal) - a)) := by
  have h : Ideal.exp ((a : EReal) - a) = 1 := by
    rw [← EReal.coe_sub, sub_self]
    show ((Real.exp 0 : ℝ) : EReal) = 1
    rw [Real.exp_zero]; rfl
  rw [h]

theorem weight_second (a b : ℝ) : Ideal.div (Ideal.exp ((b : EReal) - a)) (Ideal.exp ((a : EReal) - a) + Ideal.exp ((b : EReal) - a))
    = Ideal.div (Ideal.exp ((b : EReal) - a)) (1 + Ideal.exp ((b : EReal) - a)) := by
  have h : Ideal.exp ((a : EReal) - a) = 1 := by
    rw [← EReal.coe_sub, sub_self]
    show ((Real.exp 0 : ℝ) : EReal) = 1
    rw [Real.exp_zero]; rfl
  rw [h]

end Cert.Route

end
-- ==== Proof.Route.lean ====
/- The router's kernel over the extended reals, from its arguments to its three results. -/
module

public import proofs.«01_k».proof.Proof.RouteRef
public import proofs.«01_k».proof.Proof.Gen.Kernel6.Frame
public import proofs.«01_k».proof.Proof.Gen.Kernel6Ideal.Value
public import proofs.«01_k».proof.Proof.Gen.Pre_finite_args
public import proofs.«01_k».proof.Proof.Gen.Reference6Ideal.Run
public import proofs.«01_k».proof.Proof.Gen.Reference6Ideal.Read
public import proofs.«01_k».proof.Defs

@[expose] public section

set_option maxRecDepth 16384

noncomputable section

open scoped BigOperators

namespace Cert.Route

open Idealize.ShloMosaic Idealize.ShloMosaic.TcCoe Idealize.SL.Sem Idealize.ShloMosaic.StableHlo
open Cert.Norm

theorem real_of_abs {a : EReal} (h : Ideal.cmp .olt (max a (-a)) (Ideal.ofBits .f32 0x7F800000#32) = 1#1) : ∃ r : ℝ, a = r := by
  have hb : ∀ c : Bool, BitVec.ofBool c = 1#1 → c = true := by decide
  have h := of_decide_eq_true (hb _ h)
  have ht : Ideal.ofBits .f32 0x7F800000#32 = (⊤ : EReal) := by simp [Ideal.ofBits, Ideal.ieee]
  rw [ht] at h
  induction a with
  | bot => simp at h
  | top => simp at h
  | coe r => exact ⟨r, rfl⟩

/-- Where the precondition holds, the arguments are reals. -/
theorem reals_of_pre (x : FVec Ideal Pre_finite_args.S32768x1024 .f32) (g : FVec Ideal Pre_finite_args.S1024 .f32)
    (w : FVec Ideal Pre_finite_args.S1x1024x8 .f32) (h : Pre_finite_args.fn (F := Ideal) x g w = fun _ => 1#1) (R : Fin 32768) (k : Fin 1024) (e : Fin 8) :
    (∃ a : ℝ, x (ix2 R k) = a) ∧ (∃ a : ℝ, g (ix1 k) = a) ∧ ∃ a : ℝ, w (ix3 (0 : Fin 1) k e) = a := by
  have hv := congrFun h (ix3 R k e)
  have hf : Pre_finite_args.fn (F := Ideal) x g w (ix3 R k e)
      = IntOp.andi (IntOp.andi (Ideal.cmp .olt (max (x (ix2 R k)) (-x (ix2 R k))) (Ideal.ofBits .f32 0x7F800000#32))
          (Ideal.cmp .olt (max (g (ix1 k)) (-g (ix1 k))) (Ideal.ofBits .f32 0x7F800000#32)))
        (Ideal.cmp .olt (max (w (ix3 (0 : Fin 1) k e)) (-w (ix3 (0 : Fin 1) k e))) (Ideal.ofBits .f32 0x7F800000#32)) := by
    unfold Pre_finite_args.fn
    pointwise
    rfl
  rw [hf] at hv
  have andi_one (a b : BitVec 1) : IntOp.andi a b = 1#1 → a = 1#1 ∧ b = 1#1 := by revert a b; decide
  obtain ⟨h1, h3⟩ := andi_one _ _ hv
  obtain ⟨h1, h2⟩ := andi_one _ _ h1
  exact ⟨real_of_abs h1, real_of_abs h2, real_of_abs h3⟩

section kernel

open Cert.Kernel6Ideal Cert.Kernel6Ideal.Gen

/-- The two rows of a block of two stores. -/
theorem row_one {e : EltTy} (p q : Vec Ideal S1x512 e) (r : Fin 512) :
    View.canon (Val := Elt Ideal) [⟨r0_4, p⟩, ⟨r0_3, q⟩] (ix2 (1 : Fin 2) r) = p (ix2 (0 : Fin 1) r) := by
  have h : (ix2 (1 : Fin 2) r : S2x512.Idx) = r0_4.emb (ix2 (0 : Fin 1) r) := by
    funext a
    apply Fin.ext
    match a with
    | ⟨0, _⟩ => show 1 = 1 + 1 * 0; omega
    | ⟨1, _⟩ => show r.val = 0 + 1 * r.val; omega
  rw [h]
  exact View.canon_cons_emb (Val := Elt Ideal) r0_4 p _ (ix2 (0 : Fin 1) r)

theorem row_zero {e : EltTy} (p q : Vec Ideal S1x512 e) (r : Fin 512) :
    View.canon (Val := Elt Ideal) [⟨r0_4, p⟩, ⟨r0_3, q⟩] (ix2 (0 : Fin 2) r) = q (ix2 (0 : Fin 1) r) := by
  have hn : (ix2 (0 : Fin 2) r : S2x512.Idx) ∉ r0_4.set := fun hm => by
    have h := (Rect.mem_set_unit.mp hm 0).1
    exact absurd (show 1 ≤ 0 from h) (by omega)
  have h : (ix2 (0 : Fin 2) r : S2x512.Idx) = r0_3.emb (ix2 (0 : Fin 1) r) := by
    funext a
    apply Fin.ext
    match a with
    | ⟨0, _⟩ => show 0 = 0 + 1 * 0; omega
    | ⟨1, _⟩ => show r.val = 0 + 1 * r.val; omega
  rw [View.canon_cons_of_not_mem (Val := Elt Ideal) ⟨r0_4, p⟩ _ hn, h]
  exact View.canon_cons_emb (Val := Elt Ideal) r0_3 q _ (ix2 (0 : Fin 1) r)

section block

variable (x : Vec Ideal S512x1024 .f32) (g : Vec Ideal S1x1024 .f32) (w : Vec Ideal S8x1024 .f32) (r : Fin 512)

/-- What the body leaves in its block of the normalised rows. -/
theorem outU (k : Fin 1024) : out0_3 x g w (ix2 r k) = rms (brow x r) (bgain g) k := by
  unfold out0_3
  rw [View.canon_unit_zero zero2]
  simp only [View.ld_unit_zero (S := S512x1024) zero2, View.ld_unit_zero (S := S1x1024) zero2]
  exact pay5_apply x g r k

/-- The body's two positions of a row and its two weights. -/
theorem outI (hb : ∀ j, blog x g w r j ≠ ⊥) (j : Fin 2) :
    out0_4 x g w (ix2 j r) = BitVec.ofNat 32 (perm (blog x g w r) (j.castLE (by decide))).val := by
  unfold_out out0_4
  simp only [View.ld_unit_zero (S := S512x1024) zero2, View.ld_unit_zero (S := S1x1024) zero2, View.ld_unit_zero (S := S8x1024) zero2]
  match j with
  | ⟨0, _⟩ => exact (row_zero _ _ r).trans (first_idx (perm_top _))
  | ⟨1, _⟩ => exact (row_one _ _ r).trans (second_idx hb (perm_top _) (perm_next _))

theorem outW (hb : ∀ j, ∃ a : ℝ, blog x g w r j = a) (j : Fin 2) :
    out0_5 x g w (ix2 j r) = Ideal.div (Ideal.exp (blog x g w r (perm (blog x g w r) (j.castLE (by decide))) - blog x g w r (perm (blog x g w r) 0)))
      (Ideal.exp (blog x g w r (perm (blog x g w r) 0) - blog x g w r (perm (blog x g w r) 0))
        + Ideal.exp (blog x g w r (perm (blog x g w r) 1) - blog x g w r (perm (blog x g w r) 0))) := by
  have hbot : ∀ j, blog x g w r j ≠ ⊥ := fun j h => by
    obtain ⟨a, ha⟩ := hb j
    exact EReal.coe_ne_bot a (ha.symm.trans h)
  unfold_out out0_5
  simp only [View.ld_unit_zero (S := S512x1024) zero2, View.ld_unit_zero (S := S1x1024) zero2, View.ld_unit_zero (S := S8x1024) zero2]
  have h7 : k0_pay7 x g w (ix2 (0 : Fin 1) r) = blog x g w r (perm (blog x g w r) 0) := first_val (perm_top _)
  have h10 : k0_pay10 x g w (ix2 (0 : Fin 1) r) = blog x g w r (perm (blog x g w r) 1) := second_val hbot (perm_top _) (perm_next _)
  obtain ⟨a, ha⟩ := hb (perm (blog x g w r) 0)
  obtain ⟨b, hb⟩ := hb (perm (blog x g w r) 1)
  match j with
  | ⟨0, _⟩ =>
    refine (row_zero _ _ r).trans ((pay3_apply _ _ r).trans ?_)
    rw [h7, h10]
    show _ = Ideal.div (Ideal.exp (blog x g w r (perm (blog x g w r) 0) - _)) _
    rw [ha, hb]
    exact (weight_first a b).symm
  | ⟨1, _⟩ =>
    refine (row_one _ _ r).trans ((pay4_apply _ _ r).trans ?_)
    rw [h7, h10]
    show _ = Ideal.div (Ideal.exp (blog x g w r (perm (blog x g w r) 1) - _)) _
    rw [ha, hb]
    exact (weight_second a b).symm

end block

variable (m : (ℓ : Loc nD τ sig) → Buf (Elt Ideal) ℓ) (c : Dev nD)

theorem coords_row (t : Fin grid0.N) : (grid0.coords t 0).val = t.val := by
  revert t; decide +kernel
theorem row_word (t : Fin grid0.N) : (BitVec.ofNat 32 (grid0.coords t 0).val).toNat = t.val := by
  have : t.val < 64 := lt_of_lt_of_eq t.isLt N_0
  rw [coords_row, word_of (by omega)]

/-- Row `r` of the block of rows at grid point `t`. -/
def rowAt (t : Fin grid0.N) (r : Fin 512) : Fin 32768 := ⟨t.val * 512 + r.val, by have : t.val < 64 := lt_of_lt_of_eq t.isLt N_0; omega⟩

/-- The rows, the norm's weight and the experts' weights as launched. -/
abbrev rows (R : Fin 32768) (k : Fin 1024) : EReal := (m (c.tc.loc main_arg0) : FVec Ideal S32768x1024 .f32) (ix2 R k)
abbrev gain (k : Fin 1024) : EReal := (m (c.tc.loc main_arg1) : FVec Ideal S1024 .f32) (ix1 k)
abbrev wts (k : Fin 1024) (e : Fin 8) : EReal := (m (c.tc.loc main_arg2) : FVec Ideal S1x1024x8 .f32) (ix3 (0 : Fin 1) k e)

/-- The logits of row `R`. -/
abbrev klog (R : Fin 32768) : Fin 8 → EReal := logit (rows m c R) (gain m c) (wts m c)

/-- The three result arrays. -/
def uArr : FVec Ideal S32768x1024 .f32 := fun y => rms (rows m c (y 0)) (gain m c) (y 1)
def idxAt (j : Fin 2) (R : Fin 32768) : BitVec 32 := BitVec.ofNat 32 (perm (klog m c R) (j.castLE (by decide))).val
def wtAt (j : Fin 2) (R : Fin 32768) : EReal :=
  Ideal.div (Ideal.exp (klog m c R (perm (klog m c R) (j.castLE (by decide))) - klog m c R (perm (klog m c R) 0)))
    (Ideal.exp (klog m c R (perm (klog m c R) 0) - klog m c R (perm (klog m c R) 0))
      + Ideal.exp (klog m c R (perm (klog m c R) 1) - klog m c R (perm (klog m c R) 0)))
def idxArr : IVec S2x32768 32 := fun y => idxAt m c (y 0) (y 1)
def wtArr : FVec Ideal S2x32768 .f32 := fun y => wtAt m c (y 0) (y 1)

theorem V_gain : V m c main_v0 = broadcastInDim S1x1024 ![1] bcast_S1024_S1x1024_1 (m (c.tc.loc main_arg1)) := by
  unfold V hostOps0
  after_results

theorem gain_read (k : Fin 1024) : (V m c main_v0 : FVec Ideal S1x1024 .f32) (ix2 (0 : Fin 1) k) = gain m c k := by
  rw [V_gain]
  pointwise

theorem V_wts : V m c main_v2
    = (transpose S8x1024 [1, 0] (shapeCast S1024x8 (m (c.tc.loc main_arg2) : FVec Ideal S1x1024x8 .f32) shapeCasts_S1x1024x8_S1024x8
        : FVec Ideal S1024x8 .f32) transposes_S1024x8_S8x1024_1_0 : FVec Ideal S8x1024 .f32) := by
  unfold V hostOps0
  after_results
  rfl

theorem wts_read (e : Fin 8) (k : Fin 1024) : (V m c main_v2 : FVec Ideal S8x1024 .f32) (ix2 e k) = wts m c k e := by
  rw [V_wts]
  have h : ∀ v : FVec Ideal S1024x8 .f32, (transpose S8x1024 [1, 0] v transposes_S1024x8_S8x1024_1_0 : FVec Ideal S8x1024 .f32) (ix2 e k) = v (ix2 k e) := fun v => by
    pointwise
  rw [h]
  exact shapeCast_apply _ shapeCasts_S1x1024x8_S1024x8 (ix2 k e) (ix3 (0 : Fin 1) k e)
    (by rewrite [Shape.rowMajor_val_three, Shape.rowMajor_val_two]; show (0 * 1024 + k.val) * 8 + e.val = k.val * 8 + e.val; omega)

/-- The rows' block at grid point `t`. -/
theorem rows_block (t : Fin grid0.N) (r : Fin 512) (k : Fin 1024) :
    (iblk m c 0 t : Vec Ideal S512x1024 .f32) (ix2 r k) = rows m c (rowAt t r) k := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show (BitVec.ofNat 32 (grid0.coords t 0).val).toNat * 512 + 1 * r.val = t.val * 512 + r.val; rw [row_word]; omega
  | ⟨1, _⟩ => show 0 * 1024 + 1 * k.val = k.val; omega

/-- The norm's weight at every grid point. -/
theorem gain_block (t : Fin grid0.N) (k : Fin 1024) :
    (iblk m c 1 t : Vec Ideal S1x1024 .f32) (ix2 (0 : Fin 1) k) = gain m c k := by
  refine Eq.trans ?_ (gain_read m c k)
  unfold iblk
  refine (View.read_apply ..).trans ?_
  show V m c main_v0 _ = V m c main_v0 _
  congr 1
  funext a
  apply Fin.ext
  match a with
  | ⟨0, _⟩ => show 0 * 1 + 1 * 0 = 0; omega
  | ⟨1, _⟩ => show 0 * 1024 + 1 * k.val = k.val; omega

/-- The experts' weights at every grid point. -/
theorem wts_block (t : Fin grid0.N) (e : Fin 8) (k : Fin 1024) :
    (iblk m c 2 t : Vec Ideal S8x1024 .f32) (ix2 e k) = wts m c k e := by
  refine Eq.trans ?_ (wts_read m c e k)
  unfold iblk
  refine (View.read_apply ..).trans ?_
  show V m c main_v2 _ = V m c main_v2 _
  congr 1
  funext a
  apply Fin.ext
  match a with
  | ⟨0, _⟩ => show 0 * 8 + 1 * e.val = e.val; omega
  | ⟨1, _⟩ => show 0 * 1024 + 1 * k.val = k.val; omega

theorem blog_eq (t : Fin grid0.N) (r : Fin 512) : blog (iblk m c 0 t) (iblk m c 1 t) (iblk m c 2 t) r = klog m c (rowAt t r) := by
  have hx : brow (iblk m c 0 t) r = rows m c (rowAt t r) := funext fun k => rows_block m c t r k
  have hg : bgain (iblk m c 1 t) = gain m c := funext fun k => gain_block m c t k
  have hw : bwt (iblk m c 2 t) = wts m c := funext fun k => funext fun e => wts_block m c t e k
  unfold blog
  rw [hx, hg, hw]

variable (hreal : ∀ R e, ∃ a : ℝ, klog m c R e = a)

/-- What a point writes back is its block of each result. -/
theorem flushedU (t : Fin cfg0.N) (hf : (cfg0.win 3).flush t = true) :
    (dats m 0 c).flushed 3 t = ((cfg0.win 3).blk t).view.read (Elt Ideal) (uArr m c) := by
  refine funext fun (y : S512x1024.Idx) => ?_
  refine Eq.trans ?_ (View.read_apply ..).symm
  refine Eq.trans (b := out0_3 (iblk m c 0 t) (iblk m c 1 t) (iblk m c 2 t) y) (congrFun (after0_3 m c t) y) ?_
  obtain ⟨r, k, rfl⟩ := idx2 y
  have hx : brow (iblk m c 0 t) r = rows m c (rowAt t r) := funext fun k => rows_block m c t r k
  have hg : bgain (iblk m c 1 t) = gain m c := funext fun k => gain_block m c t k
  refine (outU _ _ _ r k).trans ?_
  rw [hx, hg]
  show uArr m c (ix2 (rowAt t r) k) = uArr m c _
  congr 1
  funext a
  apply Fin.ext
  match a with
  | ⟨0, _⟩ => show t.val * 512 + r.val = (BitVec.ofNat 32 (grid0.coords t 0).val).toNat * 512 + 1 * r.val; rw [row_word]; omega
  | ⟨1, _⟩ => show k.val = 0 * 1024 + 1 * k.val; omega

include hreal in
theorem flushedI (t : Fin cfg0.N) (hf : (cfg0.win 4).flush t = true) :
    (dats m 0 c).flushed 4 t = ((cfg0.win 4).blk t).view.read (Elt Ideal) (idxArr m c) := by
  refine funext fun (y : S2x512.Idx) => ?_
  refine Eq.trans ?_ (View.read_apply ..).symm
  refine Eq.trans (b := out0_4 (iblk m c 0 t) (iblk m c 1 t) (iblk m c 2 t) y) (congrFun (after0_4 m c t) y) ?_
  obtain ⟨j, r, rfl⟩ := idx2 y
  refine (outI _ _ _ r (fun e h => ?_) j).trans ?_
  · obtain ⟨a, ha⟩ := hreal (rowAt t r) e
    rw [blog_eq, ha] at h
    exact EReal.coe_ne_bot a h
  rw [blog_eq]
  show idxArr m c (ix2 j (rowAt t r)) = idxArr m c _
  congr 1
  funext a
  apply Fin.ext
  match a with
  | ⟨0, _⟩ => show j.val = 0 * 2 + 1 * j.val; omega
  | ⟨1, _⟩ => show t.val * 512 + r.val = (BitVec.ofNat 32 (grid0.coords t 0).val).toNat * 512 + 1 * r.val; rw [row_word]; omega

include hreal in
theorem flushedW (t : Fin cfg0.N) (hf : (cfg0.win 5).flush t = true) :
    (dats m 0 c).flushed 5 t = ((cfg0.win 5).blk t).view.read (Elt Ideal) (wtArr m c) := by
  refine funext fun (y : S2x512.Idx) => ?_
  refine Eq.trans ?_ (View.read_apply ..).symm
  refine Eq.trans (b := out0_5 (iblk m c 0 t) (iblk m c 1 t) (iblk m c 2 t) y) (congrFun (after0_5 m c t) y) ?_
  obtain ⟨j, r, rfl⟩ := idx2 y
  refine (outW _ _ _ r (fun e => ?_) j).trans ?_
  · rw [blog_eq]; exact hreal (rowAt t r) e
  rw [blog_eq]
  show wtArr m c (ix2 j (rowAt t r)) = wtArr m c _
  congr 1
  funext a
  apply Fin.ext
  match a with
  | ⟨0, _⟩ => show j.val = 0 * 2 + 1 * j.val; omega
  | ⟨1, _⟩ => show t.val * 512 + r.val = (BitVec.ofNat 32 (grid0.coords t 0).val).toNat * 512 + 1 * r.val; rw [row_word]; omega

/-- Every index of each array is in the block some point writes back. -/
theorem coveredU (y : S32768x1024.Idx) : ∃ t : Fin cfg0.N, (cfg0.win 3).flush t = true ∧ y ∈ ((cfg0.win 3).blk t).view.set := by
  have h0 : (y 0 : Nat) < 32768 := (y 0).isLt
  have h1 : (y 1 : Nat) < 1024 := (y 1).isLt
  have hN : cfg0.N = 64 := N_0
  let t : Fin cfg0.N := ⟨(y 0).val / 512, by omega⟩
  refine ⟨t, flush0_3 t, ?_⟩
  refine (iff_of_eq (congrArg (fun S => y ∈ S) (View.set_slice_whole main_v3_0 ((cfg0.win 3).rect t)))).mpr ?_
  refine Rect.mem_set_unit.mpr fun a => ?_
  match a with
  | ⟨0, _⟩ =>
    show (BitVec.ofNat 32 (grid0.coords t 0).val).toNat * 512 ≤ (y 0).val ∧ (y 0).val < (BitVec.ofNat 32 (grid0.coords t 0).val).toNat * 512 + 512
    rw [row_word]; show (y 0).val / 512 * 512 ≤ (y 0).val ∧ (y 0).val < (y 0).val / 512 * 512 + 512; omega
  | ⟨1, _⟩ => show 0 * 1024 ≤ (y 1).val ∧ (y 1).val < 0 * 1024 + 1024; omega

theorem coveredI (y : S2x32768.Idx) : ∃ t : Fin cfg0.N, (cfg0.win 4).flush t = true ∧ y ∈ ((cfg0.win 4).blk t).view.set := by
  have h0 : (y 0 : Nat) < 2 := (y 0).isLt
  have h1 : (y 1 : Nat) < 32768 := (y 1).isLt
  have hN : cfg0.N = 64 := N_0
  let t : Fin cfg0.N := ⟨(y 1).val / 512, by omega⟩
  refine ⟨t, flush0_4 t, ?_⟩
  refine (iff_of_eq (congrArg (fun S => y ∈ S) (View.set_slice_whole main_v3_1 ((cfg0.win 4).rect t)))).mpr ?_
  refine Rect.mem_set_unit.mpr fun a => ?_
  match a with
  | ⟨0, _⟩ => show 0 * 2 ≤ (y 0).val ∧ (y 0).val < 0 * 2 + 2; omega
  | ⟨1, _⟩ =>
    show (BitVec.ofNat 32 (grid0.coords t 0).val).toNat * 512 ≤ (y 1).val ∧ (y 1).val < (BitVec.ofNat 32 (grid0.coords t 0).val).toNat * 512 + 512
    rw [row_word]; show (y 1).val / 512 * 512 ≤ (y 1).val ∧ (y 1).val < (y 1).val / 512 * 512 + 512; omega

theorem coveredW (y : S2x32768.Idx) : ∃ t : Fin cfg0.N, (cfg0.win 5).flush t = true ∧ y ∈ ((cfg0.win 5).blk t).view.set := by
  have h0 : (y 0 : Nat) < 2 := (y 0).isLt
  have h1 : (y 1 : Nat) < 32768 := (y 1).isLt
  have hN : cfg0.N = 64 := N_0
  let t : Fin cfg0.N := ⟨(y 1).val / 512, by omega⟩
  refine ⟨t, flush0_5 t, ?_⟩
  refine (iff_of_eq (congrArg (fun S => y ∈ S) (View.set_slice_whole main_v3_2 ((cfg0.win 5).rect t)))).mpr ?_
  refine Rect.mem_set_unit.mpr fun a => ?_
  match a with
  | ⟨0, _⟩ => show 0 * 2 ≤ (y 0).val ∧ (y 0).val < 0 * 2 + 2; omega
  | ⟨1, _⟩ =>
    show (BitVec.ofNat 32 (grid0.coords t 0).val).toNat * 512 ≤ (y 1).val ∧ (y 1).val < (BitVec.ofNat 32 (grid0.coords t 0).val).toNat * 512 + 512
    rw [row_word]; show (y 1).val / 512 * 512 ≤ (y 1).val ∧ (y 1).val < (y 1).val / 512 * 512 + 512; omega

/-- The arrays after the run. -/
theorem finalU : (dats m 0 c).arrAt 3 cfg0.N = uArr m c :=
  (dats m 0 c).arrAt_eq_of_cover 3 (uArr m c) (flushedU m c) coveredU

include hreal in
theorem finalI : (dats m 0 c).arrAt 4 cfg0.N = idxArr m c :=
  (dats m 0 c).arrAt_eq_of_cover 4 (idxArr m c) (flushedI m c hreal) coveredI

include hreal in
theorem finalW : (dats m 0 c).arrAt 5 cfg0.N = wtArr m c :=
  (dats m 0 c).arrAt_eq_of_cover 5 (wtArr m c) (flushedW m c hreal) coveredW

end kernel

/-- The kernel runs and leaves its arguments. -/
theorem frame_kernel : Cert.quiescent_Kernel6 := fun m ρ _ => Cert.Kernel6.Gen.frame m ρ

/-- The ideal kernel runs and leaves its arguments. -/
theorem frame_ideal : Cert.quiescent_Kernel6Ideal := fun m ρ _ => Cert.Kernel6Ideal.Gen.frame m ρ
theorem frame_ideal_pre : Cert.quiescent_Kernel6Ideal_pre_finite_args := fun m ρ _ => frame_ideal m ρ trivial

/-- The reference runs and leaves its arguments. -/
theorem frame_reference : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)
theorem frame_reference_pre : Cert.quiescent_Reference6Ideal_pre_finite_args := fun m ρ _ => frame_reference m ρ trivial

/-- Where the precondition holds the logits are reals. -/
theorem real_of_pre (m : (ℓ : Loc Cert.Kernel6Ideal.nD Cert.Kernel6Ideal.τ Cert.Kernel6Ideal.sig) → Buf (Elt Ideal) ℓ)
    (hp : Cert.Pre_Kernel6Ideal_finite_args m) (c : Dev Cert.Kernel6Ideal.nD) (R : Fin 32768) (e : Fin 8) : ∃ a : ℝ, klog m c R e = a :=
  logit_real _ _ _ (fun k => (reals_of_pre _ _ _ (hp c) R k 0).1) (fun k => (reals_of_pre _ _ _ (hp c) R k 0).2.1)
    (fun k e => (reals_of_pre _ _ _ (hp c) R k e).2.2) e

/-- The reference's arrays are the kernel's results, from the kernel's memory. -/
theorem ref_eq (m : (ℓ : Loc Cert.Kernel6Ideal.nD Cert.Kernel6Ideal.τ Cert.Kernel6Ideal.sig) → Buf (Elt Ideal) ℓ) (c : Dev Cert.Kernel6Ideal.nD)
    (x0 : FVec Ideal Cert.Reference6Ideal.S32768x1024 .f32) (x1 : FVec Ideal Cert.Reference6Ideal.S1024 .f32)
    (x2 : FVec Ideal Cert.Reference6Ideal.S1x1024x8 .f32)
    (e0 : x0 = m (c.tc.loc Cert.Kernel6Ideal.main_arg0)) (e1 : x1 = m (c.tc.loc Cert.Kernel6Ideal.main_arg1))
    (e2 : x2 = m (c.tc.loc Cert.Kernel6Ideal.main_arg2)) :
    Cert.Reference6Ideal.Read.val_main_v12 (F := Ideal) x0 x1 = uArr m c
      ∧ Cert.Reference6Ideal.Read.val_main_v26 (F := Ideal) x0 x1 x2 = idxArr m c
      ∧ Cert.Reference6Ideal.Read.val_main_v27 (F := Ideal) x0 x1 x2 = wtArr m c := by
  subst e0 e1 e2
  refine ⟨funext fun (y : Cert.Kernel6Ideal.S32768x1024.Idx) => ?_, funext fun (y : Cert.Kernel6Ideal.S2x32768.Idx) => ?_,
    funext fun (y : Cert.Kernel6Ideal.S2x32768.Idx) => ?_⟩
  · obtain ⟨R, q, rfl⟩ := idx2 y
    exact ref_u _ _ R q
  · obtain ⟨j, R, rfl⟩ := idx2 y
    exact ref_index _ _ _ R j
  · obtain ⟨j, R, rfl⟩ := idx2 y
    exact ref_weight _ _ _ R j

/-- The router's kernel and its plain definition end with the same arrays. -/
theorem same : Cert.algebraic_Kernel6Ideal_Reference6Ideal_pre_finite_args := by
  intro m ρ m' ρ' hp hag
  refine ⟨fun c => uArr m c, fun c => idxArr m c, fun c => wtArr m c, ?_, ?_⟩
  · exact (θ_run Cert.Kernel6Ideal.defs _ _).mono (fun r h c => ⟨(h c).1.trans (finalU m c), (h c).2.1.trans (finalI m c (real_of_pre m hp c)),
      (h c).2.2.1.trans (finalW m c (real_of_pre m hp c)), (h c).2.2.2⟩) (Cert.Kernel6Ideal.Value.run_blocks m ρ)
  · refine (θ_run Cert.Reference6Ideal.defs _ _).mono (fun r h c => ?_) (Cert.Reference6Ideal.Value.run (F := Ideal) m' ρ')
    obtain ⟨h1, h2, h3, h4⟩ := h c
    obtain ⟨q1, q2, q3⟩ := ref_eq m c _ _ _ (hag c).1 (hag c).2.1 (hag c).2.2
    exact ⟨h1.trans ((Cert.Reference6Ideal.Read.val_main_v12_eq (F := Ideal) _ _).trans q1),
      h2.trans ((Cert.Reference6Ideal.Read.val_main_v26_eq (F := Ideal) _ _ _).trans q2),
      h3.trans ((Cert.Reference6Ideal.Read.val_main_v27_eq (F := Ideal) _ _).trans q3), h4⟩

end Cert.Route

end
-- ==== Proof.Filter.lean ====
/- The Hyena filter's kernel over the extended reals: every tap is a small network at the tap's position. -/
module

public import proofs.«01_k».proof.Proof.Norm
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Defs

@[expose] public section

set_option maxRecDepth 16384

noncomputable section

open scoped BigOperators

namespace Cert.Filter

open Idealize.ShloMosaic Idealize.ShloMosaic.TcCoe Idealize.SL.Sem Idealize.ShloMosaic.StableHlo
open Cert.Norm

/-- Feature `k` of the position `t`: the position in the unit interval, then the cosines and the negated sines of its bands `f`. -/
def feat (f : Fin 16 → EReal) (t : EReal) (k : Fin 33) : EReal :=
  if h : k.val < 1 then Ideal.div t (Ideal.ofBits .f32 0x44FFE000#32)
  else if h : k.val - 1 < 16 then
    Ideal.cos (f ⟨k.val - 1, h⟩ * Ideal.div (Ideal.ofBits .f32 0x40C90FDB#32 * t) (Ideal.ofBits .f32 0x45000000#32))
  else -Ideal.sin (f ⟨k.val - 1 - 16, by omega⟩ * Ideal.div (Ideal.ofBits .f32 0x40C90FDB#32 * t) (Ideal.ofBits .f32 0x45000000#32))

/-- One hidden layer: the sine of the frequency times the affine image. -/
def layer {n : ℕ} (x : Fin n → EReal) (w : Fin n → Fin 64 → EReal) (b fr : Fin 64 → EReal) (j : Fin 64) : EReal :=
  Ideal.sin (fr j * (∑ k, x k * w k j + b j))

/-- The three hidden layers. -/
def hidden (z : Fin 33 → EReal) (w1 : Fin 33 → Fin 64 → EReal) (b1 : Fin 64 → EReal) (w2 : Fin 64 → Fin 64 → EReal) (b2 : Fin 64 → EReal)
    (w3 : Fin 64 → Fin 64 → EReal) (b3 fr : Fin 64 → EReal) : Fin 64 → EReal :=
  layer (layer (layer z w1 b1 fr) w2 b2 fr) w3 b3 fr

/-- A coefficient from a position's features: the product with the output's column, under its decay window. -/
def coef (z : Fin 33 → EReal) (h wo : Fin 64 → EReal) (d : EReal) : EReal :=
  (∑ j, h j * wo j) * Ideal.exp (-z 0 * max d (-d))

/-- Column `q` of a half of the output's columns. -/
def col (e : Fin 2) (q : Fin 512) : Fin 1024 := ⟨e.val * 512 + q.val, by omega⟩

/-- The position a row of the filter is taken at. -/
def posAt (n : ℕ) : EReal := FloatOps.sitofp (F := Ideal) .f32 (BitVec.ofNat 32 (if n < 2048 then n else 4096 - n))

/-- The bands' frequencies as the host computes them. -/
def bands : FVec Ideal Cert.Reference7Ideal.S16 .f32 := Cert.Reference7Ideal.Read.val_main_v4 (F := Ideal)

section result

open Cert.Kernel7Ideal

variable (x0 : FVec Ideal S33x64 .f32) (x1 : FVec Ideal S64 .f32) (x2 : FVec Ideal S64x64 .f32) (x3 : FVec Ideal S64 .f32)
  (x4 : FVec Ideal S64x64 .f32) (x5 x6 : FVec Ideal S64 .f32) (x7 : FVec Ideal S64x1024 .f32) (x8 : FVec Ideal S2x512 .f32)

/-- The coefficient of channel `q` of a half at a position. -/
def tap (t : EReal) (e : Fin 2) (q : Fin 512) : EReal :=
  coef (feat (fun j => bands (ix1 j)) t)
    (hidden (feat (fun j => bands (ix1 j)) t) (fun k j => x0 (ix2 k j)) (fun j => x1 (ix1 j)) (fun k j => x2 (ix2 k j)) (fun j => x3 (ix1 j))
      (fun k j => x4 (ix2 k j)) (fun j => x5 (ix1 j)) (fun j => x6 (ix1 j)))
    (fun j => x7 (ix2 j (col e q))) (x8 (ix2 e q))

/-- The circular filter: the forward half, a zero row, the backward half reversed. -/
def circ : FVec Ideal S4096x512 .f32 := fun y =>
  if (y 0).val = 2048 then 0
  else tap x0 x1 x2 x3 x4 x5 x6 x7 x8 (posAt (y 0).val) ⟨(y 0).val / 2048, by have : (y 0).val < 4096 := (y 0).isLt; omega⟩ (y 1)

theorem circ_apply (R : Fin 4096) (q : Fin 512) : circ x0 x1 x2 x3 x4 x5 x6 x7 x8 (ix2 R q) = if R.val = 2048 then 0
    else tap x0 x1 x2 x3 x4 x5 x6 x7 x8 (posAt R.val) ⟨R.val / 2048, by omega⟩ q := rfl

end result

section kernel

open Cert.Kernel7Ideal Cert.Kernel7Ideal.Gen

theorem zero3 : (![0, 0, 0] : Fin 3 → Nat) = fun _ => 0 := funext fun a => by fin_cases a <;> rfl

theorem pay3_apply (z : Vec Ideal S512x33 .f32) (fr : Vec Ideal S1x64 .f32) (w1 : Vec Ideal S33x64 .f32) (b1 : Vec Ideal S1x64 .f32)
    (w2 : Vec Ideal S64x64 .f32) (b2 : Vec Ideal S1x64 .f32) (w3 : Vec Ideal S64x64 .f32) (b3 : Vec Ideal S1x64 .f32) (wo : Vec Ideal S64x512 .f32)
    (r q : Fin 512) :
    k0_pay3 z fr w1 b1 w2 b2 w3 b3 wo (ix2 r q)
      = ∑ j, hidden (fun k => z (ix2 r k)) (fun k j => w1 (ix2 k j)) (fun j => b1 (ix2 (0 : Fin 1) j)) (fun k j => w2 (ix2 k j))
          (fun j => b2 (ix2 (0 : Fin 1) j)) (fun k j => w3 (ix2 k j)) (fun j => b3 (ix2 (0 : Fin 1) j)) (fun j => fr (ix2 (0 : Fin 1) j)) j * wo (ix2 j q) := by
  unfold hidden layer
  pointwise [k0_pay3, k0_pay2]

theorem pay4_apply (z : Vec Ideal S512x33 .f32) (r : Fin 512) : k0_pay4 z (ix2 r (0 : Fin 1)) = -z (ix2 r (0 : Fin 33)) := by
  refine Eq.trans (b := 0 - z (ix2 r (0 : Fin 33))) ?_ (zero_sub _)
  pointwise [k0_pay4, k0_pay2]

/-- The middle row's word. -/
theorem middle {t r : ℕ} (ht : t < 8) (hr : r < 512) : BitVec.ofNat 32 t * 512#32 + BitVec.ofNat 32 r = 2048#32 ↔ t * 512 + r = 2048 := by
  rw [← BitVec.toNat_inj, BitVec.toNat_add, BitVec.toNat_mul, word_of (by omega), word_of (by omega)]
  simp only [BitVec.toNat_ofNat]
  omega

theorem pay1_apply (t : ℕ) (ht : t < 8) (h : FVec Ideal S512x512 .f32) (d : FVec Ideal S512x1 .f32) (w : Vec Ideal S1x1x512 .f32) (r q : Fin 512) :
    k0_pay1 (BitVec.ofNat 32 t) h d w (ix2 r q) = if t * 512 + r.val = 2048 then 0
      else h (ix2 r q) * Ideal.exp (d (ix2 r (0 : Fin 1)) * max (w (ix3 (0 : Fin 1) (0 : Fin 1) q)) (-w (ix3 (0 : Fin 1) (0 : Fin 1) q))) := by
  refine Eq.trans (b := Scalar.select (IntOp.cmpi CmpIPredicate.eq (IntOp.addi (Scalar.muli (BitVec.ofNat 32 t) 512#32) (BitVec.ofNat 32 r.val)) 2048#32) 0
      (h (ix2 r q) * Ideal.exp (d (ix2 r (0 : Fin 1)) * FloatOps.absf (F := Ideal) (φ := .f32) (w (ix3 (0 : Fin 1) (0 : Fin 1) q))))) ?_ ?_
  · pointwise [k0_pay1]
  · have e := middle ht r.isLt
    by_cases hm : t * 512 + r.val = 2048
    · rw [if_pos hm]
      have e2 : IntOp.addi (Scalar.muli (BitVec.ofNat 32 t) 512#32) (BitVec.ofNat 32 r.val) = 2048#32 := e.mpr hm
      rw [e2]
      rfl
    · rw [if_neg hm]
      have e2 : ¬ IntOp.addi (Scalar.muli (BitVec.ofNat 32 t) 512#32) (BitVec.ofNat 32 r.val) = 2048#32 := fun h => hm (e.mp h)
      have e3 : (IntOp.addi (Scalar.muli (BitVec.ofNat 32 t) 512#32) (BitVec.ofNat 32 r.val) == 2048#32) = false := beq_eq_false_iff_ne.mpr e2
      show (if BitVec.ofBool (IntOp.addi (Scalar.muli (BitVec.ofNat 32 t) 512#32) (BitVec.ofNat 32 r.val) == 2048#32) = 1#1 then _ else _) = _
      rw [e3]
      rfl

variable (m : (ℓ : Loc nD τ sig) → Buf (Elt Ideal) ℓ) (c : Dev nD)

/-- The positions of the rows. -/
def posArr : FVec Ideal S4096x1 .f32 :=
  broadcastInDim S4096x1 ![0] bcast_S4096_S4096x1_0 (sitofp .f32 (select
    (cmpi .slt (iotaInDim S4096 32 0) (broadcastInDim S4096 ![] bcast_S_S4096 (constantI S_ 32 2048#32)))
    (iotaInDim S4096 32 0) (subi (broadcastInDim S4096 ![] bcast_S_S4096 (constantI S_ 32 4096#32)) (iotaInDim S4096 32 0))))

/-- The rows' phases in every band. -/
def phases (t : FVec Ideal S4096x1 .f32) (f : FVec Ideal S16 .f32) : FVec Ideal S4096x16 .f32 :=
  mulf (broadcastInDim S4096x16 ![0, 1] bcast_S1x16_S4096x16_0_1 (broadcastInDim S1x16 ![1] bcast_S16_S1x16_1 f))
    (broadcastInDim S4096x16 ![0, 1] bcast_S4096x1_S4096x16_0_1
      (Host.divf (mulf (broadcastInDim S4096x1 ![] bcast_S_S4096x1 (constant S_ .f32 0x40C90FDB#32)) t)
        (broadcastInDim S4096x1 ![] bcast_S_S4096x1 (constant S_ .f32 0x45000000#32))))

/-- The rows' features. -/
def featArr (t : FVec Ideal S4096x1 .f32) (f : FVec Ideal S16 .f32) : FVec Ideal S4096x33 .f32 :=
  concatenate S4096x33 1 [⟨S4096x1, Host.divf t (broadcastInDim S4096x1 ![] bcast_S_S4096x1 (constant S_ .f32 0x44FFE000#32))⟩,
    ⟨S4096x16, Host.cos (phases t f)⟩, ⟨S4096x16, Host.negf (Host.sin (phases t f))⟩] concatenates_S4096x1_S4096x16_S4096x16_S4096x33_d1

theorem V_feats : (V m c main_v25 : FVec Ideal S4096x33 .f32) = featArr posArr bands := by
  unfold V
  simp only [hostOps0, hostOps0_1, hostOps0_2, hostOps0_3, hostOps0_4, List.flatten, List.append, List.cons_append, List.nil_append]
  after_results
  rfl

theorem pos_word : ∀ R : Fin 4096, Scalar.select (IntOp.cmpi CmpIPredicate.slt (BitVec.ofNat 32 R.val) 2048#32) (BitVec.ofNat 32 R.val)
    (IntOp.subi 4096#32 (BitVec.ofNat 32 R.val)) = BitVec.ofNat 32 (if R.val < 2048 then R.val else 4096 - R.val) := by
  decide +kernel

theorem posArr_apply (R : Fin 4096) : posArr (ix2 R (0 : Fin 1)) = posAt R.val := by
  unfold posAt
  rw [← pos_word]
  pointwise [posArr]

theorem feats_apply (t : FVec Ideal S4096x1 .f32) (f : FVec Ideal S16 .f32) (R : Fin 4096) (k : Fin 33) :
    featArr t f (ix2 R k) = feat (fun j => f (ix1 j)) (t (ix2 R (0 : Fin 1))) k := by
  unfold feat
  pointwise [featArr, phases]
  refine dite_congr rfl (fun h => ?_) fun _ => rfl
  have e : (⟨k.val, h⟩ : Fin 1) = 0 := Subsingleton.elim _ _
  rw [e]

theorem V_b1 : (V m c main_v26 : FVec Ideal S1x64 .f32) = broadcastInDim S1x64 ![1] bcast_S64_S1x64_1 (m (c.tc.loc main_arg1)) := by
  unfold V
  simp only [hostOps0, hostOps0_1, hostOps0_2, hostOps0_3, hostOps0_4, List.flatten, List.append, List.cons_append, List.nil_append]
  after_results
theorem V_b2 : (V m c main_v27 : FVec Ideal S1x64 .f32) = broadcastInDim S1x64 ![1] bcast_S64_S1x64_1 (m (c.tc.loc main_arg3)) := by
  unfold V
  simp only [hostOps0, hostOps0_1, hostOps0_2, hostOps0_3, hostOps0_4, List.flatten, List.append, List.cons_append, List.nil_append]
  after_results
theorem V_b3 : (V m c main_v28 : FVec Ideal S1x64 .f32) = broadcastInDim S1x64 ![1] bcast_S64_S1x64_1 (m (c.tc.loc main_arg5)) := by
  unfold V
  simp only [hostOps0, hostOps0_1, hostOps0_2, hostOps0_3, hostOps0_4, List.flatten, List.append, List.cons_append, List.nil_append]
  after_results
theorem V_fr : (V m c main_v29 : FVec Ideal S1x64 .f32) = broadcastInDim S1x64 ![1] bcast_S64_S1x64_1 (m (c.tc.loc main_arg6)) := by
  unfold V
  simp only [hostOps0, hostOps0_1, hostOps0_2, hostOps0_3, hostOps0_4, List.flatten, List.append, List.cons_append, List.nil_append]
  after_results
theorem V_decay : (V m c main_v30 : FVec Ideal S2x1x512 .f32) = broadcastInDim S2x1x512 ![0, 2] bcast_S2x512_S2x1x512_0_2 (m (c.tc.loc main_arg8)) := by
  unfold V
  simp only [hostOps0, hostOps0_1, hostOps0_2, hostOps0_3, hostOps0_4, List.flatten, List.append, List.cons_append, List.nil_append]
  after_results

/-- A broadcast row reads its vector. -/
theorem row_read (b : FVec Ideal S64 .f32) (j : Fin 64) : broadcastInDim S1x64 ![1] bcast_S64_S1x64_1 b (ix2 (0 : Fin 1) j) = b (ix1 j) := by
  pointwise
theorem decay_read (d : FVec Ideal S2x512 .f32) (e : Fin 2) (q : Fin 512) :
    broadcastInDim S2x1x512 ![0, 2] bcast_S2x512_S2x1x512_0_2 d (ix3 e (0 : Fin 1) q) = d (ix2 e q) := by
  pointwise

theorem coords_row (t : Fin grid0.N) : (grid0.coords t 0).val = t.val := by
  revert t; decide +kernel
theorem row_word (t : Fin grid0.N) : (BitVec.ofNat 32 (grid0.coords t 0).val).toNat = t.val := by
  have : t.val < 8 := lt_of_lt_of_eq t.isLt N_0
  rw [coords_row, word_of (by omega)]
theorem half_out (t : Fin grid0.N) : cc0_transform_8 (grid0.coords t) 1 = t.val / 4 := by
  revert t; decide +kernel
theorem half_out0 (t : Fin grid0.N) : cc0_transform_8 (grid0.coords t) 0 = 0 := by
  revert t; decide +kernel
theorem half_decay (t : Fin grid0.N) : cc0_transform_9 (grid0.coords t) 0 = t.val / 4 := by
  revert t; decide +kernel

/-- Row `r` of the block of rows at grid point `t`, and its half. -/
def rowAt (t : Fin grid0.N) (r : Fin 512) : Fin 4096 := ⟨t.val * 512 + r.val, by have : t.val < 8 := lt_of_lt_of_eq t.isLt N_0; omega⟩
def halfAt (t : Fin grid0.N) : Fin 2 := ⟨t.val / 4, by have : t.val < 8 := lt_of_lt_of_eq t.isLt N_0; omega⟩

theorem feats_block (t : Fin grid0.N) (r : Fin 512) (k : Fin 33) :
    (iblk m c 0 t : Vec Ideal S512x33 .f32) (ix2 r k) = feat (fun j => bands (ix1 j)) (posAt (rowAt t r).val) k := by
  refine Eq.trans ?_ ((congrFun (V_feats m c) (ix2 (rowAt t r) k)).trans ((feats_apply _ _ _ _).trans (by rw [posArr_apply])))
  unfold iblk
  refine (View.read_apply ..).trans ?_
  show V m c main_v25 _ = V m c main_v25 _
  congr 1
  funext a
  apply Fin.ext
  match a with
  | ⟨0, _⟩ => show (BitVec.ofNat 32 (grid0.coords t 0).val).toNat * 512 + 1 * r.val = t.val * 512 + r.val; rw [row_word]; omega
  | ⟨1, _⟩ => show 0 * 33 + 1 * k.val = k.val; omega

theorem w1_block (t : Fin grid0.N) (k : Fin 33) (j : Fin 64) : (iblk m c 1 t : Vec Ideal S33x64 .f32) (ix2 k j) = (m (c.tc.loc main_arg0) : FVec Ideal S33x64 .f32) (ix2 k j) := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show 0 * 33 + 1 * k.val = k.val; omega
  | ⟨1, _⟩ => show 0 * 64 + 1 * j.val = j.val; omega

theorem w2_block (t : Fin grid0.N) (k : Fin 64) (j : Fin 64) : (iblk m c 3 t : Vec Ideal S64x64 .f32) (ix2 k j) = (m (c.tc.loc main_arg2) : FVec Ideal S64x64 .f32) (ix2 k j) := by
  refine Eq.trans ?_ (congrFun (V_main_arg2 m c) _)
  unfold iblk
  refine (View.read_apply ..).trans ?_
  show V m c main_arg2 _ = V m c main_arg2 _
  congr 1
  funext a
  apply Fin.ext
  match a with
  | ⟨0, _⟩ => show 0 * 64 + 1 * k.val = k.val; omega
  | ⟨1, _⟩ => show 0 * 64 + 1 * j.val = j.val; omega

theorem w3_block (t : Fin grid0.N) (k : Fin 64) (j : Fin 64) : (iblk m c 5 t : Vec Ideal S64x64 .f32) (ix2 k j) = (m (c.tc.loc main_arg4) : FVec Ideal S64x64 .f32) (ix2 k j) := by
  refine Eq.trans ?_ (congrFun (V_main_arg4 m c) _)
  unfold iblk
  refine (View.read_apply ..).trans ?_
  show V m c main_arg4 _ = V m c main_arg4 _
  congr 1
  funext a
  apply Fin.ext
  match a with
  | ⟨0, _⟩ => show 0 * 64 + 1 * k.val = k.val; omega
  | ⟨1, _⟩ => show 0 * 64 + 1 * j.val = j.val; omega

theorem b1_block (t : Fin grid0.N) (j : Fin 64) : (iblk m c 2 t : Vec Ideal S1x64 .f32) (ix2 (0 : Fin 1) j) = (m (c.tc.loc main_arg1) : FVec Ideal S64 .f32) (ix1 j) := by
  refine Eq.trans ?_ ((congrFun (V_b1 m c) (ix2 (0 : Fin 1) j)).trans (row_read _ _))
  unfold iblk
  refine (View.read_apply ..).trans ?_
  show V m c main_v26 _ = V m c main_v26 _
  congr 1
  funext a
  apply Fin.ext
  match a with
  | ⟨0, _⟩ => show 0 * 1 + 1 * 0 = 0; omega
  | ⟨1, _⟩ => show 0 * 64 + 1 * j.val = j.val; omega

theorem b2_block (t : Fin grid0.N) (j : Fin 64) : (iblk m c 4 t : Vec Ideal S1x64 .f32) (ix2 (0 : Fin 1) j) = (m (c.tc.loc main_arg3) : FVec Ideal S64 .f32) (ix1 j) := by
  refine Eq.trans ?_ ((congrFun (V_b2 m c) (ix2 (0 : Fin 1) j)).trans (row_read _ _))
  unfold iblk
  refine (View.read_apply ..).trans ?_
  show V m c main_v27 _ = V m c main_v27 _
  congr 1
  funext a
  apply Fin.ext
  match a with
  | ⟨0, _⟩ => show 0 * 1 + 1 * 0 = 0; omega
  | ⟨1, _⟩ => show 0 * 64 + 1 * j.val = j.val; omega

theorem b3_block (t : Fin grid0.N) (j : Fin 64) : (iblk m c 6 t : Vec Ideal S1x64 .f32) (ix2 (0 : Fin 1) j) = (m (c.tc.loc main_arg5) : FVec Ideal S64 .f32) (ix1 j) := by
  refine Eq.trans ?_ ((congrFun (V_b3 m c) (ix2 (0 : Fin 1) j)).trans (row_read _ _))
  unfold iblk
  refine (View.read_apply ..).trans ?_
  show V m c main_v28 _ = V m c main_v28 _
  congr 1
  funext a
  apply Fin.ext
  match a with
  | ⟨0, _⟩ => show 0 * 1 + 1 * 0 = 0; omega
  | ⟨1, _⟩ => show 0 * 64 + 1 * j.val = j.val; omega

theorem fr_block (t : Fin grid0.N) (j : Fin 64) : (iblk m c 7 t : Vec Ideal S1x64 .f32) (ix2 (0 : Fin 1) j) = (m (c.tc.loc main_arg6) : FVec Ideal S64 .f32) (ix1 j) := by
  refine Eq.trans ?_ ((congrFun (V_fr m c) (ix2 (0 : Fin 1) j)).trans (row_read _ _))
  unfold iblk
  refine (View.read_apply ..).trans ?_
  show V m c main_v29 _ = V m c main_v29 _
  congr 1
  funext a
  apply Fin.ext
  match a with
  | ⟨0, _⟩ => show 0 * 1 + 1 * 0 = 0; omega
  | ⟨1, _⟩ => show 0 * 64 + 1 * j.val = j.val; omega

theorem out_block (t : Fin grid0.N) (j : Fin 64) (q : Fin 512) :
    (iblk m c 8 t : Vec Ideal S64x512 .f32) (ix2 j q) = (m (c.tc.loc main_arg7) : FVec Ideal S64x1024 .f32) (ix2 j (col (halfAt t) q)) := by
  refine Eq.trans ?_ (congrFun (V_main_arg7 m c) _)
  unfold iblk
  refine (View.read_apply ..).trans ?_
  show V m c main_arg7 _ = V m c main_arg7 _
  congr 1
  funext a
  apply Fin.ext
  match a with
  | ⟨0, _⟩ => show cc0_transform_8 (grid0.coords t) 0 * 64 + 1 * j.val = j.val; rw [half_out0]; omega
  | ⟨1, _⟩ => show cc0_transform_8 (grid0.coords t) 1 * 512 + 1 * q.val = t.val / 4 * 512 + q.val; rw [half_out]; omega

theorem decay_block (t : Fin grid0.N) (q : Fin 512) :
    (iblk m c 9 t : Vec Ideal S1x1x512 .f32) (ix3 (0 : Fin 1) (0 : Fin 1) q) = (m (c.tc.loc main_arg8) : FVec Ideal S2x512 .f32) (ix2 (halfAt t) q) := by
  refine Eq.trans ?_ ((congrFun (V_decay m c) (ix3 (halfAt t) (0 : Fin 1) q)).trans (decay_read _ _ _))
  unfold iblk
  refine (View.read_apply ..).trans ?_
  show V m c main_v30 _ = V m c main_v30 _
  congr 1
  funext a
  apply Fin.ext
  match a with
  | ⟨0, _⟩ => show cc0_transform_9 (grid0.coords t) 0 * 1 + 1 * 0 = t.val / 4; rw [half_decay]; omega
  | ⟨1, _⟩ => show 0 * 1 + 1 * 0 = 0; omega
  | ⟨2, _⟩ => show 0 * 512 + 1 * q.val = q.val; omega

/-- What the body leaves in its block of the result. -/
theorem out_eq (i : grid0.Coords) (x0 : Vec Ideal S512x33 .f32) (x1 : Vec Ideal S33x64 .f32) (x2 : Vec Ideal S1x64 .f32) (x3 : Vec Ideal S64x64 .f32)
    (x4 : Vec Ideal S1x64 .f32) (x5 : Vec Ideal S64x64 .f32) (x6 x7 : Vec Ideal S1x64 .f32) (x8 : Vec Ideal S64x512 .f32) (x9 : Vec Ideal S1x1x512 .f32) :
    out0_10 i x0 x1 x2 x3 x4 x5 x6 x7 x8 x9 = k0_pay1 (BitVec.ofNat 32 (i 0).val) (k0_pay3 x0 x7 x1 x2 x3 x4 x5 x6 x8) (k0_pay4 x0) x9 := by
  unfold out0_10
  rw [View.canon_unit_zero zero2]
  simp only [View.ld_unit_zero (S := S512x33) zero2, View.ld_unit_zero (S := S33x64) zero2, View.ld_unit_zero (S := S1x64) zero2,
    View.ld_unit_zero (S := S64x64) zero2, View.ld_unit_zero (S := S64x512) zero2, View.ld_unit_zero (S := S1x1x512) zero3]

/-- The result array. -/
def resultArr : FVec Ideal S4096x512 .f32 :=
  circ (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8))

/-- What every point leaves in its block of the result. -/
theorem block_at (t : Fin grid0.N) (r q : Fin 512) :
    out0_10 (grid0.coords t) (iblk m c 0 t) (iblk m c 1 t) (iblk m c 2 t) (iblk m c 3 t) (iblk m c 4 t) (iblk m c 5 t) (iblk m c 6 t) (iblk m c 7 t)
      (iblk m c 8 t) (iblk m c 9 t) (ix2 r q) = resultArr m c (ix2 (rowAt t r) q) := by
  have ht : t.val < 8 := lt_of_lt_of_eq t.isLt N_0
  rw [out_eq, coords_row, pay1_apply _ ht, pay3_apply, pay4_apply]
  simp only [feats_block, w1_block, b1_block, w2_block, b2_block, w3_block, b3_block, fr_block, out_block, decay_block]
  have e : (⟨(rowAt t r).val / 2048, by have := (rowAt t r).isLt; omega⟩ : Fin 2) = halfAt t :=
    Fin.ext (show (t.val * 512 + r.val) / 2048 = t.val / 4 by omega)
  refine Eq.trans ?_ (circ_apply ..).symm
  rw [e]
  rfl

/-- What a point writes back is its block of the result. -/
theorem flushed_eq (t : Fin cfg0.N) (hf : (cfg0.win 10).flush t = true) :
    (dats m 0 c).flushed 10 t = ((cfg0.win 10).blk t).view.read (Elt Ideal) (resultArr m c) := by
  refine funext fun (y : S512x512.Idx) => ?_
  refine Eq.trans ?_ (View.read_apply ..).symm
  refine Eq.trans (b := out0_10 (grid0.coords t) (iblk m c 0 t) (iblk m c 1 t) (iblk m c 2 t) (iblk m c 3 t) (iblk m c 4 t) (iblk m c 5 t)
    (iblk m c 6 t) (iblk m c 7 t) (iblk m c 8 t) (iblk m c 9 t) y) (congrFun (after0_10 m c t) y) ?_
  obtain ⟨r, q, rfl⟩ := idx2 y
  refine (block_at m c t r q).trans ?_
  show resultArr m c (ix2 (rowAt t r) q) = resultArr m c _
  congr 1
  funext a
  apply Fin.ext
  match a with
  | ⟨0, _⟩ => show t.val * 512 + r.val = (BitVec.ofNat 32 (grid0.coords t 0).val).toNat * 512 + 1 * r.val; rw [row_word]; omega
  | ⟨1, _⟩ => show q.val = 0 * 512 + 1 * q.val; omega

/-- Every index of the array is in the block some point writes back. -/
theorem covered (y : S4096x512.Idx) : ∃ t : Fin cfg0.N, (cfg0.win 10).flush t = true ∧ y ∈ ((cfg0.win 10).blk t).view.set := by
  have h0 : (y 0 : Nat) < 4096 := (y 0).isLt
  have h1 : (y 1 : Nat) < 512 := (y 1).isLt
  have hN : cfg0.N = 8 := N_0
  let t : Fin cfg0.N := ⟨(y 0).val / 512, by omega⟩
  refine ⟨t, flush0_10 t, ?_⟩
  refine (iff_of_eq (congrArg (fun S => y ∈ S) (View.set_slice_whole main_v31 ((cfg0.win 10).rect t)))).mpr ?_
  refine Rect.mem_set_unit.mpr fun a => ?_
  match a with
  | ⟨0, _⟩ =>
    show (BitVec.ofNat 32 (grid0.coords t 0).val).toNat * 512 ≤ (y 0).val ∧ (y 0).val < (BitVec.ofNat 32 (grid0.coords t 0).val).toNat * 512 + 512
    rw [row_word]; show (y 0).val / 512 * 512 ≤ (y 0).val ∧ (y 0).val < (y 0).val / 512 * 512 + 512; omega
  | ⟨1, _⟩ => show 0 * 512 ≤ (y 1).val ∧ (y 1).val < 0 * 512 + 512; omega

/-- The array after the run. -/
theorem final_eq : (dats m 0 c).arrAt 10 cfg0.N = resultArr m c :=
  (dats m 0 c).arrAt_eq_of_cover 10 (resultArr m c) (flushed_eq m c) covered

end kernel

section reference

open Cert.Reference7Ideal Cert.Reference7Ideal.Read

variable (x0 : FVec Ideal S33x64 .f32) (x1 : FVec Ideal S64 .f32) (x2 : FVec Ideal S64x64 .f32) (x3 : FVec Ideal S64 .f32)
  (x4 : FVec Ideal S64x64 .f32) (x5 x6 : FVec Ideal S64 .f32) (x7 : FVec Ideal S64x1024 .f32) (x8 : FVec Ideal S2x512 .f32)

theorem ref_feat (r : Fin 2048) (k : Fin 33) : val_main_v19 (F := Ideal) (ix2 r k) = feat (fun j => bands (ix1 j)) (posAt r.val) k := by
  unfold feat bands posAt
  rw [if_pos r.isLt]
  pointwise [val_main_v19, val_main_v18, val_main_v17, val_main_v16, val_main_v15, val_main_v14, val_main_v13, val_main_v12, val_main_v11, val_main_v10,
    val_main_v9, val_main_v8, val_main_v7, val_main_v6, val_main_v5, val_main_v3, val_main_v2, val_main_v1, val_main_v0, val_main_cst, val_main_cst_1, val_main_cst_2]

theorem ref_hidden (r : Fin 2048) (j : Fin 64) :
    val_main_v43 (F := Ideal) x0 x1 x2 x3 x4 x5 x6 (ix2 r j) = hidden (fun k => val_main_v19 (F := Ideal) (ix2 r k)) (fun k j => x0 (ix2 k j))
      (fun j => x1 (ix1 j)) (fun k j => x2 (ix2 k j)) (fun j => x3 (ix1 j)) (fun k j => x4 (ix2 k j)) (fun j => x5 (ix1 j)) (fun j => x6 (ix1 j)) j := by
  unfold hidden layer
  pointwise [val_main_v43, val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24, val_main_v23,
    val_main_v22, val_main_v21, val_main_v20]

theorem ref_out (r : Fin 2048) (q : Fin 1024) :
    val_main_v44 (F := Ideal) x0 x1 x2 x3 x4 x5 x6 x7 (ix2 r q) = ∑ j, val_main_v43 (F := Ideal) x0 x1 x2 x3 x4 x5 x6 (ix2 r j) * x7 (ix2 j q) := by
  pointwise [val_main_v44]

theorem ref_split (r : Fin 2048) (e : Fin 2) (q : Fin 512) :
    val_main_v45 (F := Ideal) x0 x1 x2 x3 x4 x5 x6 x7 (ix3 r e q) = val_main_v44 (F := Ideal) x0 x1 x2 x3 x4 x5 x6 x7 (ix2 r (col e q)) := by
  refine (val_main_v45_apply ..).trans ?_
  congr 1
  funext a
  apply Fin.ext
  match a with
  | ⟨0, _⟩ => show ((r.val * 2 + e.val) * 512 + q.val) / 1024 = r.val; omega
  | ⟨1, _⟩ => show ((r.val * 2 + e.val) * 512 + q.val) % 1024 = e.val * 512 + q.val; omega

theorem ref_window (r : Fin 2048) (e : Fin 2) (q : Fin 512) :
    val_main_v53 (F := Ideal) x8 (ix3 r e q) = Ideal.exp (-Ideal.div (FloatOps.sitofp (F := Ideal) .f32 (BitVec.ofNat 32 r.val)) (Ideal.ofBits .f32 0x44FFE000#32)
      * FloatOps.absf (F := Ideal) (φ := .f32) (x8 (ix2 e q))) := by
  pointwise [val_main_v53, val_main_v52, val_main_v51, val_main_v50, val_main_v49, val_main_v48, val_main_v47, val_main_v46, val_main_v3, val_main_v2,
    val_main_v1, val_main_v0, val_main_cst]

theorem feat_zero (f : Fin 16 → EReal) (t : EReal) : feat f t 0 = Ideal.div t (Ideal.ofBits .f32 0x44FFE000#32) := by
  unfold feat
  exact dif_pos (show (0 : Fin 33).val < 1 from Nat.one_pos)

/-- The reference's coefficient at a position. -/
theorem ref_tap (r : Fin 2048) (e : Fin 2) (q : Fin 512) :
    val_main_v54 (F := Ideal) x0 x1 x2 x3 x4 x5 x6 x7 x8 (ix3 r e q) = tap x0 x1 x2 x3 x4 x5 x6 x7 x8 (posAt r.val) e q := by
  refine (val_main_v54_apply ..).trans ?_
  rw [ref_split, ref_out, ref_window]
  unfold tap coef
  rw [feat_zero]
  simp only [ref_hidden, ref_feat]
  unfold posAt
  rw [if_pos r.isLt]
  rfl

theorem ref_fwd (r : Fin 2048) (q : Fin 512) :
    val_main_v56 (F := Ideal) x0 x1 x2 x3 x4 x5 x6 x7 x8 (ix2 r q) = val_main_v54 (F := Ideal) x0 x1 x2 x3 x4 x5 x6 x7 x8 (ix3 r (0 : Fin 2) q) := by
  refine (val_main_v56_apply ..).trans ((val_main_v55_apply ..).trans ?_)
  congr 1
  funext a
  apply Fin.ext
  match a with
  | ⟨0, _⟩ => show (r.val * 512 + q.val) / 512 = r.val; omega
  | ⟨1, _⟩ => rfl
  | ⟨2, _⟩ => show (r.val * 512 + q.val) % 512 = q.val; omega

theorem ref_bwd (r : Fin 2048) (q : Fin 512) :
    val_main_v58 (F := Ideal) x0 x1 x2 x3 x4 x5 x6 x7 x8 (ix2 r q) = val_main_v54 (F := Ideal) x0 x1 x2 x3 x4 x5 x6 x7 x8 (ix3 r (1 : Fin 2) q) := by
  refine (val_main_v58_apply ..).trans ((val_main_v57_apply ..).trans ?_)
  congr 1
  funext a
  apply Fin.ext
  match a with
  | ⟨0, _⟩ => show (r.val * 512 + q.val) / 512 = r.val; omega
  | ⟨1, _⟩ => rfl
  | ⟨2, _⟩ => show (r.val * 512 + q.val) % 512 = q.val; omega

theorem ref_circ (R : Fin 4096) (q : Fin 512) :
    val_main_v62 (F := Ideal) x0 x1 x2 x3 x4 x5 x6 x7 x8 (ix2 R q)
      = if h : R.val < 2048 then val_main_v56 (F := Ideal) x0 x1 x2 x3 x4 x5 x6 x7 x8 (ix2 (⟨R.val, h⟩ : Fin 2048) q)
        else if h : R.val - 2048 < 1 then 0
        else val_main_v58 (F := Ideal) x0 x1 x2 x3 x4 x5 x6 x7 x8 (ix2 (⟨4096 - R.val, by omega⟩ : Fin 2048) q) := by
  pointwise [val_main_v62, val_main_v61, val_main_v60, val_main_v59, val_main_cst_3]
  refine dite_congr rfl (fun _ => rfl) fun h => dite_congr rfl (fun _ => rfl) fun h2 => ?_
  have hR := R.isLt
  congr 1
  funext a
  apply Fin.ext
  match a with
  | ⟨0, _⟩ => show 1 + (2047 - (R.val - 2048 - 1 + 1)) = 4096 - R.val; omega
  | ⟨1, _⟩ => rfl

/-- The reference's array is the circular filter. -/
theorem ref_eq : val_main_v62 (F := Ideal) x0 x1 x2 x3 x4 x5 x6 x7 x8 = circ x0 x1 x2 x3 x4 x5 x6 x7 x8 := by
  refine funext fun (y : S4096x512.Idx) => ?_
  obtain ⟨R, q, rfl⟩ := idx2 y
  rw [ref_circ]
  have hR := R.isLt
  refine Eq.trans ?_ (circ_apply ..).symm
  by_cases h : R.val < 2048
  · have e : (⟨R.val / 2048, by omega⟩ : Fin 2) = 0 := Fin.ext (show R.val / 2048 = 0 by omega)
    rw [dif_pos h, if_neg (by omega), ref_fwd, ref_tap, e]
  · rw [dif_neg h]
    by_cases h2 : R.val = 2048
    · rw [dif_pos (by omega), if_pos h2]
    · have e : (⟨R.val / 2048, by omega⟩ : Fin 2) = 1 := Fin.ext (show R.val / 2048 = 1 by omega)
      have ep : posAt (4096 - R.val) = posAt R.val := by
        unfold posAt
        rw [if_pos (by omega), if_neg h]
      rw [dif_neg (by omega), if_neg h2, ref_bwd, ref_tap, e]
      show tap x0 x1 x2 x3 x4 x5 x6 x7 x8 (posAt (4096 - R.val)) 1 q = _
      rw [ep]

end reference

/-- The kernel runs and leaves its arguments. -/
theorem frame_kernel : Cert.quiescent_Kernel7 := fun m ρ _ => Cert.Kernel7.Gen.frame m ρ

/-- The ideal kernel runs and leaves its arguments. -/
theorem frame_ideal : Cert.quiescent_Kernel7Ideal := fun m ρ _ => Cert.Kernel7Ideal.Gen.frame m ρ

/-- The reference runs and leaves its arguments. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- From memories that agree on the arguments the reference's array is the same. -/
theorem args_eq (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (h : m' (c.tc.loc Cert.Reference7Ideal.main_arg0) = m (c.tc.loc Cert.Kernel7Ideal.main_arg0)
      ∧ m' (c.tc.loc Cert.Reference7Ideal.main_arg1) = m (c.tc.loc Cert.Kernel7Ideal.main_arg1)
      ∧ m' (c.tc.loc Cert.Reference7Ideal.main_arg2) = m (c.tc.loc Cert.Kernel7Ideal.main_arg2)
      ∧ m' (c.tc.loc Cert.Reference7Ideal.main_arg3) = m (c.tc.loc Cert.Kernel7Ideal.main_arg3)
      ∧ m' (c.tc.loc Cert.Reference7Ideal.main_arg4) = m (c.tc.loc Cert.Kernel7Ideal.main_arg4)
      ∧ m' (c.tc.loc Cert.Reference7Ideal.main_arg5) = m (c.tc.loc Cert.Kernel7Ideal.main_arg5)
      ∧ m' (c.tc.loc Cert.Reference7Ideal.main_arg6) = m (c.tc.loc Cert.Kernel7Ideal.main_arg6)
      ∧ m' (c.tc.loc Cert.Reference7Ideal.main_arg7) = m (c.tc.loc Cert.Kernel7Ideal.main_arg7)
      ∧ m' (c.tc.loc Cert.Reference7Ideal.main_arg8) = m (c.tc.loc Cert.Kernel7Ideal.main_arg8)) :
    Cert.Reference7Ideal.Read.val_main_v62 (F := Ideal) (m' (c.tc.loc Cert.Reference7Ideal.main_arg0)) (m' (c.tc.loc Cert.Reference7Ideal.main_arg1)) (m' (c.tc.loc Cert.Reference7Ideal.main_arg2)) (m' (c.tc.loc Cert.Reference7Ideal.main_arg3)) (m' (c.tc.loc Cert.Reference7Ideal.main_arg4)) (m' (c.tc.loc Cert.Reference7Ideal.main_arg5)) (m' (c.tc.loc Cert.Reference7Ideal.main_arg6)) (m' (c.tc.loc Cert.Reference7Ideal.main_arg7)) (m' (c.tc.loc Cert.Reference7Ideal.main_arg8))
    = Cert.Reference7Ideal.Read.val_main_v62 (F := Ideal) (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)) (m (c.tc.loc Cert.Kernel7Ideal.main_arg7)) (m (c.tc.loc Cert.Kernel7Ideal.main_arg8)) := by
  obtain ⟨e0, e1, e2, e3, e4, e5, e6, e7, e8⟩ := h
  congr 1

/-- The filter's kernel and its plain definition end with the same array. -/
theorem same : Cert.algebraic_Kernel7Ideal_Reference7Ideal := by
  intro m ρ m' ρ' _ hag
  refine ⟨fun c => resultArr m c, ?_, ?_⟩
  · exact (θ_run Cert.Kernel7Ideal.defs _ _).mono (fun r h c => ⟨(h c).1.trans (final_eq m c), (h c).2⟩)
      (Cert.Kernel7Ideal.Value.run_blocks m ρ)
  · refine (θ_run Cert.Reference7Ideal.defs _ _).mono (fun r h c => ⟨(h c).1.trans ?_, (h c).2⟩)
      (Cert.Reference7Ideal.Value.run (F := Ideal) m' ρ')
    exact (Cert.Reference7Ideal.Read.val_main_v62_eq (F := Ideal) _ _).trans
      ((args_eq m m' c (hag c)).trans (ref_eq ..))

end Cert.Filter

end
-- ==== Proof.HyConv.lean ====
module

public import proofs.«01_k».proof.Proof.Norm
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Defs

/-! The Hyena mixer's short convolution: three rows of a sequence under three taps, with zeros past either end. The kernel
copies each sequence between two bands of zero rows and walks it in chunks of 256 rows; the reference pads with one zero row. -/

@[expose] public section

set_option maxRecDepth 16384

noncomputable section

open scoped BigOperators

namespace Cert.HyConv

open Idealize.ShloMosaic Idealize.ShloMosaic.TcCoe Idealize.SL.Sem Idealize.ShloMosaic.StableHlo
open Cert.Norm

/-- Row `p` of a sequence held with eight rows of zeros on either side. -/
def padded (x : Fin 2048 → EReal) (p : ℕ) : EReal := if h : 8 ≤ p ∧ p < 2056 then x ⟨p - 8, by omega⟩ else 0

/-- Three neighbouring rows under the taps, the middle row first. -/
def conv (x : Fin 2048 → EReal) (w : Fin 3 → EReal) (r : ℕ) : EReal :=
  w 1 * padded x (r + 8) + w 0 * padded x (r + 7) + w 2 * padded x (r + 9)

/-- Column `q` of the `e`-th third. -/
def part (e : Fin 3) (q : Fin 512) : Fin 1536 := ⟨e.val * 512 + q.val, by omega⟩

/-- One channel of one sequence of the projection. -/
def seqOf (P : Fin 32768 → Fin 8832 → EReal) (b : Fin 16) (j : Fin 1536) (t : Fin 2048) : EReal :=
  P ⟨b.val * 2048 + t.val, by omega⟩ ⟨7168 + j.val, by omega⟩

/-- The convolved projection at a row and a channel. -/
def mixed (P : Fin 32768 → Fin 8832 → EReal) (W : Fin 3 → Fin 1536 → EReal) (R : Fin 32768) (j : Fin 1536) : EReal :=
  conv (seqOf P ⟨R.val / 2048, by omega⟩ j) (fun k => W k j) (R.val % 2048)

section body

open Cert.Kernel8Ideal Cert.Kernel8Ideal.Gen

theorem loop_trips : k0_t1_loop.trips = 8 := by decide +kernel

theorem off1 (k : Fin k0_t1_loop.trips) : k0_off1 k = ![0, k.val * 256, 0] := by revert k; decide +kernel
theorem off2 (k : Fin k0_t1_loop.trips) : k0_off2 k = ![1, k.val * 256, 0] := by revert k; decide +kernel
theorem off3 (k : Fin k0_t1_loop.trips) : k0_off3 k = ![2, k.val * 256, 0] := by revert k; decide +kernel
theorem off4 (k : Fin k0_t1_loop.trips) : k0_off4 k = ![k.val * 256, 0] := by revert k; decide +kernel

theorem pay4_apply (u : Vec Ideal S1x272x128 .f32) (a b d : Vec Ideal S1x128 .f32) (r : Fin 256) (q : Fin 128) :
    k0_pay4 u a b d (ix2 r q) = a (ix2 (0 : Fin 1) q) * u (ix3 (0 : Fin 1) (⟨r.val + 8, by omega⟩ : Fin 272) q)
      + b (ix2 (0 : Fin 1) q) * u (ix3 (0 : Fin 1) (⟨r.val + 7, by omega⟩ : Fin 272) q)
      + d (ix2 (0 : Fin 1) q) * u (ix3 (0 : Fin 1) (⟨r.val + 9, by omega⟩ : Fin 272) q) := by
  pointwise [k0_pay4]
  have e8 : 8 + r.val = r.val + 8 := by omega
  have e7 : (r.val + 8 + 272 - 1) % 272 = r.val + 7 := by omega
  have e9 : (r.val + 8 + 272 - 271) % 272 = r.val + 9 := by omega
  simp only [e8, e7, e9]

theorem pay5_apply (u : Vec Ideal S1x272x128 .f32) (a b d : Vec Ideal S1x128 .f32) : k0_pay5 u a b d = k0_pay4 u a b d := rfl

theorem pay3_apply (v : FVec Ideal S256x128 .f32) (u : Vec Ideal S1x272x128 .f32) (a b d : Vec Ideal S1x128 .f32) (r : Fin 256) (q : Fin 128) :
    k0_pay3 v u a b d (ix2 r q) = k0_pay4 u a b d (ix2 r q) * v (ix2 r q) := rfl

theorem source_apply (x : Vec Ideal S2048x128 .f32) (r : Fin 2048) (q : Fin 128) : k0_pay9 x (ix3 (0 : Fin 1) r q) = x (ix2 r q) := by
  pointwise [k0_pay9]

theorem zeros_apply (r : Fin 8) (q : Fin 128) : k0_pay7 (F := Ideal) (ix3 (0 : Fin 1) r q) = 0 := by
  pointwise [k0_pay7, k0_pay6]

variable {F : FTy → Type} [FloatOps F] (c : Dev nD) (i : grid0.Coords)
  (a2 : Memref sig .tc .vmem S2048x128 .f32) (h2 : a2.IsWhole) (a3 : Memref sig .tc .vmem S2048x128 .f32) (h3 : a3.IsWhole)
  (a4 : Memref sig .tc .vmem S2048x128 .f32) (h4 : a4.IsWhole) (a5 : Memref sig .tc .vmem S3x128 .f32) (h5 : a5.IsWhole)
  (a6 : Memref sig .tc .vmem S3x128 .f32) (h6 : a6.IsWhole) (a7 : Memref sig .tc .vmem S3x128 .f32) (h7 : a7.IsWhole)
  (a8 : Memref sig .tc .vmem S2048x128 .f32) (h8 : a8.IsWhole) (a9 : Memref sig .tc .vmem S2048x128 .f32) (h9 : a9.IsWhole)
  (a10 : Memref sig .tc .vmem S3x2064x128 .f32) (h10 : a10.IsWhole)
  (x0 x1 x2 : Vec F S2048x128 .f32) (x3 x4 x5 : Vec F S3x128 .f32)

theorem trip_first (𝒱 : Variants) (bd : Option 𝒱.V) (y5 : BufTy.Contents (Elt F) a5.view.ty) (y6 : BufTy.Contents (Elt F) a6.view.ty)
    (y7 : BufTy.Contents (Elt F) a7.view.ty) (y10 : BufTy.Contents (Elt F) a10.view.ty) (k : Fin k0_t1_loop.trips) :
    (trip_k0_t1 (F := F) 𝒱 c bd i a2 h2 a3 h3 a4 h4 a5 h5 a6 h6 a7 h7 a8 h8 a9 h9 a10 h10 y5 y6 y7 y10 k).1
      = [⟨Rect.unit (s := S2048x128) (k0_off4 k) S256x128.size (k0_off4_inb k),
          k0_pay3
            (k0_pay5 (a10.view.readAt (Elt F) (Rect.unit (s := S3x2064x128) (k0_off2 k) S1x272x128.size (k0_off2_inb k)).toLoadRect y10)
              (a6.view.readAt (Elt F) (Rect.unit (s := S3x128) ![1, 0] S1x128.size inb_S3x128_S1x128_1_0).toLoadRect y6)
              (a6.view.readAt (Elt F) (Rect.unit (s := S3x128) ![0, 0] S1x128.size inb_S3x128_S1x128_0_0).toLoadRect y6)
              (a6.view.readAt (Elt F) (Rect.unit (s := S3x128) ![2, 0] S1x128.size inb_S3x128_S1x128_2_0).toLoadRect y6))
            (a10.view.readAt (Elt F) (Rect.unit (s := S3x2064x128) (k0_off3 k) S1x272x128.size (k0_off3_inb k)).toLoadRect y10)
            (a7.view.readAt (Elt F) (Rect.unit (s := S3x128) ![1, 0] S1x128.size inb_S3x128_S1x128_1_0).toLoadRect y7)
            (a7.view.readAt (Elt F) (Rect.unit (s := S3x128) ![0, 0] S1x128.size inb_S3x128_S1x128_0_0).toLoadRect y7)
            (a7.view.readAt (Elt F) (Rect.unit (s := S3x128) ![2, 0] S1x128.size inb_S3x128_S1x128_2_0).toLoadRect y7)⟩] := by
  unfold trip_k0_t1
  rfl

theorem trip_second (𝒱 : Variants) (bd : Option 𝒱.V) (y5 : BufTy.Contents (Elt F) a5.view.ty) (y6 : BufTy.Contents (Elt F) a6.view.ty)
    (y7 : BufTy.Contents (Elt F) a7.view.ty) (y10 : BufTy.Contents (Elt F) a10.view.ty) (k : Fin k0_t1_loop.trips) :
    (trip_k0_t1 (F := F) 𝒱 c bd i a2 h2 a3 h3 a4 h4 a5 h5 a6 h6 a7 h7 a8 h8 a9 h9 a10 h10 y5 y6 y7 y10 k).2.1
      = [⟨Rect.unit (s := S2048x128) (k0_off4 k) S256x128.size (k0_off4_inb k),
          k0_pay4 (a10.view.readAt (Elt F) (Rect.unit (s := S3x2064x128) (k0_off1 k) S1x272x128.size (k0_off1_inb k)).toLoadRect y10)
            (a5.view.readAt (Elt F) (Rect.unit (s := S3x128) ![1, 0] S1x128.size inb_S3x128_S1x128_1_0).toLoadRect y5)
            (a5.view.readAt (Elt F) (Rect.unit (s := S3x128) ![0, 0] S1x128.size inb_S3x128_S1x128_0_0).toLoadRect y5)
            (a5.view.readAt (Elt F) (Rect.unit (s := S3x128) ![2, 0] S1x128.size inb_S3x128_S1x128_2_0).toLoadRect y5)⟩] := by
  unfold trip_k0_t1
  rfl

/-- The scratch as the loop finds it: the three sequences, each with its rows of zeros. -/
def held : BufTy.Contents (Elt F) a10.view.ty :=
  a10.view.writes (Elt F) a10.view.junk
    [⟨Rect.unit (s := S3x2064x128) ![2, 8, 0] S1x2048x128.size inb_S3x2064x128_S1x2048x128_2_8_0, k0_pay2 x2⟩,
     ⟨Rect.unit (s := S3x2064x128) ![2, 2056, 0] S1x8x128.size inb_S3x2064x128_S1x8x128_2_2056_0, k0_pay1 k0_pay6⟩,
     ⟨Rect.unit (s := S3x2064x128) ![2, 0, 0] S1x8x128.size inb_S3x2064x128_S1x8x128_2_0_0, k0_pay13⟩,
     ⟨Rect.unit (s := S3x2064x128) ![1, 8, 0] S1x2048x128.size inb_S3x2064x128_S1x2048x128_1_8_0, k0_pay12 x1⟩,
     ⟨Rect.unit (s := S3x2064x128) ![1, 2056, 0] S1x8x128.size inb_S3x2064x128_S1x8x128_1_2056_0, k0_pay11⟩,
     ⟨Rect.unit (s := S3x2064x128) ![1, 0, 0] S1x8x128.size inb_S3x2064x128_S1x8x128_1_0_0, k0_pay10⟩,
     ⟨Rect.unit (s := S3x2064x128) ![0, 8, 0] S1x2048x128.size inb_S3x2064x128_S1x2048x128_0_8_0, k0_pay9 x0⟩,
     ⟨Rect.unit (s := S3x2064x128) ![0, 2056, 0] S1x8x128.size inb_S3x2064x128_S1x8x128_0_2056_0, k0_pay8⟩,
     ⟨Rect.unit (s := S3x2064x128) ![0, 0, 0] S1x8x128.size inb_S3x2064x128_S1x8x128_0_0_0, k0_pay7⟩]

theorem run_first : (kernelRun0_A c i a2 h2 a3 h3 a4 h4 a5 h5 a6 h6 a7 h7 a8 h8 a9 h9 a10 h10 x0 x1 x2 x3 x4 x5).1
    = (pb_k0_t1 Variants.none c none i a2 h2 a3 h3 a4 h4 a5 h5 a6 h6 a7 h7 a8 h8 a9 h9 a10 h10 (h5.unread x3) (h6.unread x4) (h7.unread x5)
        (held a10 x0 x1 x2) k0_t1_loop.trips).1 := by
  unfold kernelRun0_A
  dsimp only
  sl_unfold_words
  unfold held
  simp only [View.readAt_eq_ld, h2.read_unread, h3.read_unread, h4.read_unread, View.ld_unit_zero (S := S2048x128) zero2]

theorem run_second : (kernelRun0_A c i a2 h2 a3 h3 a4 h4 a5 h5 a6 h6 a7 h7 a8 h8 a9 h9 a10 h10 x0 x1 x2 x3 x4 x5).2.1
    = (pb_k0_t1 Variants.none c none i a2 h2 a3 h3 a4 h4 a5 h5 a6 h6 a7 h7 a8 h8 a9 h9 a10 h10 (h5.unread x3) (h6.unread x4) (h7.unread x5)
        (held a10 x0 x1 x2) k0_t1_loop.trips).2 := by
  unfold kernelRun0_A
  dsimp only
  sl_unfold_words
  unfold held
  simp only [View.readAt_eq_ld, h2.read_unread, h3.read_unread, h4.read_unread, View.ld_unit_zero (S := S2048x128) zero2]

end body

section values

open Cert.Kernel8Ideal Cert.Kernel8Ideal.Gen

variable (c : Dev nD) (i : grid0.Coords)
  (a2 : Memref sig .tc .vmem S2048x128 .f32) (h2 : a2.IsWhole) (a3 : Memref sig .tc .vmem S2048x128 .f32) (h3 : a3.IsWhole)
  (a4 : Memref sig .tc .vmem S2048x128 .f32) (h4 : a4.IsWhole) (a5 : Memref sig .tc .vmem S3x128 .f32) (h5 : a5.IsWhole)
  (a6 : Memref sig .tc .vmem S3x128 .f32) (h6 : a6.IsWhole) (a7 : Memref sig .tc .vmem S3x128 .f32) (h7 : a7.IsWhole)
  (a8 : Memref sig .tc .vmem S2048x128 .f32) (h8 : a8.IsWhole) (a9 : Memref sig .tc .vmem S2048x128 .f32) (h9 : a9.IsWhole)
  (a10 : Memref sig .tc .vmem S3x2064x128 .f32) (h10 : a10.IsWhole)
  (x0 x1 x2 : Vec Ideal S2048x128 .f32) (x3 x4 x5 : Vec Ideal S3x128 .f32)

/-- The three sequences with their rows of zeros, as one array. -/
def padArr : S3x2064x128.Idx → EReal := fun y => padded (fun r => (![x0, x1, x2] : Fin 3 → Vec Ideal S2048x128 .f32) (y 0) (ix2 r (y 2))) (y 1).val

theorem padArr_of (y : S3x2064x128.Idx) (s : Fin 3) (p : ℕ) (q : Fin 128) (h0 : y 0 = s) (h1 : (y 1).val = p) (h2 : y 2 = q) :
    padArr x0 x1 x2 y = padded (fun r => (![x0, x1, x2] : Fin 3 → Vec Ideal S2048x128 .f32) s (ix2 r q)) p := by
  subst h0 h1 h2; rfl

theorem padded_mid (x : Fin 2048 → EReal) (r : Fin 2048) (p : ℕ) (h : p = 8 + r.val) : padded x p = x r := by
  subst h
  unfold padded
  rw [dif_pos (by omega)]
  congr 1
  exact Fin.ext (Nat.add_sub_cancel_left ..)

theorem idx3 {a b d : ℕ} (y : (⟨3, ![a, b, d]⟩ : Shape).Idx) : ∃ (r : Fin a) (k : Fin b) (q : Fin d), y = ix3 r k q :=
  ⟨y 0, y 1, y 2, funext fun a => by fin_cases a <;> rfl⟩

theorem zeros_piece (s : Fin 3) (o : ℕ) (ho : o = 0 ∨ o = 2056) (inb : ∀ a, (![s.val, o, 0] : Fin 3 → ℕ) a + S1x8x128.size a ≤ S3x2064x128.size a)
    (w : FVec Ideal S1x8x128 .f32) (hw : w = k0_pay7) (x : (Rect.unit (s := S3x2064x128) ![s.val, o, 0] S1x8x128.size inb).shape.Idx) :
    w x = padArr x0 x1 x2 ((Rect.unit (s := S3x2064x128) ![s.val, o, 0] S1x8x128.size inb).emb x) := by
  subst hw
  obtain ⟨z, r, q, rfl⟩ := idx3 (a := 1) (b := 8) (d := 128) x
  obtain rfl := Subsingleton.elim z 0
  refine (zeros_apply r q).trans ?_
  unfold padArr padded
  rw [dif_neg]
  show ¬(8 ≤ o + 1 * r.val ∧ o + 1 * r.val < 2056)
  omega

theorem source_piece (s : Fin 3) (inb : ∀ a, (![s.val, 8, 0] : Fin 3 → ℕ) a + S1x2048x128.size a ≤ S3x2064x128.size a)
    (w : FVec Ideal S1x2048x128 .f32) (hw : w = k0_pay9 ((![x0, x1, x2] : Fin 3 → Vec Ideal S2048x128 .f32) s))
    (x : (Rect.unit (s := S3x2064x128) ![s.val, 8, 0] S1x2048x128.size inb).shape.Idx) :
    w x = padArr x0 x1 x2 ((Rect.unit (s := S3x2064x128) ![s.val, 8, 0] S1x2048x128.size inb).emb x) := by
  subst hw
  obtain ⟨z, r, q, rfl⟩ := idx3 (a := 1) (b := 2048) (d := 128) x
  obtain rfl := Subsingleton.elim z 0
  refine (source_apply _ r q).trans ?_
  exact ((padArr_of x0 x1 x2 _ s (8 + 1 * r.val) q (Fin.ext (show s.val + 1 * 0 = s.val by omega)) rfl (Fin.ext (show 0 + 1 * q.val = q.val by omega))).trans
    (padded_mid _ r _ (by omega))).symm

theorem mem_piece (s : Fin 3) (p : Fin 2064) (q : Fin 128) (z o n : ℕ) (inb : ∀ a, (![z, o, 0] : Fin 3 → ℕ) a + (![1, n, 128] : Fin 3 → ℕ) a ≤ S3x2064x128.size a)
    (h : s.val = z) (hl : o ≤ p.val) (hr : p.val < o + n) : (ix3 s p q : S3x2064x128.Idx) ∈ (Rect.unit (s := S3x2064x128) ![z, o, 0] ![1, n, 128] inb).set := by
  refine Rect.mem_set_unit.mpr fun a => ?_
  have hq := q.isLt
  match a with
  | ⟨0, _⟩ => show z ≤ s.val ∧ s.val < z + 1; omega
  | ⟨1, _⟩ => exact ⟨hl, hr⟩
  | ⟨2, _⟩ => show 0 ≤ q.val ∧ q.val < 0 + 128; omega

/-- The scratch reads as the three sequences with their rows of zeros. -/
theorem held_read (y : S3x2064x128.Idx) : a10.view.read (Elt Ideal) (held a10 x0 x1 x2) y = padArr x0 x1 x2 y := by
  unfold held
  rw [View.read_writes_junk_apply_eq_canon]
  refine View.canon_apply_of_pieces _ _ ?_ y ?_
  · intro p hp
    simp only [List.mem_cons, List.not_mem_nil, or_false] at hp
    rcases hp with rfl | rfl | rfl | rfl | rfl | rfl | rfl | rfl | rfl
    · exact source_piece x0 x1 x2 2 inb_S3x2064x128_S1x2048x128_2_8_0 _ rfl
    · exact zeros_piece x0 x1 x2 2 2056 (.inr rfl) inb_S3x2064x128_S1x8x128_2_2056_0 _ rfl
    · exact zeros_piece x0 x1 x2 2 0 (.inl rfl) inb_S3x2064x128_S1x8x128_2_0_0 _ rfl
    · exact source_piece x0 x1 x2 1 inb_S3x2064x128_S1x2048x128_1_8_0 _ rfl
    · exact zeros_piece x0 x1 x2 1 2056 (.inr rfl) inb_S3x2064x128_S1x8x128_1_2056_0 _ rfl
    · exact zeros_piece x0 x1 x2 1 0 (.inl rfl) inb_S3x2064x128_S1x8x128_1_0_0 _ rfl
    · exact source_piece x0 x1 x2 0 inb_S3x2064x128_S1x2048x128_0_8_0 _ rfl
    · exact zeros_piece x0 x1 x2 0 2056 (.inr rfl) inb_S3x2064x128_S1x8x128_0_2056_0 _ rfl
    · exact zeros_piece x0 x1 x2 0 0 (.inl rfl) inb_S3x2064x128_S1x8x128_0_0_0 _ rfl
  · obtain ⟨s, p, q, rfl⟩ := idx3 (a := 3) (b := 2064) (d := 128) y
    simp only [List.mem_cons, List.not_mem_nil, or_false, exists_eq_or_imp, exists_eq_left]
    have hs := s.isLt
    have hp := p.isLt
    have h : s.val = 2 ∨ s.val = 1 ∨ s.val = 0 := by omega
    have h' : (8 ≤ p.val ∧ p.val < 2056) ∨ 2056 ≤ p.val ∨ p.val < 8 := by omega
    rcases h with h | h | h <;> rcases h' with h' | h' | h'
    · exact .inl (mem_piece s p q 2 8 2048 _ h (by omega) (by omega))
    · exact .inr (.inl (mem_piece s p q 2 2056 8 _ h (by omega) (by omega)))
    · exact .inr (.inr (.inl (mem_piece s p q 2 0 8 _ h (by omega) (by omega))))
    · exact .inr (.inr (.inr (.inl (mem_piece s p q 1 8 2048 _ h (by omega) (by omega)))))
    · exact .inr (.inr (.inr (.inr (.inl (mem_piece s p q 1 2056 8 _ h (by omega) (by omega))))))
    · exact .inr (.inr (.inr (.inr (.inr (.inl (mem_piece s p q 1 0 8 _ h (by omega) (by omega)))))))
    · exact .inr (.inr (.inr (.inr (.inr (.inr (.inl (mem_piece s p q 0 8 2048 _ h (by omega) (by omega))))))))
    · exact .inr (.inr (.inr (.inr (.inr (.inr (.inr (.inl (mem_piece s p q 0 2056 8 _ h (by omega) (by omega)))))))))
    · exact .inr (.inr (.inr (.inr (.inr (.inr (.inr (.inr (mem_piece s p q 0 0 8 _ h (by omega) (by omega)))))))))

/-- A window of the scratch at a trip. -/
theorem window_read (s : Fin 3) (k : Fin k0_t1_loop.trips) (off : Fin 3 → ℕ) (ho : off = ![s.val, k.val * 256, 0])
    (inb : ∀ a, off a + S1x272x128.size a ≤ S3x2064x128.size a) (p : Fin 272) (q : Fin 128) :
    a10.view.readAt (Elt Ideal) (Rect.unit (s := S3x2064x128) off S1x272x128.size inb).toLoadRect (held a10 x0 x1 x2) (ix3 (0 : Fin 1) p q)
      = padded (fun r => (![x0, x1, x2] : Fin 3 → Vec Ideal S2048x128 .f32) s (ix2 r q)) (k.val * 256 + p.val) := by
  subst ho
  rw [View.readAt_apply, held_read]
  exact padArr_of x0 x1 x2 _ s (k.val * 256 + p.val) q (Fin.ext (show s.val + 1 * 0 = s.val by omega))
    (show k.val * 256 + 1 * p.val = _ by omega) (Fin.ext (show 0 + 1 * q.val = q.val by omega))

theorem tap_read (a : Memref sig .tc .vmem S3x128 .f32) (h : a.IsWhole) (x : Vec Ideal S3x128 .f32) (s : Fin 3)
    (inb : ∀ b, (![s.val, 0] : Fin 2 → ℕ) b + S1x128.size b ≤ S3x128.size b) (q : Fin 128) :
    a.view.readAt (Elt Ideal) (Rect.unit (s := S3x128) ![s.val, 0] S1x128.size inb).toLoadRect (h.unread x) (ix2 (0 : Fin 1) q) = x (ix2 s q) := by
  rw [View.readAt_apply, h.read_unread]
  congr 1
  funext b
  apply Fin.ext
  match b with
  | ⟨0, _⟩ => show s.val + 1 * 0 = s.val; omega
  | ⟨1, _⟩ => show 0 + 1 * q.val = q.val; omega

/-- A convolved row block of a trip. -/
theorem conv_read (s : Fin 3) (k : Fin k0_t1_loop.trips) (off : Fin 3 → ℕ) (ho : off = ![s.val, k.val * 256, 0])
    (inb : ∀ a, off a + S1x272x128.size a ≤ S3x2064x128.size a) (a : Memref sig .tc .vmem S3x128 .f32) (h : a.IsWhole) (x : Vec Ideal S3x128 .f32)
    (r : Fin 256) (q : Fin 128) :
    k0_pay4 (a10.view.readAt (Elt Ideal) (Rect.unit (s := S3x2064x128) off S1x272x128.size inb).toLoadRect (held a10 x0 x1 x2))
      (a.view.readAt (Elt Ideal) (Rect.unit (s := S3x128) ![1, 0] S1x128.size inb_S3x128_S1x128_1_0).toLoadRect (h.unread x))
      (a.view.readAt (Elt Ideal) (Rect.unit (s := S3x128) ![0, 0] S1x128.size inb_S3x128_S1x128_0_0).toLoadRect (h.unread x))
      (a.view.readAt (Elt Ideal) (Rect.unit (s := S3x128) ![2, 0] S1x128.size inb_S3x128_S1x128_2_0).toLoadRect (h.unread x)) (ix2 r q)
    = conv (fun t => (![x0, x1, x2] : Fin 3 → Vec Ideal S2048x128 .f32) s (ix2 t q)) (fun j => x (ix2 j q)) (k.val * 256 + r.val) := by
  refine (pay4_apply ..).trans ?_
  rw [window_read a10 x0 x1 x2 s k off ho, window_read a10 x0 x1 x2 s k off ho, window_read a10 x0 x1 x2 s k off ho]
  unfold conv
  congr 1
  · congr 1
    · congr 1
      exact tap_read a h x 1 _ q
    · congr 1
      exact tap_read a h x 0 _ q
  · congr 1
    exact tap_read a h x 2 _ q

/-- The two arrays a grid point leaves in its blocks. -/
def convArr (s : Fin 3) (x : Vec Ideal S3x128 .f32) : S2048x128.Idx → EReal := fun y =>
  conv (fun t => (![x0, x1, x2] : Fin 3 → Vec Ideal S2048x128 .f32) s (ix2 t (y 1))) (fun j => x (ix2 j (y 1))) (y 0).val

theorem first_pieces (n : ℕ) (hn : n ≤ k0_t1_loop.trips) : ∀ p ∈ (pb_k0_t1 (F := Ideal) Variants.none c none i a2 h2 a3 h3 a4 h4 a5 h5 a6 h6 a7 h7 a8 h8 a9 h9 a10 h10
    (h5.unread x3) (h6.unread x4) (h7.unread x5) (held a10 x0 x1 x2) n).1,
    ∀ x : p.1.shape.Idx, p.2 x = convArr x0 x1 x2 2 x5 (p.1.emb x) * convArr x0 x1 x2 1 x4 (p.1.emb x) := by
  induction n with
  | zero => intro p hp; exact absurd hp List.not_mem_nil
  | succ n ih =>
    intro p hp
    rw [pb_k0_t1_succ _ _ _ _ _ _ _ _ _ _ _ _ _ _ _ _ _ _ _ _ _ _ _ _ _ _ ⟨n, hn⟩] at hp
    rcases List.mem_append.mp hp with hp | hp
    · rw [show (tripL_k0_t1 (F := Ideal) Variants.none c none i a2 h2 a3 h3 a4 h4 a5 h5 a6 h6 a7 h7 a8 h8 a9 h9 a10 h10
        (h5.unread x3) (h6.unread x4) (h7.unread x5) (held a10 x0 x1 x2) ⟨n, hn⟩).1 = _ from trip_first ..] at hp
      obtain rfl := List.mem_singleton.mp hp
      intro (x : S256x128.Idx)
      obtain ⟨r, q, rfl⟩ := idx2 x
      refine (pay3_apply ..).trans ?_
      rw [pay5_apply, conv_read a10 x0 x1 x2 2 ⟨n, hn⟩ _ (off3 _), conv_read a10 x0 x1 x2 1 ⟨n, hn⟩ _ (off2 _)]
      unfold convArr
      have e0 : ((Rect.unit (s := S2048x128) (k0_off4 ⟨n, hn⟩) S256x128.size (k0_off4_inb _)).emb (ix2 r q) 0).val = n * 256 + r.val := by
        show k0_off4 ⟨n, hn⟩ 0 + 1 * r.val = _
        rw [off4]; show n * 256 + 1 * r.val = _; omega
      have e1 : (Rect.unit (s := S2048x128) (k0_off4 ⟨n, hn⟩) S256x128.size (k0_off4_inb _)).emb (ix2 r q) 1 = q := Fin.ext (by
        show k0_off4 ⟨n, hn⟩ 1 + 1 * q.val = _
        rw [off4]; show 0 + 1 * q.val = _; omega)
      rw [e0, e1]
    · exact ih (by omega) p hp

theorem second_pieces (n : ℕ) (hn : n ≤ k0_t1_loop.trips) : ∀ p ∈ (pb_k0_t1 (F := Ideal) Variants.none c none i a2 h2 a3 h3 a4 h4 a5 h5 a6 h6 a7 h7 a8 h8 a9 h9 a10 h10
    (h5.unread x3) (h6.unread x4) (h7.unread x5) (held a10 x0 x1 x2) n).2,
    ∀ x : p.1.shape.Idx, p.2 x = convArr x0 x1 x2 0 x3 (p.1.emb x) := by
  induction n with
  | zero => intro p hp; exact absurd hp List.not_mem_nil
  | succ n ih =>
    intro p hp
    rw [pb_k0_t1_succ _ _ _ _ _ _ _ _ _ _ _ _ _ _ _ _ _ _ _ _ _ _ _ _ _ _ ⟨n, hn⟩] at hp
    rcases List.mem_append.mp hp with hp | hp
    · rw [show (tripL_k0_t1 (F := Ideal) Variants.none c none i a2 h2 a3 h3 a4 h4 a5 h5 a6 h6 a7 h7 a8 h8 a9 h9 a10 h10
        (h5.unread x3) (h6.unread x4) (h7.unread x5) (held a10 x0 x1 x2) ⟨n, hn⟩).2 = _ from trip_second ..] at hp
      obtain rfl := List.mem_singleton.mp hp
      intro (x : S256x128.Idx)
      obtain ⟨r, q, rfl⟩ := idx2 x
      refine (conv_read a10 x0 x1 x2 0 ⟨n, hn⟩ _ (off1 _) ..).trans ?_
      unfold convArr
      have e0 : ((Rect.unit (s := S2048x128) (k0_off4 ⟨n, hn⟩) S256x128.size (k0_off4_inb _)).emb (ix2 r q) 0).val = n * 256 + r.val := by
        show k0_off4 ⟨n, hn⟩ 0 + 1 * r.val = _
        rw [off4]; show n * 256 + 1 * r.val = _; omega
      have e1 : (Rect.unit (s := S2048x128) (k0_off4 ⟨n, hn⟩) S256x128.size (k0_off4_inb _)).emb (ix2 r q) 1 = q := Fin.ext (by
        show k0_off4 ⟨n, hn⟩ 1 + 1 * q.val = _
        rw [off4]; show 0 + 1 * q.val = _; omega)
      rw [e0, e1]
    · exact ih (by omega) p hp

theorem out_first : out0_A_6 c i a2 h2 a3 h3 a4 h4 a5 h5 a6 h6 a7 h7 a8 h8 a9 h9 a10 h10 x0 x1 x2 x3 x4 x5
    = fun y => convArr x0 x1 x2 2 x5 y * convArr x0 x1 x2 1 x4 y := by
  funext y
  unfold out0_A_6
  rw [View.read_writes_junk_apply_eq_canon]
  refine View.canon_apply_of_pieces (Val := Elt Ideal) (fun y => convArr x0 x1 x2 2 x5 y * convArr x0 x1 x2 1 x4 y) _ ?_ y (cover0_A_6 ..)
  rw [run_first]
  exact first_pieces c i a2 h2 a3 h3 a4 h4 a5 h5 a6 h6 a7 h7 a8 h8 a9 h9 a10 h10 x0 x1 x2 x3 x4 x5 _ le_rfl

theorem out_second : out0_A_7 c i a2 h2 a3 h3 a4 h4 a5 h5 a6 h6 a7 h7 a8 h8 a9 h9 a10 h10 x0 x1 x2 x3 x4 x5 = convArr x0 x1 x2 0 x3 := by
  funext y
  unfold out0_A_7
  rw [View.read_writes_junk_apply_eq_canon]
  refine View.canon_apply_of_pieces (Val := Elt Ideal) (convArr x0 x1 x2 0 x3) _ ?_ y (cover0_A_7 ..)
  rw [run_second]
  exact second_pieces c i a2 h2 a3 h3 a4 h4 a5 h5 a6 h6 a7 h7 a8 h8 a9 h9 a10 h10 x0 x1 x2 x3 x4 x5 _ le_rfl

end values

section windows

open Cert.Kernel8Ideal Cert.Kernel8Ideal.Gen

variable (m : (ℓ : Loc nD τ sig) → Buf (Elt Ideal) ℓ) (c : Dev nD)

theorem coords_seq (t : Fin grid0.N) : (grid0.coords t 0).val = t.val / 4 := by
  revert t; decide +kernel
theorem at0 (t : Fin grid0.N) : cc0_transform_0 (grid0.coords t) = ![t.val / 4, 56 + t.val % 4] := by
  revert t; decide +kernel
theorem at1 (t : Fin grid0.N) : cc0_transform_1 (grid0.coords t) = ![t.val / 4, 60 + t.val % 4] := by
  revert t; decide +kernel
theorem at2 (t : Fin grid0.N) : cc0_transform_2 (grid0.coords t) = ![t.val / 4, 64 + t.val % 4] := by
  revert t; decide +kernel
theorem at3 (t : Fin grid0.N) : cc0_transform_3 (grid0.coords t) = ![0, t.val % 4] := by
  revert t; decide +kernel
theorem at4 (t : Fin grid0.N) : cc0_transform_4 (grid0.coords t) = ![0, 4 + t.val % 4] := by
  revert t; decide +kernel
theorem at5 (t : Fin grid0.N) : cc0_transform_5 (grid0.coords t) = ![0, 8 + t.val % 4] := by
  revert t; decide +kernel
theorem at6 (t : Fin grid0.N) : cc0_transform_6 (grid0.coords t) = ![t.val / 4, t.val % 4] := by
  revert t; decide +kernel
theorem at7 (t : Fin grid0.N) : cc0_transform_7 (grid0.coords t) = ![t.val / 4, t.val % 4] := by
  revert t; decide +kernel

/-- The row of the projection that row `r` of a point's blocks is. -/
def rowAt (t : Fin grid0.N) (r : Fin 2048) : Fin 32768 :=
  ⟨t.val / 4 * 2048 + r.val, by have := lt_of_lt_of_eq t.isLt N_0; omega⟩

/-- The column of a third that column `q` of a point's blocks is. -/
def colAt (t : Fin grid0.N) (q : Fin 128) : Fin 512 := ⟨t.val % 4 * 128 + q.val, by omega⟩

/-- The projection by rows and columns. -/
def projOf (R : Fin 32768) (k : Fin 8832) : EReal := (m (c.tc.loc main_arg0) : FVec Ideal S32768x8832 .f32) (ix2 R k)

/-- The taps by rows and columns. -/
def tapsOf (k : Fin 3) (j : Fin 1536) : EReal := (m (c.tc.loc main_arg1) : FVec Ideal S3x1536 .f32) (ix2 k j)

theorem seq_block0 (t : Fin grid0.N) (r : Fin 2048) (q : Fin 128) :
    (iblk m c 0 t : Vec Ideal S2048x128 .f32) (ix2 r q) = projOf m c (rowAt t r) ⟨7168 + (part 0 (colAt t q)).val, by omega⟩ := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show cc0_transform_0 (grid0.coords t) 0 * 2048 + 1 * r.val = t.val / 4 * 2048 + r.val; rw [at0]; show t.val / 4 * 2048 + 1 * r.val = _; omega
  | ⟨1, _⟩ =>
    show cc0_transform_0 (grid0.coords t) 1 * 128 + 1 * q.val = 7168 + (0 * 512 + (t.val % 4 * 128 + q.val))
    rw [at0]; show (56 + t.val % 4) * 128 + 1 * q.val = _; omega

theorem seq_block1 (t : Fin grid0.N) (r : Fin 2048) (q : Fin 128) :
    (iblk m c 1 t : Vec Ideal S2048x128 .f32) (ix2 r q) = projOf m c (rowAt t r) ⟨7168 + (part 1 (colAt t q)).val, by omega⟩ := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show cc0_transform_1 (grid0.coords t) 0 * 2048 + 1 * r.val = t.val / 4 * 2048 + r.val; rw [at1]; show t.val / 4 * 2048 + 1 * r.val = _; omega
  | ⟨1, _⟩ =>
    show cc0_transform_1 (grid0.coords t) 1 * 128 + 1 * q.val = 7168 + (1 * 512 + (t.val % 4 * 128 + q.val))
    rw [at1]; show (60 + t.val % 4) * 128 + 1 * q.val = _; omega

theorem seq_block2 (t : Fin grid0.N) (r : Fin 2048) (q : Fin 128) :
    (iblk m c 2 t : Vec Ideal S2048x128 .f32) (ix2 r q) = projOf m c (rowAt t r) ⟨7168 + (part 2 (colAt t q)).val, by omega⟩ := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show cc0_transform_2 (grid0.coords t) 0 * 2048 + 1 * r.val = t.val / 4 * 2048 + r.val; rw [at2]; show t.val / 4 * 2048 + 1 * r.val = _; omega
  | ⟨1, _⟩ =>
    show cc0_transform_2 (grid0.coords t) 1 * 128 + 1 * q.val = 7168 + (2 * 512 + (t.val % 4 * 128 + q.val))
    rw [at2]; show (64 + t.val % 4) * 128 + 1 * q.val = _; omega

theorem taps_block3 (t : Fin grid0.N) (k : Fin 3) (q : Fin 128) :
    (iblk m c 3 t : Vec Ideal S3x128 .f32) (ix2 k q) = tapsOf m c k (part 0 (colAt t q)) := by
  refine Eq.trans ?_ (congrFun (V_main_arg1 m c) _)
  unfold iblk
  refine (View.read_apply ..).trans ?_
  show V m c main_arg1 _ = V m c main_arg1 _
  congr 1
  funext a
  apply Fin.ext
  match a with
  | ⟨0, _⟩ => show cc0_transform_3 (grid0.coords t) 0 * 3 + 1 * k.val = k.val; rw [at3]; show 0 * 3 + 1 * k.val = _; omega
  | ⟨1, _⟩ =>
    show cc0_transform_3 (grid0.coords t) 1 * 128 + 1 * q.val = 0 * 512 + (t.val % 4 * 128 + q.val)
    rw [at3]; show (t.val % 4) * 128 + 1 * q.val = _; omega

theorem taps_block4 (t : Fin grid0.N) (k : Fin 3) (q : Fin 128) :
    (iblk m c 4 t : Vec Ideal S3x128 .f32) (ix2 k q) = tapsOf m c k (part 1 (colAt t q)) := by
  refine Eq.trans ?_ (congrFun (V_main_arg1 m c) _)
  unfold iblk
  refine (View.read_apply ..).trans ?_
  show V m c main_arg1 _ = V m c main_arg1 _
  congr 1
  funext a
  apply Fin.ext
  match a with
  | ⟨0, _⟩ => show cc0_transform_4 (grid0.coords t) 0 * 3 + 1 * k.val = k.val; rw [at4]; show 0 * 3 + 1 * k.val = _; omega
  | ⟨1, _⟩ =>
    show cc0_transform_4 (grid0.coords t) 1 * 128 + 1 * q.val = 1 * 512 + (t.val % 4 * 128 + q.val)
    rw [at4]; show (4 + t.val % 4) * 128 + 1 * q.val = _; omega

theorem taps_block5 (t : Fin grid0.N) (k : Fin 3) (q : Fin 128) :
    (iblk m c 5 t : Vec Ideal S3x128 .f32) (ix2 k q) = tapsOf m c k (part 2 (colAt t q)) := by
  refine Eq.trans ?_ (congrFun (V_main_arg1 m c) _)
  unfold iblk
  refine (View.read_apply ..).trans ?_
  show V m c main_arg1 _ = V m c main_arg1 _
  congr 1
  funext a
  apply Fin.ext
  match a with
  | ⟨0, _⟩ => show cc0_transform_5 (grid0.coords t) 0 * 3 + 1 * k.val = k.val; rw [at5]; show 0 * 3 + 1 * k.val = _; omega
  | ⟨1, _⟩ =>
    show cc0_transform_5 (grid0.coords t) 1 * 128 + 1 * q.val = 2 * 512 + (t.val % 4 * 128 + q.val)
    rw [at5]; show (8 + t.val % 4) * 128 + 1 * q.val = _; omega

theorem seqAt (t : Fin grid0.N) (e : Fin 3) (q : Fin 128) :
    (fun r => ![(iblk m c 0 t : Vec Ideal S2048x128 .f32), (iblk m c 1 t : Vec Ideal S2048x128 .f32), (iblk m c 2 t : Vec Ideal S2048x128 .f32)] e (ix2 r q))
      = seqOf (projOf m c) ⟨t.val / 4, by have := lt_of_lt_of_eq t.isLt N_0; omega⟩ (part e (colAt t q)) := by
  funext r
  match e with
  | ⟨0, _⟩ => exact seq_block0 m c t r q
  | ⟨1, _⟩ => exact seq_block1 m c t r q
  | ⟨2, _⟩ => exact seq_block2 m c t r q

theorem tapsAt (t : Fin grid0.N) (e : Fin 3) (q : Fin 128) :
    (fun k => ![(iblk m c 3 t : Vec Ideal S3x128 .f32), (iblk m c 4 t : Vec Ideal S3x128 .f32), (iblk m c 5 t : Vec Ideal S3x128 .f32)] e (ix2 k q))
      = fun k => tapsOf m c k (part e (colAt t q)) := by
  funext k
  match e with
  | ⟨0, _⟩ => exact taps_block3 m c t k q
  | ⟨1, _⟩ => exact taps_block4 m c t k q
  | ⟨2, _⟩ => exact taps_block5 m c t k q

/-- What a point convolves is the convolved projection at its rows and columns. -/
theorem conv_at (t : Fin grid0.N) (e : Fin 3) (r : Fin 2048) (q : Fin 128) :
    convArr (iblk m c 0 t) (iblk m c 1 t) (iblk m c 2 t) e
      (![(iblk m c 3 t : Vec Ideal S3x128 .f32), (iblk m c 4 t : Vec Ideal S3x128 .f32), (iblk m c 5 t : Vec Ideal S3x128 .f32)] e) (ix2 r q)
      = mixed (projOf m c) (tapsOf m c) (rowAt t r) (part e (colAt t q)) := by
  have ht := lt_of_lt_of_eq t.isLt N_0
  have eb : (⟨(rowAt t r).val / 2048, by have := (rowAt t r).isLt; omega⟩ : Fin 16) = ⟨t.val / 4, by omega⟩ :=
    Fin.ext (show (t.val / 4 * 2048 + r.val) / 2048 = t.val / 4 by omega)
  have er : (rowAt t r).val % 2048 = r.val := show (t.val / 4 * 2048 + r.val) % 2048 = r.val by omega
  unfold mixed
  rw [eb, er, ← seqAt, ← tapsAt]
  rfl

/-- The first result: the product of the last and the middle third. -/
def firstArr : FVec Ideal S32768x512 .f32 := fun y =>
  mixed (projOf m c) (tapsOf m c) (y 0) (part 2 (y 1)) * mixed (projOf m c) (tapsOf m c) (y 0) (part 1 (y 1))

/-- The second result: the first third. -/
def secondArr : FVec Ideal S32768x512 .f32 := fun y => mixed (projOf m c) (tapsOf m c) (y 0) (part 0 (y 1))

theorem flushed_first (t : Fin cfg0.N) (hf : (cfg0.win 6).flush t = true) :
    (dats m 0 c).flushed 6 t = ((cfg0.win 6).blk t).view.read (Elt Ideal) (firstArr m c) := by
  refine funext fun (y : S2048x128.Idx) => ?_
  refine Eq.trans ?_ (View.read_apply ..).symm
  refine (congrFun (Value.flushed6_A m c t) y).trans ?_
  rw [out_first]
  obtain ⟨r, q, rfl⟩ := idx2 y
  refine Eq.trans (b := firstArr m c (ix2 (rowAt t r) (colAt t q))) (congrArg₂ (· * ·) (conv_at m c t 2 r q) (conv_at m c t 1 r q)) ?_
  show firstArr m c (ix2 (rowAt t r) (colAt t q)) = firstArr m c _
  congr 1
  funext a
  apply Fin.ext
  match a with
  | ⟨0, _⟩ => show t.val / 4 * 2048 + r.val = cc0_transform_6 (grid0.coords t) 0 * 2048 + 1 * r.val; rw [at6]; show _ = t.val / 4 * 2048 + 1 * r.val; omega
  | ⟨1, _⟩ => show t.val % 4 * 128 + q.val = cc0_transform_6 (grid0.coords t) 1 * 128 + 1 * q.val; rw [at6]; show _ = t.val % 4 * 128 + 1 * q.val; omega

theorem flushed_second (t : Fin cfg0.N) (hf : (cfg0.win 7).flush t = true) :
    (dats m 0 c).flushed 7 t = ((cfg0.win 7).blk t).view.read (Elt Ideal) (secondArr m c) := by
  refine funext fun (y : S2048x128.Idx) => ?_
  refine Eq.trans ?_ (View.read_apply ..).symm
  refine (congrFun (Value.flushed7_A m c t) y).trans ?_
  rw [out_second]
  obtain ⟨r, q, rfl⟩ := idx2 y
  refine Eq.trans (b := secondArr m c (ix2 (rowAt t r) (colAt t q))) (conv_at m c t 0 r q) ?_
  show secondArr m c (ix2 (rowAt t r) (colAt t q)) = secondArr m c _
  congr 1
  funext a
  apply Fin.ext
  match a with
  | ⟨0, _⟩ => show t.val / 4 * 2048 + r.val = cc0_transform_7 (grid0.coords t) 0 * 2048 + 1 * r.val; rw [at7]; show _ = t.val / 4 * 2048 + 1 * r.val; omega
  | ⟨1, _⟩ => show t.val % 4 * 128 + q.val = cc0_transform_7 (grid0.coords t) 1 * 128 + 1 * q.val; rw [at7]; show _ = t.val % 4 * 128 + 1 * q.val; omega

theorem covered_first (y : S32768x512.Idx) : ∃ t : Fin cfg0.N, (cfg0.win 6).flush t = true ∧ y ∈ ((cfg0.win 6).blk t).view.set := by
  have h0 : (y 0 : Nat) < 32768 := (y 0).isLt
  have h1 : (y 1 : Nat) < 512 := (y 1).isLt
  have hN : cfg0.N = 64 := N_0
  let t : Fin cfg0.N := ⟨(y 0).val / 2048 * 4 + (y 1).val / 128, by omega⟩
  refine ⟨t, flush0_6 t, ?_⟩
  refine (iff_of_eq (congrArg (fun S => y ∈ S) (View.set_slice_whole main_v0_0 ((cfg0.win 6).rect t)))).mpr ?_
  refine Rect.mem_set_unit.mpr fun a => ?_
  match a with
  | ⟨0, _⟩ =>
    show cc0_transform_6 (grid0.coords t) 0 * 2048 ≤ (y 0).val ∧ (y 0).val < cc0_transform_6 (grid0.coords t) 0 * 2048 + 2048
    rw [at6]
    show ((y 0).val / 2048 * 4 + (y 1).val / 128) / 4 * 2048 ≤ (y 0).val ∧ (y 0).val < ((y 0).val / 2048 * 4 + (y 1).val / 128) / 4 * 2048 + 2048
    omega
  | ⟨1, _⟩ =>
    show cc0_transform_6 (grid0.coords t) 1 * 128 ≤ (y 1).val ∧ (y 1).val < cc0_transform_6 (grid0.coords t) 1 * 128 + 128
    rw [at6]
    show ((y 0).val / 2048 * 4 + (y 1).val / 128) % 4 * 128 ≤ (y 1).val ∧ (y 1).val < ((y 0).val / 2048 * 4 + (y 1).val / 128) % 4 * 128 + 128
    omega

theorem final_first : (dats m 0 c).arrAt 6 cfg0.N = firstArr m c :=
  (dats m 0 c).arrAt_eq_of_cover 6 (firstArr m c) (flushed_first m c) covered_first

theorem covered_second (y : S32768x512.Idx) : ∃ t : Fin cfg0.N, (cfg0.win 7).flush t = true ∧ y ∈ ((cfg0.win 7).blk t).view.set := by
  have h0 : (y 0 : Nat) < 32768 := (y 0).isLt
  have h1 : (y 1 : Nat) < 512 := (y 1).isLt
  have hN : cfg0.N = 64 := N_0
  let t : Fin cfg0.N := ⟨(y 0).val / 2048 * 4 + (y 1).val / 128, by omega⟩
  refine ⟨t, flush0_7 t, ?_⟩
  refine (iff_of_eq (congrArg (fun S => y ∈ S) (View.set_slice_whole main_v0_1 ((cfg0.win 7).rect t)))).mpr ?_
  refine Rect.mem_set_unit.mpr fun a => ?_
  match a with
  | ⟨0, _⟩ =>
    show cc0_transform_7 (grid0.coords t) 0 * 2048 ≤ (y 0).val ∧ (y 0).val < cc0_transform_7 (grid0.coords t) 0 * 2048 + 2048
    rw [at7]
    show ((y 0).val / 2048 * 4 + (y 1).val / 128) / 4 * 2048 ≤ (y 0).val ∧ (y 0).val < ((y 0).val / 2048 * 4 + (y 1).val / 128) / 4 * 2048 + 2048
    omega
  | ⟨1, _⟩ =>
    show cc0_transform_7 (grid0.coords t) 1 * 128 ≤ (y 1).val ∧ (y 1).val < cc0_transform_7 (grid0.coords t) 1 * 128 + 128
    rw [at7]
    show ((y 0).val / 2048 * 4 + (y 1).val / 128) % 4 * 128 ≤ (y 1).val ∧ (y 1).val < ((y 0).val / 2048 * 4 + (y 1).val / 128) % 4 * 128 + 128
    omega

theorem final_second : (dats m 0 c).arrAt 7 cfg0.N = secondArr m c :=
  (dats m 0 c).arrAt_eq_of_cover 7 (secondArr m c) (flushed_second m c) covered_second

end windows

section reference

open Cert.Reference8Ideal Cert.Reference8Ideal.Read

variable (x0 : FVec Ideal S32768x8832 .f32) (x1 : FVec Ideal S3x1536 .f32)

theorem ref_seq (b : Fin 16) (t : Fin 2048) (j : Fin 1536) :
    val_main_v1 (F := Ideal) x0 (ix3 b t j) = seqOf (fun R k => x0 (ix2 R k)) b j t := by
  refine (val_main_v1_apply ..).trans ((val_main_v0_apply ..).trans ?_)
  show x0 _ = x0 _
  congr 1
  funext a
  apply Fin.ext
  match a with
  | ⟨0, _⟩ => show ((b.val * 2048 + t.val) * 1536 + j.val) / 1536 = b.val * 2048 + t.val; omega
  | ⟨1, _⟩ => show 7168 + ((b.val * 2048 + t.val) * 1536 + j.val) % 1536 = 7168 + j.val; omega

theorem ref_joined (b : Fin 16) (p : Fin 2050) (j : Fin 1536) :
    val_main_v3 (F := Ideal) x0 (ix3 b p j) = if h : p.val < 1 then 0 else if h2 : p.val - 1 < 2048 then
      val_main_v1 (F := Ideal) x0 (ix3 b (⟨p.val - 1, h2⟩ : Fin 2048) j) else 0 := by
  pointwise [val_main_v3, val_main_v2, val_main_cst]

theorem ref_padded (b : Fin 16) (p : Fin 2050) (j : Fin 1536) :
    val_main_v3 (F := Ideal) x0 (ix3 b p j) = padded (seqOf (fun R k => x0 (ix2 R k)) b j) (p.val + 7) := by
  rw [ref_joined]
  unfold padded
  have hp := p.isLt
  by_cases h : p.val < 1
  · rw [dif_pos h, dif_neg (by omega)]
  · rw [dif_neg h]
    by_cases h2 : p.val - 1 < 2048
    · rw [dif_pos h2, dif_pos (by omega), ref_seq]
      congr 1
    · rw [dif_neg h2, dif_neg (by omega)]

theorem ref_taps (b : Fin 16) (r : Fin 2048) (j : Fin 1536) :
    val_main_v23 (F := Ideal) x0 x1 (ix3 b r j) = val_main_v3 (F := Ideal) x0 (ix3 b (⟨r.val, by omega⟩ : Fin 2050) j) * x1 (ix2 (0 : Fin 3) j)
      + val_main_v3 (F := Ideal) x0 (ix3 b (⟨1 + r.val, by omega⟩ : Fin 2050) j) * x1 (ix2 (1 : Fin 3) j)
      + val_main_v3 (F := Ideal) x0 (ix3 b (⟨2 + r.val, by omega⟩ : Fin 2050) j) * x1 (ix2 (2 : Fin 3) j) := by
  pointwise [val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4]

/-- The reference's convolution at a sequence, a position and a channel. -/
theorem ref_conv (b : Fin 16) (r : Fin 2048) (j : Fin 1536) :
    val_main_v23 (F := Ideal) x0 x1 (ix3 b r j) = conv (seqOf (fun R k => x0 (ix2 R k)) b j) (fun k => x1 (ix2 k j)) r.val := by
  rw [ref_taps, ref_padded, ref_padded, ref_padded]
  unfold conv
  have e1 : 1 + r.val + 7 = r.val + 8 := by omega
  have e2 : 2 + r.val + 7 = r.val + 9 := by omega
  show padded _ (r.val + 7) * _ + padded _ (1 + r.val + 7) * _ + padded _ (2 + r.val + 7) * _ = _
  rw [e1, e2, mul_comm _ (x1 (ix2 (0 : Fin 3) j)), mul_comm _ (x1 (ix2 (1 : Fin 3) j)), mul_comm _ (x1 (ix2 (2 : Fin 3) j)), add_comm (x1 (ix2 (0 : Fin 3) j) * _)]

theorem ref_mixed (R : Fin 32768) (j : Fin 1536) :
    val_main_v23 (F := Ideal) x0 x1 (ix3 (⟨R.val / 2048, by omega⟩ : Fin 16) (⟨R.val % 2048, by omega⟩ : Fin 2048) j)
      = mixed (fun R k => x0 (ix2 R k)) (fun k j => x1 (ix2 k j)) R j := ref_conv ..

theorem ref_part0 (b : Fin 16) (r : Fin 2048) (q : Fin 512) :
    val_main_v24 (F := Ideal) x0 x1 (ix3 b r q) = val_main_v23 (F := Ideal) x0 x1 (ix3 b r (part 0 q)) := by
  refine (val_main_v24_apply ..).trans ?_
  congr 1
  funext a
  apply Fin.ext
  match a with
  | ⟨0, _⟩ => rfl
  | ⟨1, _⟩ => rfl
  | ⟨2, _⟩ => show q.val = 0 * 512 + q.val; omega

theorem ref_part1 (b : Fin 16) (r : Fin 2048) (q : Fin 512) :
    val_main_v25 (F := Ideal) x0 x1 (ix3 b r q) = val_main_v23 (F := Ideal) x0 x1 (ix3 b r (part 1 q)) := by
  refine (val_main_v25_apply ..).trans ?_
  congr 1
  funext a
  apply Fin.ext
  match a with
  | ⟨0, _⟩ => rfl
  | ⟨1, _⟩ => rfl
  | ⟨2, _⟩ => show 512 + q.val = 1 * 512 + q.val; omega

theorem ref_part2 (b : Fin 16) (r : Fin 2048) (q : Fin 512) :
    val_main_v26 (F := Ideal) x0 x1 (ix3 b r q) = val_main_v23 (F := Ideal) x0 x1 (ix3 b r (part 2 q)) := by
  refine (val_main_v26_apply ..).trans ?_
  congr 1
  funext a
  apply Fin.ext
  match a with
  | ⟨0, _⟩ => rfl
  | ⟨1, _⟩ => rfl
  | ⟨2, _⟩ => show 1024 + q.val = 2 * 512 + q.val; omega

theorem row_split (R : Fin 32768) (q : Fin 512) :
    idx_main_v28 (ix2 R q) = ix3 (⟨R.val / 2048, by omega⟩ : Fin 16) (⟨R.val % 2048, by omega⟩ : Fin 2048) q := by
  funext a
  apply Fin.ext
  match a with
  | ⟨0, _⟩ => show (R.val * 512 + q.val) / 1048576 = R.val / 2048; omega
  | ⟨1, _⟩ => show (R.val * 512 + q.val) / 512 % 2048 = R.val % 2048; omega
  | ⟨2, _⟩ => show (R.val * 512 + q.val) % 512 = q.val; omega

/-- The reference's first result. -/
theorem ref_first : val_main_v28 (F := Ideal) x0 x1 = fun y =>
    mixed (fun R k => x0 (ix2 R k)) (fun k j => x1 (ix2 k j)) (y 0) (part 2 (y 1)) * mixed (fun R k => x0 (ix2 R k)) (fun k j => x1 (ix2 k j)) (y 0) (part 1 (y 1)) := by
  refine funext fun (y : S32768x512.Idx) => ?_
  obtain ⟨R, q, rfl⟩ := idx2 y
  refine (val_main_v28_apply ..).trans ?_
  rw [row_split]
  refine (val_main_v27_apply ..).trans ?_
  rw [ref_part1, ref_part2, ref_mixed, ref_mixed]
  rfl

/-- The reference's second result. -/
theorem ref_second : val_main_v29 (F := Ideal) x0 x1 = fun y => mixed (fun R k => x0 (ix2 R k)) (fun k j => x1 (ix2 k j)) (y 0) (part 0 (y 1)) := by
  refine funext fun (y : S32768x512.Idx) => ?_
  obtain ⟨R, q, rfl⟩ := idx2 y
  refine (val_main_v29_apply ..).trans ((congrArg _ (row_split R q)).trans ?_)
  rw [ref_part0, ref_mixed]
  rfl

end reference

/-- The kernel runs and leaves its arguments. -/
theorem frame_kernel : Cert.quiescent_Kernel8 := fun m ρ _ => Cert.Kernel8.Gen.frame m ρ

/-- The ideal kernel runs and leaves its arguments. -/
theorem frame_ideal : Cert.quiescent_Kernel8Ideal := fun m ρ _ => Cert.Kernel8Ideal.Gen.frame m ρ

/-- The reference runs and leaves its arguments. -/
theorem frame_reference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The convolution's kernel and its plain definition end with the same two arrays. -/
theorem same : Cert.algebraic_Kernel8Ideal_Reference8Ideal := by
  intro m ρ m' ρ' _ hag
  refine ⟨fun c => firstArr m c, fun c => secondArr m c, ?_, ?_⟩
  · exact (θ_run Cert.Kernel8Ideal.defs _ _).mono (fun r h c => ⟨(h c).1.trans (final_first m c), (h c).2.1.trans (final_second m c), (h c).2.2⟩)
      (Cert.Kernel8Ideal.Value.run_blocks m ρ)
  · refine (θ_run Cert.Reference8Ideal.defs _ _).mono (fun r h c => ⟨(h c).1.trans ?_, (h c).2.1.trans ?_, (h c).2.2⟩)
      (Cert.Reference8Ideal.Value.run (F := Ideal) m' ρ')
    · refine (Cert.Reference8Ideal.Read.val_main_v28_eq (F := Ideal) _ _).trans ?_
      rw [(hag c).1, (hag c).2]
      exact ref_first ..
    · refine (Cert.Reference8Ideal.Read.val_main_v29_eq (F := Ideal) _ _).trans ?_
      rw [(hag c).1, (hag c).2]
      exact ref_second ..

end Cert.HyConv

end
-- ==== Proof.HyFinal.lean ====
module

public import proofs.«01_k».proof.Proof.Norm
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Defs

/-! The Hyena mixer's last stage: the last stage of its inverse transform, the bias on `z`, and the gate. The kernel takes eight
positions at once and multiplies by the Kronecker product of the table and the identity; the reference multiplies by the table. -/

@[expose] public section

set_option maxRecDepth 16384

noncomputable section

open scoped BigOperators

namespace Cert.HyFinal

open Idealize.ShloMosaic Idealize.ShloMosaic.TcCoe Idealize.SL.Sem Idealize.ShloMosaic.StableHlo
open Cert.Norm

/-- The inverse transform's last stage at one element, with the bias on `z` and the gate. -/
def last (b : Fin 16 → Fin 2 → Fin 64 → Fin 64 → Fin 512 → EReal) (w : Fin 32 → Fin 128 → EReal) (z x : Fin 16 → Fin 32 → Fin 64 → Fin 512 → EReal)
    (bias : Fin 512 → EReal) (i : Fin 16) (k : Fin 32) (n : Fin 64) (q : Fin 512) : EReal :=
  ((∑ a : Fin 128, w k a * b i (⟨a.val / 64, by omega⟩ : Fin 2) (⟨a.val % 64, by omega⟩ : Fin 64) n q) + z i k n q * bias q) * x i k n q

/-- A row of the Kronecker product selects every eighth entry. -/
theorem kron_sum (K f : Fin 1024 → EReal) (w : Fin 128 → EReal) (r : Fin 8)
    (hK : ∀ (a : Fin 128) (s : Fin 8), K ⟨a.val * 8 + s.val, by omega⟩ = w a * if r = s then 1 else 0) :
    ∑ j, K j * f j = ∑ a : Fin 128, w a * f ⟨a.val * 8 + r.val, by omega⟩ := by
  rw [← Equiv.sum_comp (finProdFinEquiv (m := 128) (n := 8)), Fintype.sum_prod_type]
  refine Finset.sum_congr rfl fun a _ => ?_
  have e : ∀ s : Fin 8, (finProdFinEquiv (a, s) : Fin (128 * 8)) = (⟨a.val * 8 + s.val, by omega⟩ : Fin 1024) := fun s =>
    Fin.ext (show s.val + 8 * a.val = a.val * 8 + s.val by omega)
  refine (Finset.sum_eq_single r (fun s _ hs => ?_) (fun h => absurd (Finset.mem_univ r) h)).trans ?_
  · rw [e s, hK a s, if_neg (Ne.symm hs), mul_zero, zero_mul]
  · rw [e r, hK a r, if_pos rfl, mul_one]

section host

open Cert.Kernel9Ideal Cert.Kernel9Ideal.Gen

variable (m : (ℓ : Loc nD τ sig) → Buf (Elt Ideal) ℓ) (c : Dev nD)

/-- The identity of eight rows. -/
def eyeArr : FVec Ideal S8x8 .bf16 :=
  uitofp .bf16 (cmpi .eq (addi (iotaInDim S8x8 32 0) (broadcastInDim S8x8 ![] bcast_S_S8x8 (constantI S_ 32 0#32))) (iotaInDim S8x8 32 1))

/-- The Kronecker product of a table and the identity. -/
def kronArr (w : FVec Ideal S32x128 .f32) : FVec Ideal S256x1024 .bf16 :=
  shapeCast S256x1024 (mulf
    (broadcastInDim S32x8x128x8 ![0, 1, 2, 3] bcast_S32x1x128x1_S32x8x128x8_0_1_2_3 (broadcastInDim S32x1x128x1 ![0, 2] bcast_S32x128_S32x1x128x1_0_2
      (truncf .bf16 w bitsLt_bf16_f32)))
    (broadcastInDim S32x8x128x8 ![0, 1, 2, 3] bcast_S1x8x1x8_S32x8x128x8_0_1_2_3 (broadcastInDim S1x8x1x8 ![1, 3] bcast_S8x8_S1x8x1x8_1_3 eyeArr)))
    shapeCasts_S32x8x128x8_S256x1024

theorem V_kron : (V m c main_v7 : FVec Ideal S256x1024 .bf16) = kronArr (m (c.tc.loc main_arg1)) := by
  unfold V
  simp only [hostOps0, hostOps0_1, hostOps0_2, List.flatten, List.append, List.cons_append, List.nil_append]
  after_results
  rfl

theorem V_bias : (V m c main_v8 : FVec Ideal S1x1x512 .f32) = broadcastInDim S1x1x512 ![2] bcast_S512_S1x1x512_2 (m (c.tc.loc main_arg4)) := by
  unfold V
  simp only [hostOps0, hostOps0_1, hostOps0_2, List.flatten, List.append, List.cons_append, List.nil_append]
  after_results

theorem eye_word : ∀ r s : Fin 8, IntOp.cmpi CmpIPredicate.eq (IntOp.addi (BitVec.ofNat 32 r.val) 0#32) (BitVec.ofNat 32 s.val)
    = if r = s then 1#1 else 0#1 := by
  decide +kernel

theorem eyeArr_apply (r s : Fin 8) : eyeArr (ix2 r s) = if r = s then 1 else 0 := by
  unfold eyeArr
  pointwise
  rw [eye_word]
  by_cases h : r = s
  · rw [if_pos h, if_pos h]
    show (((1#1 : BitVec 1).toNat : ℝ) : EReal) = 1
    simp
  · rw [if_neg h, if_neg h]
    show (((0#1 : BitVec 1).toNat : ℝ) : EReal) = 0
    simp

theorem kronArr_apply (w : FVec Ideal S32x128 .f32) (k : Fin 32) (r : Fin 8) (a : Fin 128) (s : Fin 8) :
    kronArr w (ix2 (⟨k.val * 8 + r.val, by omega⟩ : Fin 256) (⟨a.val * 8 + s.val, by omega⟩ : Fin 1024)) = w (ix2 k a) * eyeArr (ix2 r s) := by
  unfold kronArr
  rw [shapeCast_apply _ shapeCasts_S32x8x128x8_S256x1024 _ (ix4 k r a s) (by
    rewrite [Shape.rowMajor_val_four, Shape.rowMajor_val_two]
    show ((k.val * 8 + r.val) * 128 + a.val) * 8 + s.val = (k.val * 8 + r.val) * 1024 + (a.val * 8 + s.val)
    omega)]
  pointwise

theorem bias_read (b : FVec Ideal S512 .f32) (q : Fin 512) :
    broadcastInDim S1x1x512 ![2] bcast_S512_S1x1x512_2 b (ix3 (0 : Fin 1) (0 : Fin 1) q) = b (ix1 q) := by
  pointwise

end host

section body

open Cert.Kernel9Ideal Cert.Kernel9Ideal.Gen

/-- A block of the product is a sum over the table's columns and the block's rows. -/
theorem pay_apply (K : Vec Ideal S256x1024 .bf16) (b : Vec Ideal S1x2x64x8x512 .bf16) (z : Vec Ideal S1x32x8x512 .f32) (bias : Vec Ideal S1x1x512 .f32)
    (g : Vec Ideal S1x32x8x512 .f32) (k : Fin 32) (r : Fin 8) (q : Fin 512) :
    k0_pay1 K b z bias g (ix4 (0 : Fin 1) k r q)
      = ((∑ j : Fin 1024, K (ix2 (⟨k.val * 8 + r.val, by omega⟩ : Fin 256) j)
            * b (ix5 (0 : Fin 1) (⟨j.val / 512, by omega⟩ : Fin 2) (⟨j.val / 8 % 64, by omega⟩ : Fin 64) (⟨j.val % 8, by omega⟩ : Fin 8) q))
          + z (ix4 (0 : Fin 1) k r q) * bias (ix3 (0 : Fin 1) (0 : Fin 1) q)) * g (ix4 (0 : Fin 1) k r q) := by
  unfold k0_pay1
  pointwise

end body

section windows

open Cert.Kernel9Ideal Cert.Kernel9Ideal.Gen

variable (m : (ℓ : Loc nD τ sig) → Buf (Elt Ideal) ℓ) (c : Dev nD)

theorem at0 (t : Fin grid0.N) : cc0_transform_0 (grid0.coords t) = ![t.val / 8, 0, 0, t.val % 8, 0] := by
  revert t; decide +kernel
theorem at2 (t : Fin grid0.N) : cc0_transform_2 (grid0.coords t) = ![t.val / 8, 0, t.val % 8, 0] := by
  revert t; decide +kernel
theorem at3 (t : Fin grid0.N) : cc0_transform_3 (grid0.coords t) = ![t.val / 8, 0, t.val % 8, 0] := by
  revert t; decide +kernel
theorem at5 (t : Fin grid0.N) : cc0_transform_5 (grid0.coords t) = ![t.val / 8, 0, t.val % 8, 0] := by
  revert t; decide +kernel

/-- The sequence of a point. -/
def seqAt (t : Fin grid0.N) : Fin 16 := ⟨t.val / 8, by have := lt_of_lt_of_eq t.isLt N_0; omega⟩

/-- The position that row `r` of a point's blocks is. -/
def posAt (t : Fin grid0.N) (r : Fin 8) : Fin 64 := ⟨t.val % 8 * 8 + r.val, by omega⟩

theorem b_block (t : Fin grid0.N) (p : Fin 2) (f : Fin 64) (r : Fin 8) (q : Fin 512) :
    (iblk m c 0 t : Vec Ideal S1x2x64x8x512 .bf16) (ix5 (0 : Fin 1) p f r q)
      = (m (c.tc.loc main_arg0) : FVec Ideal S16x2x64x64x512 .bf16) (ix5 (seqAt t) p f (posAt t r) q) := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show cc0_transform_0 (grid0.coords t) 0 * 1 + 1 * 0 = t.val / 8; rw [at0]; show t.val / 8 * 1 + 1 * 0 = _; omega
  | ⟨1, _⟩ => show cc0_transform_0 (grid0.coords t) 1 * 2 + 1 * p.val = p.val; rw [at0]; show 0 * 2 + 1 * p.val = _; omega
  | ⟨2, _⟩ => show cc0_transform_0 (grid0.coords t) 2 * 64 + 1 * f.val = f.val; rw [at0]; show 0 * 64 + 1 * f.val = _; omega
  | ⟨3, _⟩ => show cc0_transform_0 (grid0.coords t) 3 * 8 + 1 * r.val = t.val % 8 * 8 + r.val; rw [at0]; show t.val % 8 * 8 + 1 * r.val = _; omega
  | ⟨4, _⟩ => show cc0_transform_0 (grid0.coords t) 4 * 512 + 1 * q.val = q.val; rw [at0]; show 0 * 512 + 1 * q.val = _; omega

theorem kron_block (t : Fin grid0.N) (k : Fin 32) (r : Fin 8) (a : Fin 128) (s : Fin 8) :
    @Eq EReal ((iblk m c 1 t : Vec Ideal S256x1024 .bf16) (ix2 (⟨k.val * 8 + r.val, by omega⟩ : Fin 256) (⟨a.val * 8 + s.val, by omega⟩ : Fin 1024)))
      (@HMul.hMul EReal EReal EReal _ ((m (c.tc.loc main_arg1) : FVec Ideal S32x128 .f32) (ix2 k a)) (if r = s then 1 else 0)) := by
  refine Eq.trans ?_ ((congrFun (V_kron m c) _).trans ((kronArr_apply _ k r a s).trans
    (congrArg (fun e : EReal => @HMul.hMul EReal EReal EReal _ ((m (c.tc.loc main_arg1) : FVec Ideal S32x128 .f32) (ix2 k a)) e) (eyeArr_apply r s))))
  unfold iblk
  refine (View.read_apply ..).trans ?_
  show V m c main_v7 _ = V m c main_v7 _
  congr 1
  funext a'
  apply Fin.ext
  match a' with
  | ⟨0, _⟩ => show 0 * 256 + 1 * (k.val * 8 + r.val) = k.val * 8 + r.val; omega
  | ⟨1, _⟩ => show 0 * 1024 + 1 * (a.val * 8 + s.val) = a.val * 8 + s.val; omega

theorem z_block (t : Fin grid0.N) (k : Fin 32) (r : Fin 8) (q : Fin 512) :
    (iblk m c 2 t : Vec Ideal S1x32x8x512 .f32) (ix4 (0 : Fin 1) k r q)
      = (m (c.tc.loc main_arg2) : FVec Ideal S16x32x64x512 .f32) (ix4 (seqAt t) k (posAt t r) q) := by
  refine Eq.trans ?_ (congrFun (V_main_arg2 m c) _)
  unfold iblk
  refine (View.read_apply ..).trans ?_
  show V m c main_arg2 _ = V m c main_arg2 _
  congr 1
  funext a
  apply Fin.ext
  match a with
  | ⟨0, _⟩ => show cc0_transform_2 (grid0.coords t) 0 * 1 + 1 * 0 = t.val / 8; rw [at2]; show t.val / 8 * 1 + 1 * 0 = _; omega
  | ⟨1, _⟩ => show cc0_transform_2 (grid0.coords t) 1 * 32 + 1 * k.val = k.val; rw [at2]; show 0 * 32 + 1 * k.val = _; omega
  | ⟨2, _⟩ => show cc0_transform_2 (grid0.coords t) 2 * 8 + 1 * r.val = t.val % 8 * 8 + r.val; rw [at2]; show t.val % 8 * 8 + 1 * r.val = _; omega
  | ⟨3, _⟩ => show cc0_transform_2 (grid0.coords t) 3 * 512 + 1 * q.val = q.val; rw [at2]; show 0 * 512 + 1 * q.val = _; omega

theorem x_block (t : Fin grid0.N) (k : Fin 32) (r : Fin 8) (q : Fin 512) :
    (iblk m c 3 t : Vec Ideal S1x32x8x512 .f32) (ix4 (0 : Fin 1) k r q)
      = (m (c.tc.loc main_arg3) : FVec Ideal S16x32x64x512 .f32) (ix4 (seqAt t) k (posAt t r) q) := by
  refine Eq.trans ?_ (congrFun (V_main_arg3 m c) _)
  unfold iblk
  refine (View.read_apply ..).trans ?_
  show V m c main_arg3 _ = V m c main_arg3 _
  congr 1
  funext a
  apply Fin.ext
  match a with
  | ⟨0, _⟩ => show cc0_transform_3 (grid0.coords t) 0 * 1 + 1 * 0 = t.val / 8; rw [at3]; show t.val / 8 * 1 + 1 * 0 = _; omega
  | ⟨1, _⟩ => show cc0_transform_3 (grid0.coords t) 1 * 32 + 1 * k.val = k.val; rw [at3]; show 0 * 32 + 1 * k.val = _; omega
  | ⟨2, _⟩ => show cc0_transform_3 (grid0.coords t) 2 * 8 + 1 * r.val = t.val % 8 * 8 + r.val; rw [at3]; show t.val % 8 * 8 + 1 * r.val = _; omega
  | ⟨3, _⟩ => show cc0_transform_3 (grid0.coords t) 3 * 512 + 1 * q.val = q.val; rw [at3]; show 0 * 512 + 1 * q.val = _; omega

theorem bias_block (t : Fin grid0.N) (q : Fin 512) :
    (iblk m c 4 t : Vec Ideal S1x1x512 .f32) (ix3 (0 : Fin 1) (0 : Fin 1) q) = (m (c.tc.loc main_arg4) : FVec Ideal S512 .f32) (ix1 q) := by
  refine Eq.trans ?_ ((congrFun (V_bias m c) (ix3 (0 : Fin 1) (0 : Fin 1) q)).trans (bias_read _ _))
  unfold iblk
  refine (View.read_apply ..).trans ?_
  show V m c main_v8 _ = V m c main_v8 _
  congr 1
  funext a
  apply Fin.ext
  match a with
  | ⟨0, _⟩ => show 0 * 1 + 1 * 0 = 0; omega
  | ⟨1, _⟩ => show 0 * 1 + 1 * 0 = 0; omega
  | ⟨2, _⟩ => show 0 * 512 + 1 * q.val = q.val; omega

theorem zero3 : (![0, 0, 0] : Fin 3 → Nat) = fun _ => 0 := funext fun a => by fin_cases a <;> rfl
theorem zero4 : (![0, 0, 0, 0] : Fin 4 → Nat) = fun _ => 0 := funext fun a => by fin_cases a <;> rfl
theorem zero5 : (![0, 0, 0, 0, 0] : Fin 5 → Nat) = fun _ => 0 := funext fun a => by fin_cases a <;> rfl

/-- What the body leaves in its block of the result. -/
theorem out_eq (x0 : Vec Ideal S1x2x64x8x512 .bf16) (x1 : Vec Ideal S256x1024 .bf16) (x2 x3 : Vec Ideal S1x32x8x512 .f32) (x4 : Vec Ideal S1x1x512 .f32) :
    out0_5 x0 x1 x2 x3 x4 = k0_pay1 x1 x0 x2 x4 x3 := by
  unfold out0_5
  rw [View.canon_unit_zero zero4]
  simp only [View.ld_unit_zero (S := S256x1024) zero2, View.ld_unit_zero (S := S1x2x64x8x512) zero5, View.ld_unit_zero (S := S1x32x8x512) zero4,
    View.ld_unit_zero (S := S1x1x512) zero3]

/-- The result array. -/
def resultArr : FVec Ideal S16x32x64x512 .f32 := fun y =>
  last (fun i p f n q => (m (c.tc.loc main_arg0) : FVec Ideal S16x2x64x64x512 .bf16) (ix5 i p f n q))
    (fun k a => (m (c.tc.loc main_arg1) : FVec Ideal S32x128 .f32) (ix2 k a))
    (fun i k n q => (m (c.tc.loc main_arg2) : FVec Ideal S16x32x64x512 .f32) (ix4 i k n q))
    (fun i k n q => (m (c.tc.loc main_arg3) : FVec Ideal S16x32x64x512 .f32) (ix4 i k n q))
    (fun q => (m (c.tc.loc main_arg4) : FVec Ideal S512 .f32) (ix1 q)) (y 0) (y 1) (y 2) (y 3)

/-- What every point leaves in its block of the result. -/
theorem block_at (t : Fin grid0.N) (k : Fin 32) (r : Fin 8) (q : Fin 512) :
    out0_5 (iblk m c 0 t) (iblk m c 1 t) (iblk m c 2 t) (iblk m c 3 t) (iblk m c 4 t) (ix4 (0 : Fin 1) k r q)
      = resultArr m c (ix4 (seqAt t) k (posAt t r) q) := by
  rw [out_eq, pay_apply, z_block, x_block, bias_block,
    kron_sum _ _ (fun a => (m (c.tc.loc main_arg1) : FVec Ideal S32x128 .f32) (ix2 k a)) r (fun a s => kron_block m c t k r a s)]
  refine congrArg (fun s : EReal => (HAdd.hAdd (α := EReal) (β := EReal) (γ := EReal) s _) * (_ : EReal)) (Finset.sum_congr rfl fun a _ =>
    congrArg (fun e : EReal => @HMul.hMul EReal EReal EReal _ ((m (c.tc.loc main_arg1) : FVec Ideal S32x128 .f32) (ix2 k a)) e) ?_)
  refine (b_block m c t _ _ _ q).trans ?_
  show (m (c.tc.loc main_arg0) : FVec Ideal S16x2x64x64x512 .bf16) _ = (m (c.tc.loc main_arg0) : FVec Ideal S16x2x64x64x512 .bf16) _
  congr 1
  funext e
  apply Fin.ext
  match e with
  | ⟨0, _⟩ => rfl
  | ⟨1, _⟩ => show (a.val * 8 + r.val) / 512 = a.val / 64; omega
  | ⟨2, _⟩ => show (a.val * 8 + r.val) / 8 % 64 = a.val % 64; omega
  | ⟨3, _⟩ => show t.val % 8 * 8 + (a.val * 8 + r.val) % 8 = t.val % 8 * 8 + r.val; omega
  | ⟨4, _⟩ => rfl

/-- What a point writes back is its block of the result. -/
theorem flushed_eq (t : Fin cfg0.N) (hf : (cfg0.win 5).flush t = true) :
    (dats m 0 c).flushed 5 t = ((cfg0.win 5).blk t).view.read (Elt Ideal) (resultArr m c) := by
  refine funext fun (y : S1x32x8x512.Idx) => ?_
  refine Eq.trans ?_ (View.read_apply ..).symm
  refine Eq.trans (b := out0_5 (iblk m c 0 t) (iblk m c 1 t) (iblk m c 2 t) (iblk m c 3 t) (iblk m c 4 t) y) (congrFun (after0_5 m c t) y) ?_
  obtain ⟨k, r, q, rfl⟩ : ∃ (k : Fin 32) (r : Fin 8) (q : Fin 512), y = ix4 (0 : Fin 1) k r q :=
    ⟨y 1, y 2, y 3, (eq_ix4 y).trans (congrArg (fun e : Fin 1 => (ix4 e (y 1) (y 2) (y 3) : S1x32x8x512.Idx)) (Subsingleton.elim (α := Fin 1) (y 0) 0))⟩
  refine (block_at m c t k r q).trans ?_
  show resultArr m c (ix4 (seqAt t) k (posAt t r) q) = resultArr m c _
  congr 1
  funext a
  apply Fin.ext
  match a with
  | ⟨0, _⟩ => show t.val / 8 = cc0_transform_5 (grid0.coords t) 0 * 1 + 1 * 0; rw [at5]; show _ = t.val / 8 * 1 + 1 * 0; omega
  | ⟨1, _⟩ => show k.val = cc0_transform_5 (grid0.coords t) 1 * 32 + 1 * k.val; rw [at5]; show _ = 0 * 32 + 1 * k.val; omega
  | ⟨2, _⟩ => show t.val % 8 * 8 + r.val = cc0_transform_5 (grid0.coords t) 2 * 8 + 1 * r.val; rw [at5]; show _ = t.val % 8 * 8 + 1 * r.val; omega
  | ⟨3, _⟩ => show q.val = cc0_transform_5 (grid0.coords t) 3 * 512 + 1 * q.val; rw [at5]; show _ = 0 * 512 + 1 * q.val; omega

/-- Every index of the array is in the block some point writes back. -/
theorem covered (y : S16x32x64x512.Idx) : ∃ t : Fin cfg0.N, (cfg0.win 5).flush t = true ∧ y ∈ ((cfg0.win 5).blk t).view.set := by
  have h0 : (y 0 : Nat) < 16 := (y 0).isLt
  have h1 : (y 1 : Nat) < 32 := (y 1).isLt
  have h2 : (y 2 : Nat) < 64 := (y 2).isLt
  have h3 : (y 3 : Nat) < 512 := (y 3).isLt
  have hN : cfg0.N = 128 := N_0
  let t : Fin cfg0.N := ⟨(y 0).val * 8 + (y 2).val / 8, by omega⟩
  refine ⟨t, flush0_5 t, ?_⟩
  refine (iff_of_eq (congrArg (fun S => y ∈ S) (View.set_slice_whole main_v9 ((cfg0.win 5).rect t)))).mpr ?_
  refine Rect.mem_set_unit.mpr fun a => ?_
  match a with
  | ⟨0, _⟩ =>
    show cc0_transform_5 (grid0.coords t) 0 * 1 ≤ (y 0).val ∧ (y 0).val < cc0_transform_5 (grid0.coords t) 0 * 1 + 1
    rw [at5]
    show ((y 0).val * 8 + (y 2).val / 8) / 8 * 1 ≤ (y 0).val ∧ (y 0).val < ((y 0).val * 8 + (y 2).val / 8) / 8 * 1 + 1
    omega
  | ⟨1, _⟩ =>
    show cc0_transform_5 (grid0.coords t) 1 * 32 ≤ (y 1).val ∧ (y 1).val < cc0_transform_5 (grid0.coords t) 1 * 32 + 32
    rw [at5]; show 0 * 32 ≤ (y 1).val ∧ (y 1).val < 0 * 32 + 32; omega
  | ⟨2, _⟩ =>
    show cc0_transform_5 (grid0.coords t) 2 * 8 ≤ (y 2).val ∧ (y 2).val < cc0_transform_5 (grid0.coords t) 2 * 8 + 8
    rw [at5]
    show ((y 0).val * 8 + (y 2).val / 8) % 8 * 8 ≤ (y 2).val ∧ (y 2).val < ((y 0).val * 8 + (y 2).val / 8) % 8 * 8 + 8
    omega
  | ⟨3, _⟩ =>
    show cc0_transform_5 (grid0.coords t) 3 * 512 ≤ (y 3).val ∧ (y 3).val < cc0_transform_5 (grid0.coords t) 3 * 512 + 512
    rw [at5]; show 0 * 512 ≤ (y 3).val ∧ (y 3).val < 0 * 512 + 512; omega

/-- The array after the run. -/
theorem final_eq : (dats m 0 c).arrAt 5 cfg0.N = resultArr m c :=
  (dats m 0 c).arrAt_eq_of_cover 5 (resultArr m c) (flushed_eq m c) covered

end windows

section reference

open Cert.Reference9Ideal Cert.Reference9Ideal.Read

variable (x0 : FVec Ideal S16x2x64x64x512 .bf16) (x1 : FVec Ideal S32x128 .f32) (x2 x3 : FVec Ideal S16x32x64x512 .f32) (x4 : FVec Ideal S512 .f32)

theorem ref_rows (i : Fin 16) (a : Fin 128) (n : Fin 64) (q : Fin 512) :
    val_main_v1 (F := Ideal) x0 (ix4 i a n q) = x0 (ix5 i (⟨a.val / 64, by omega⟩ : Fin 2) (⟨a.val % 64, by omega⟩ : Fin 64) n q) := by
  refine (val_main_v1_apply ..).trans ((val_main_v0_apply ..).trans ?_)
  show x0 _ = x0 _
  congr 1
  funext e
  apply Fin.ext
  match e with
  | ⟨0, _⟩ => show (((i.val * 128 + a.val) * 64 + n.val) * 512 + q.val) / 4194304 = i.val; omega
  | ⟨1, _⟩ => show (((i.val * 128 + a.val) * 64 + n.val) * 512 + q.val) / 2097152 % 2 = a.val / 64; omega
  | ⟨2, _⟩ => show (((i.val * 128 + a.val) * 64 + n.val) * 512 + q.val) / 32768 % 64 = a.val % 64; omega
  | ⟨3, _⟩ => show (((i.val * 128 + a.val) * 64 + n.val) * 512 + q.val) / 512 % 64 = n.val; omega
  | ⟨4, _⟩ => show (((i.val * 128 + a.val) * 64 + n.val) * 512 + q.val) % 512 = q.val; omega

theorem ref_sum (i : Fin 16) (k : Fin 32) (n : Fin 64) (q : Fin 512) :
    val_main_v3 (F := Ideal) x0 x1 (ix4 i k n q)
      = ∑ a : Fin 128, x1 (ix2 k a) * x0 (ix5 i (⟨a.val / 64, by omega⟩ : Fin 2) (⟨a.val % 64, by omega⟩ : Fin 64) n q) := by
  refine (val_main_v3_apply ..).trans ((val_main_v2_apply ..).trans (Finset.sum_congr rfl fun a _ => (mul_comm _ _).trans ?_))
  refine congrArg₂ (· * ·) ?_ ((congrArg (val_main_v1 (F := Ideal) x0) ?_).trans (ref_rows x0 i a n q))
  · show x1 _ = x1 _
    congr 1
    funext e
    match e with
    | ⟨0, _⟩ => rfl
    | ⟨1, _⟩ => rfl
  · funext e
    match e with
    | ⟨0, _⟩ => rfl
    | ⟨1, _⟩ => rfl
    | ⟨2, _⟩ => rfl
    | ⟨3, _⟩ => rfl

theorem ref_bias (i : Fin 16) (k : Fin 32) (n : Fin 64) (q : Fin 512) : val_main_v5 (F := Ideal) x4 (ix4 i k n q) = x4 (ix1 q) := by
  pointwise [val_main_v5, val_main_v4]

/-- The reference's array. -/
theorem ref_eq : val_main_v8 (F := Ideal) x0 x1 x2 x3 x4 = fun y =>
    last (fun i p f n q => x0 (ix5 i p f n q)) (fun k a => x1 (ix2 k a)) (fun i k n q => x2 (ix4 i k n q)) (fun i k n q => x3 (ix4 i k n q))
      (fun q => x4 (ix1 q)) (y 0) (y 1) (y 2) (y 3) := by
  refine funext fun (y : S16x32x64x512.Idx) => ?_
  obtain ⟨i, k, n, q, rfl⟩ : ∃ i k n q, y = ix4 i k n q := ⟨_, _, _, _, eq_ix4 y⟩
  refine (val_main_v8_apply ..).trans ?_
  rw [val_main_v7_apply, val_main_v6_apply, ref_sum, ref_bias]
  rfl

end reference

/-- The kernel runs and leaves its arguments. -/
theorem frame_kernel : Cert.quiescent_Kernel9 := fun m ρ _ => Cert.Kernel9.Gen.frame m ρ

/-- The ideal kernel runs and leaves its arguments. -/
theorem frame_ideal : Cert.quiescent_Kernel9Ideal := fun m ρ _ => Cert.Kernel9Ideal.Gen.frame m ρ

/-- The reference runs and leaves its arguments. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The last stage's kernel and its plain definition end with the same array. -/
theorem same : Cert.algebraic_Kernel9Ideal_Reference9Ideal := by
  intro m ρ m' ρ' _ hag
  refine ⟨fun c => resultArr m c, ?_, ?_⟩
  · exact (θ_run Cert.Kernel9Ideal.defs _ _).mono (fun r h c => ⟨(h c).1.trans (final_eq m c), (h c).2⟩)
      (Cert.Kernel9Ideal.Value.run_blocks m ρ)
  · refine (θ_run Cert.Reference9Ideal.defs _ _).mono (fun r h c => ⟨(h c).1.trans ?_, (h c).2⟩)
      (Cert.Reference9Ideal.Value.run (F := Ideal) m' ρ')
    refine (Cert.Reference9Ideal.Read.val_main_v8_eq (F := Ideal) _ _ _ _ _).trans ?_
    rw [(hag c).1, (hag c).2.1, (hag c).2.2.1, (hag c).2.2.2.1, (hag c).2.2.2.2]
    exact ref_eq ..

end Cert.HyFinal

end
-- ==== Proof.HyFirst.lean ====
module

public import proofs.«01_k».proof.Proof.HyFinal
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Defs

/-! The Hyena mixer's first stage: the first stage of the transform of its first product. The kernel takes eight positions at once
and multiplies by the Kronecker product of the table and the identity; the reference multiplies by the table. -/

@[expose] public section

set_option maxRecDepth 16384

noncomputable section

open scoped BigOperators

namespace Cert.HyFirst

open Idealize.ShloMosaic Idealize.ShloMosaic.TcCoe Idealize.SL.Sem Idealize.ShloMosaic.StableHlo
open Cert.Norm Cert.HyFinal

/-- The transform's first stage at one element. -/
def first (z : Fin 16 → Fin 32 → Fin 64 → Fin 512 → EReal) (w : Fin 128 → Fin 64 → EReal) (i : Fin 16) (p : Fin 2) (f : Fin 64) (n : Fin 64) (q : Fin 512) :
    EReal :=
  ∑ a : Fin 32, w ⟨p.val * 64 + f.val, by omega⟩ ⟨a.val, by omega⟩ * z i a n q

/-- A row of the Kronecker product selects every eighth entry. -/
theorem kron_sum_short (K f : Fin 256 → EReal) (w : Fin 32 → EReal) (r : Fin 8)
    (hK : ∀ (a : Fin 32) (s : Fin 8), K ⟨a.val * 8 + s.val, by omega⟩ = w a * if r = s then 1 else 0) :
    ∑ j, K j * f j = ∑ a : Fin 32, w a * f ⟨a.val * 8 + r.val, by omega⟩ := by
  rw [← Equiv.sum_comp (finProdFinEquiv (m := 32) (n := 8)), Fintype.sum_prod_type]
  refine Finset.sum_congr rfl fun a _ => ?_
  have e : ∀ s : Fin 8, (finProdFinEquiv (a, s) : Fin (32 * 8)) = (⟨a.val * 8 + s.val, by omega⟩ : Fin 256) := fun s =>
    Fin.ext (show s.val + 8 * a.val = a.val * 8 + s.val by omega)
  refine (Finset.sum_eq_single r (fun s _ hs => ?_) (fun h => absurd (Finset.mem_univ r) h)).trans ?_
  · rw [e s, hK a s, if_neg (Ne.symm hs), mul_zero, zero_mul]
  · rw [e r, hK a r, if_pos rfl, mul_one]

section host

open Cert.Kernel10Ideal Cert.Kernel10Ideal.Gen

variable (m : (ℓ : Loc nD τ sig) → Buf (Elt Ideal) ℓ) (c : Dev nD)

/-- The Kronecker product of the table's first 32 columns and the identity. -/
def kronRows (w : FVec Ideal S128x64 .f32) : FVec Ideal S1024x256 .bf16 :=
  shapeCast S1024x256 (mulf
    (broadcastInDim S128x8x32x8 ![0, 1, 2, 3] bcast_S128x1x32x1_S128x8x32x8_0_1_2_3 (broadcastInDim S128x1x32x1 ![0, 2] bcast_S128x32_S128x1x32x1_0_2
      (truncf .bf16 (extractStridedSlice S128x32 ![0, 0] w slices_S128x64_S128x32_0_0) bitsLt_bf16_f32)))
    (broadcastInDim S128x8x32x8 ![0, 1, 2, 3] bcast_S1x8x1x8_S128x8x32x8_0_1_2_3 (broadcastInDim S1x8x1x8 ![1, 3] bcast_S8x8_S1x8x1x8_1_3 eyeArr)))
    shapeCasts_S128x8x32x8_S1024x256

theorem V_kron : (V m c main_v8 : FVec Ideal S1024x256 .bf16) = kronRows (m (c.tc.loc main_arg1)) := by
  unfold V
  simp only [hostOps0, hostOps0_1, List.flatten, List.append, List.cons_append, List.nil_append]
  after_results
  rfl

theorem kronRows_apply (w : FVec Ideal S128x64 .f32) (k : Fin 128) (r : Fin 8) (a : Fin 32) (s : Fin 8) :
    kronRows w (ix2 (⟨k.val * 8 + r.val, by omega⟩ : Fin 1024) (⟨a.val * 8 + s.val, by omega⟩ : Fin 256))
      = w (ix2 k (⟨a.val, by omega⟩ : Fin 64)) * eyeArr (ix2 r s) := by
  unfold kronRows
  rw [shapeCast_apply _ shapeCasts_S128x8x32x8_S1024x256 _ (ix4 k r a s) (by
    rewrite [Shape.rowMajor_val_four, Shape.rowMajor_val_two]
    show ((k.val * 8 + r.val) * 32 + a.val) * 8 + s.val = (k.val * 8 + r.val) * 256 + (a.val * 8 + s.val)
    omega)]
  pointwise

end host

section body

open Cert.Kernel10Ideal Cert.Kernel10Ideal.Gen

/-- A block of the product is a sum over the table's columns and the block's rows. -/
theorem pay_apply (x : Vec Ideal S1x32x8x512 .f32) (K : Vec Ideal S1024x256 .bf16) (p : Fin 2) (f : Fin 64) (r : Fin 8) (q : Fin 512) :
    k0_pay1 x K (ix5 (0 : Fin 1) p f r q)
      = ∑ j : Fin 256, K (ix2 (⟨(p.val * 64 + f.val) * 8 + r.val, by omega⟩ : Fin 1024) j)
            * x (ix4 (0 : Fin 1) (⟨j.val / 8, by omega⟩ : Fin 32) (⟨j.val % 8, by omega⟩ : Fin 8) q) := by
  have e : (⟨p.val * 512 + f.val * 8 + r.val, by omega⟩ : Fin 1024) = ⟨(p.val * 64 + f.val) * 8 + r.val, by omega⟩ :=
    Fin.ext (show p.val * 512 + f.val * 8 + r.val = (p.val * 64 + f.val) * 8 + r.val by omega)
  unfold k0_pay1
  pointwise
  rw [e]

end body

section windows

open Cert.Kernel10Ideal Cert.Kernel10Ideal.Gen

variable (m : (ℓ : Loc nD τ sig) → Buf (Elt Ideal) ℓ) (c : Dev nD)

theorem at0 (t : Fin grid0.N) : cc0_transform_0 (grid0.coords t) = ![t.val / 8, 0, t.val % 8, 0] := by
  revert t; decide +kernel
theorem at2 (t : Fin grid0.N) : cc0_transform_2 (grid0.coords t) = ![t.val / 8, 0, 0, t.val % 8, 0] := by
  revert t; decide +kernel

/-- The sequence of a point. -/
def seqAt (t : Fin grid0.N) : Fin 16 := ⟨t.val / 8, by have := lt_of_lt_of_eq t.isLt N_0; omega⟩

/-- The position that row `r` of a point's blocks is. -/
def posAt (t : Fin grid0.N) (r : Fin 8) : Fin 64 := ⟨t.val % 8 * 8 + r.val, by omega⟩

theorem z_block (t : Fin grid0.N) (k : Fin 32) (r : Fin 8) (q : Fin 512) :
    (iblk m c 0 t : Vec Ideal S1x32x8x512 .f32) (ix4 (0 : Fin 1) k r q)
      = (m (c.tc.loc main_arg0) : FVec Ideal S16x32x64x512 .f32) (ix4 (seqAt t) k (posAt t r) q) := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show cc0_transform_0 (grid0.coords t) 0 * 1 + 1 * 0 = t.val / 8; rw [at0]; show t.val / 8 * 1 + 1 * 0 = _; omega
  | ⟨1, _⟩ => show cc0_transform_0 (grid0.coords t) 1 * 32 + 1 * k.val = k.val; rw [at0]; show 0 * 32 + 1 * k.val = _; omega
  | ⟨2, _⟩ => show cc0_transform_0 (grid0.coords t) 2 * 8 + 1 * r.val = t.val % 8 * 8 + r.val; rw [at0]; show t.val % 8 * 8 + 1 * r.val = _; omega
  | ⟨3, _⟩ => show cc0_transform_0 (grid0.coords t) 3 * 512 + 1 * q.val = q.val; rw [at0]; show 0 * 512 + 1 * q.val = _; omega

theorem kron_block (t : Fin grid0.N) (k : Fin 128) (r : Fin 8) (a : Fin 32) (s : Fin 8) :
    @Eq EReal ((iblk m c 1 t : Vec Ideal S1024x256 .bf16) (ix2 (⟨k.val * 8 + r.val, by omega⟩ : Fin 1024) (⟨a.val * 8 + s.val, by omega⟩ : Fin 256)))
      (@HMul.hMul EReal EReal EReal _ ((m (c.tc.loc main_arg1) : FVec Ideal S128x64 .f32) (ix2 k (⟨a.val, by omega⟩ : Fin 64))) (if r = s then 1 else 0)) := by
  refine Eq.trans ?_ ((congrFun (V_kron m c) _).trans ((kronRows_apply _ k r a s).trans
    (congrArg (fun e : EReal => @HMul.hMul EReal EReal EReal _ ((m (c.tc.loc main_arg1) : FVec Ideal S128x64 .f32) (ix2 k (⟨a.val, by omega⟩ : Fin 64))) e)
      (eyeArr_apply r s))))
  unfold iblk
  refine (View.read_apply ..).trans ?_
  show V m c main_v8 _ = V m c main_v8 _
  congr 1
  funext a'
  apply Fin.ext
  match a' with
  | ⟨0, _⟩ => show 0 * 1024 + 1 * (k.val * 8 + r.val) = k.val * 8 + r.val; omega
  | ⟨1, _⟩ => show 0 * 256 + 1 * (a.val * 8 + s.val) = a.val * 8 + s.val; omega

/-- What the body leaves in its block of the result. -/
theorem out_eq (x0 : Vec Ideal S1x32x8x512 .f32) (x1 : Vec Ideal S1024x256 .bf16) : out0_2 x0 x1 = k0_pay1 x0 x1 := by
  unfold out0_2
  rw [View.canon_unit_zero zero5]
  simp only [View.ld_unit_zero (S := S1x32x8x512) zero4, View.ld_unit_zero (S := S1024x256) zero2]

/-- The result array. -/
def resultArr : FVec Ideal S16x2x64x64x512 .bf16 := fun y =>
  first (fun i k n q => (m (c.tc.loc main_arg0) : FVec Ideal S16x32x64x512 .f32) (ix4 i k n q))
    (fun k a => (m (c.tc.loc main_arg1) : FVec Ideal S128x64 .f32) (ix2 k a)) (y 0) (y 1) (y 2) (y 3) (y 4)

/-- What every point leaves in its block of the result. -/
theorem block_at (t : Fin grid0.N) (p : Fin 2) (f : Fin 64) (r : Fin 8) (q : Fin 512) :
    out0_2 (iblk m c 0 t) (iblk m c 1 t) (ix5 (0 : Fin 1) p f r q) = resultArr m c (ix5 (seqAt t) p f (posAt t r) q) := by
  rw [out_eq, pay_apply, kron_sum_short _ _ (fun a : Fin 32 => (m (c.tc.loc main_arg1) : FVec Ideal S128x64 .f32)
    (ix2 (⟨p.val * 64 + f.val, by omega⟩ : Fin 128) (⟨a.val, by omega⟩ : Fin 64))) r
    (fun a s => kron_block m c t ⟨p.val * 64 + f.val, by omega⟩ r a s)]
  show _ = ∑ a : Fin 32, @HMul.hMul EReal EReal EReal _ ((m (c.tc.loc main_arg1) : FVec Ideal S128x64 .f32)
    (ix2 (⟨p.val * 64 + f.val, by omega⟩ : Fin 128) (⟨a.val, by omega⟩ : Fin 64)))
    ((m (c.tc.loc main_arg0) : FVec Ideal S16x32x64x512 .f32) (ix4 (seqAt t) a (posAt t r) q))
  refine Finset.sum_congr rfl fun (a : Fin 32) _ => congrArg (fun e : EReal => @HMul.hMul EReal EReal EReal _ ((m (c.tc.loc main_arg1) : FVec Ideal S128x64 .f32)
    (ix2 (⟨p.val * 64 + f.val, by omega⟩ : Fin 128) (⟨a.val, by omega⟩ : Fin 64))) e) ?_
  refine (z_block m c t _ _ q).trans ?_
  show (m (c.tc.loc main_arg0) : FVec Ideal S16x32x64x512 .f32) _ = (m (c.tc.loc main_arg0) : FVec Ideal S16x32x64x512 .f32) _
  congr 1
  funext e
  apply Fin.ext
  match e with
  | ⟨0, _⟩ => rfl
  | ⟨1, _⟩ => show (a.val * 8 + r.val) / 8 = a.val; omega
  | ⟨2, _⟩ => show t.val % 8 * 8 + (a.val * 8 + r.val) % 8 = t.val % 8 * 8 + r.val; omega
  | ⟨3, _⟩ => rfl

/-- What a point writes back is its block of the result. -/
theorem flushed_eq (t : Fin cfg0.N) (hf : (cfg0.win 2).flush t = true) :
    (dats m 0 c).flushed 2 t = ((cfg0.win 2).blk t).view.read (Elt Ideal) (resultArr m c) := by
  refine funext fun (y : S1x2x64x8x512.Idx) => ?_
  refine Eq.trans ?_ (View.read_apply ..).symm
  refine Eq.trans (b := out0_2 (iblk m c 0 t) (iblk m c 1 t) y) (congrFun (after0_2 m c t) y) ?_
  obtain ⟨p, f, r, q, rfl⟩ : ∃ (p : Fin 2) (f : Fin 64) (r : Fin 8) (q : Fin 512), y = ix5 (0 : Fin 1) p f r q :=
    ⟨y 1, y 2, y 3, y 4, (eq_ix5 y).trans
      (congrArg (fun e : Fin 1 => (ix5 e (y 1) (y 2) (y 3) (y 4) : S1x2x64x8x512.Idx)) (Subsingleton.elim (α := Fin 1) (y 0) 0))⟩
  refine (block_at m c t p f r q).trans ?_
  show resultArr m c (ix5 (seqAt t) p f (posAt t r) q) = resultArr m c _
  congr 1
  funext a
  apply Fin.ext
  match a with
  | ⟨0, _⟩ => show t.val / 8 = cc0_transform_2 (grid0.coords t) 0 * 1 + 1 * 0; rw [at2]; show _ = t.val / 8 * 1 + 1 * 0; omega
  | ⟨1, _⟩ => show p.val = cc0_transform_2 (grid0.coords t) 1 * 2 + 1 * p.val; rw [at2]; show _ = 0 * 2 + 1 * p.val; omega
  | ⟨2, _⟩ => show f.val = cc0_transform_2 (grid0.coords t) 2 * 64 + 1 * f.val; rw [at2]; show _ = 0 * 64 + 1 * f.val; omega
  | ⟨3, _⟩ => show t.val % 8 * 8 + r.val = cc0_transform_2 (grid0.coords t) 3 * 8 + 1 * r.val; rw [at2]; show _ = t.val % 8 * 8 + 1 * r.val; omega
  | ⟨4, _⟩ => show q.val = cc0_transform_2 (grid0.coords t) 4 * 512 + 1 * q.val; rw [at2]; show _ = 0 * 512 + 1 * q.val; omega

/-- Every index of the array is in the block some point writes back. -/
theorem covered (y : S16x2x64x64x512.Idx) : ∃ t : Fin cfg0.N, (cfg0.win 2).flush t = true ∧ y ∈ ((cfg0.win 2).blk t).view.set := by
  have h0 : (y 0 : Nat) < 16 := (y 0).isLt
  have h1 : (y 1 : Nat) < 2 := (y 1).isLt
  have h2 : (y 2 : Nat) < 64 := (y 2).isLt
  have h3 : (y 3 : Nat) < 64 := (y 3).isLt
  have h4 : (y 4 : Nat) < 512 := (y 4).isLt
  have hN : cfg0.N = 128 := N_0
  let t : Fin cfg0.N := ⟨(y 0).val * 8 + (y 3).val / 8, by omega⟩
  refine ⟨t, flush0_2 t, ?_⟩
  refine (iff_of_eq (congrArg (fun S => y ∈ S) (View.set_slice_whole main_v9 ((cfg0.win 2).rect t)))).mpr ?_
  refine Rect.mem_set_unit.mpr fun a => ?_
  match a with
  | ⟨0, _⟩ =>
    show cc0_transform_2 (grid0.coords t) 0 * 1 ≤ (y 0).val ∧ (y 0).val < cc0_transform_2 (grid0.coords t) 0 * 1 + 1
    rw [at2]
    show ((y 0).val * 8 + (y 3).val / 8) / 8 * 1 ≤ (y 0).val ∧ (y 0).val < ((y 0).val * 8 + (y 3).val / 8) / 8 * 1 + 1
    omega
  | ⟨1, _⟩ =>
    show cc0_transform_2 (grid0.coords t) 1 * 2 ≤ (y 1).val ∧ (y 1).val < cc0_transform_2 (grid0.coords t) 1 * 2 + 2
    rw [at2]; show 0 * 2 ≤ (y 1).val ∧ (y 1).val < 0 * 2 + 2; omega
  | ⟨2, _⟩ =>
    show cc0_transform_2 (grid0.coords t) 2 * 64 ≤ (y 2).val ∧ (y 2).val < cc0_transform_2 (grid0.coords t) 2 * 64 + 64
    rw [at2]; show 0 * 64 ≤ (y 2).val ∧ (y 2).val < 0 * 64 + 64; omega
  | ⟨3, _⟩ =>
    show cc0_transform_2 (grid0.coords t) 3 * 8 ≤ (y 3).val ∧ (y 3).val < cc0_transform_2 (grid0.coords t) 3 * 8 + 8
    rw [at2]
    show ((y 0).val * 8 + (y 3).val / 8) % 8 * 8 ≤ (y 3).val ∧ (y 3).val < ((y 0).val * 8 + (y 3).val / 8) % 8 * 8 + 8
    omega
  | ⟨4, _⟩ =>
    show cc0_transform_2 (grid0.coords t) 4 * 512 ≤ (y 4).val ∧ (y 4).val < cc0_transform_2 (grid0.coords t) 4 * 512 + 512
    rw [at2]; show 0 * 512 ≤ (y 4).val ∧ (y 4).val < 0 * 512 + 512; omega

/-- The array after the run. -/
theorem final_eq : (dats m 0 c).arrAt 2 cfg0.N = resultArr m c :=
  (dats m 0 c).arrAt_eq_of_cover 2 (resultArr m c) (flushed_eq m c) covered

end windows

section reference

open Cert.Reference10Ideal Cert.Reference10Ideal.Read

variable (x0 : FVec Ideal S16x32x64x512 .f32) (x1 : FVec Ideal S128x64 .f32)

/-- The reference's array. -/
theorem ref_eq : val_main_v4 (F := Ideal) x0 x1 = fun y =>
    first (fun i k n q => x0 (ix4 i k n q)) (fun k a => x1 (ix2 k a)) (y 0) (y 1) (y 2) (y 3) (y 4) := by
  refine funext fun (y : S16x2x64x64x512.Idx) => ?_
  obtain ⟨i, p, f, n, q, rfl⟩ : ∃ i p f n q, y = ix5 i p f n q := ⟨_, _, _, _, _, eq_ix5 y⟩
  refine (val_main_v4_apply ..).trans ?_
  refine (val_main_v3_apply ..).trans ((val_main_v2_apply ..).trans ((val_main_v1_apply ..).trans (Finset.sum_congr rfl fun a _ => (mul_comm _ _).trans ?_)))
  refine congrArg₂ (· * ·) ((val_main_v0_apply ..).trans ?_) ?_
  · show x1 _ = x1 _
    congr 1
    funext e
    apply Fin.ext
    match e with
    | ⟨0, _⟩ => show ((((i.val * 2 + p.val) * 64 + f.val) * 64 + n.val) * 512 + q.val) / 32768 % 128 = p.val * 64 + f.val; omega
    | ⟨1, _⟩ => rfl
  · show x0 _ = x0 _
    congr 1
    funext e
    apply Fin.ext
    match e with
    | ⟨0, _⟩ => show ((((i.val * 2 + p.val) * 64 + f.val) * 64 + n.val) * 512 + q.val) / 4194304 = i.val; omega
    | ⟨1, _⟩ => rfl
    | ⟨2, _⟩ => show ((((i.val * 2 + p.val) * 64 + f.val) * 64 + n.val) * 512 + q.val) / 512 % 64 = n.val; omega
    | ⟨3, _⟩ => show ((((i.val * 2 + p.val) * 64 + f.val) * 64 + n.val) * 512 + q.val) % 512 = q.val; omega

end reference

/-- The kernel runs and leaves its arguments. -/
theorem frame_kernel : Cert.quiescent_Kernel10 := fun m ρ _ => Cert.Kernel10.Gen.frame m ρ

/-- The ideal kernel runs and leaves its arguments. -/
theorem frame_ideal : Cert.quiescent_Kernel10Ideal := fun m ρ _ => Cert.Kernel10Ideal.Gen.frame m ρ

/-- The reference runs and leaves its arguments. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The first stage's kernel and its plain definition end with the same array. -/
theorem same : Cert.algebraic_Kernel10Ideal_Reference10Ideal := by
  intro m ρ m' ρ' _ hag
  refine ⟨fun c => resultArr m c, ?_, ?_⟩
  · exact (θ_run Cert.Kernel10Ideal.defs _ _).mono (fun r h c => ⟨(h c).1.trans (final_eq m c), (h c).2⟩)
      (Cert.Kernel10Ideal.Value.run_blocks m ρ)
  · refine (θ_run Cert.Reference10Ideal.defs _ _).mono (fun r h c => ⟨(h c).1.trans ?_, (h c).2⟩)
      (Cert.Reference10Ideal.Value.run (F := Ideal) m' ρ')
    refine (Cert.Reference10Ideal.Read.val_main_v4_eq (F := Ideal) _ _).trans ?_
    rw [(hag c).1, (hag c).2]
    exact ref_eq ..

end Cert.HyFirst

end
-- ==== Proof.HyMid.lean ====
module

public import proofs.«01_k».proof.Proof.HyFinal
public import proofs.«01_k».proof.Proof.Gen.Kernel11.Frame
public import proofs.«01_k».proof.Proof.Gen.Kernel11Ideal.Frame
public import Idealize.ShloMosaic.Lib.Pipeline.Value
public import proofs.«01_k».proof.Proof.Gen.Reference11Ideal.Run
public import proofs.«01_k».proof.Proof.Gen.Reference11Ideal.Read
public import proofs.«01_k».proof.Defs

/-! The Hyena mixer's product of spectra: the transform's second stage, the complex product with the filter's spectrum, and the
inverse transform's first stage. The kernel sets eight sequences side by side; the reference takes each alone. -/

@[expose] public section

set_option maxRecDepth 16384

noncomputable section

open scoped BigOperators

namespace Cert.HyMid

open Idealize.ShloMosaic Idealize.ShloMosaic.TcCoe Idealize.SL.Sem Idealize.ShloMosaic.StableHlo
open Cert.Norm Cert.HyFinal

/-- One row of the second stage, of one column: real parts first, imaginary parts after them. -/
def stage (g : Fin 128 → Fin 128 → EReal) (a : Fin 128 → EReal) (t : Fin 128) : EReal := ∑ u : Fin 128, g t u * a u

/-- The complex product with the filter's spectrum, real parts first. -/
def mixed (x : Fin 128 → EReal) (hr hi : Fin 64 → EReal) (t : Fin 128) : EReal :=
  if h : t.val < 64 then x t * hr ⟨t.val, h⟩ - x ⟨64 + t.val, by omega⟩ * hi ⟨t.val, h⟩
  else x ⟨t.val - 64, by omega⟩ * hi ⟨t.val - 64, by omega⟩ + x ⟨64 + (t.val - 64), by omega⟩ * hr ⟨t.val - 64, by omega⟩

section body

open Cert.Kernel11Ideal Cert.Kernel11Ideal.Gen

/-- Eight columns side by side. -/
def wide (v : Fin 8 → FVec Ideal S128x512 .bf16) : FVec Ideal S128x4096 .bf16 :=
  concatenate S128x4096 1 (List.ofFn fun n => ⟨S128x512, v n⟩)
    concatenates_S128x512_S128x512_S128x512_S128x512_S128x512_S128x512_S128x512_S128x512_S128x4096_d1

/-- One array eight times side by side. -/
def again (v : FVec Ideal S64x512 .f32) : FVec Ideal S64x4096 .f32 :=
  concatenate S64x4096 1 (List.ofFn fun _ : Fin 8 => ⟨S64x512, v⟩)
    concatenates_S64x512_S64x512_S64x512_S64x512_S64x512_S64x512_S64x512_S64x512_S64x4096_d1

theorem wide_apply (v : Fin 8 → FVec Ideal S128x512 .bf16) (s : Fin 128) (b : Fin 8) (q : Fin 512) :
    wide v (ix2 s (⟨b.val * 512 + q.val, by omega⟩ : Fin 4096)) = v b (ix2 s q) :=
  concatenate_ofFn_apply (t := S128x4096) (s₁ := S128x512) (1 : Fin 2) v _ rfl 512 rfl (ix2 s (⟨b.val * 512 + q.val, by omega⟩ : Fin 4096)) b
    (show (b.val * 512 + q.val) / 512 = b.val by omega) (ix2 s q)
    (show q.val = (b.val * 512 + q.val) % 512 by omega) (fun e he => match e with
      | ⟨0, _⟩ => rfl
      | ⟨1, _⟩ => absurd rfl he)

theorem again_apply (v : FVec Ideal S64x512 .f32) (s : Fin 64) (b : Fin 8) (q : Fin 512) :
    again v (ix2 s (⟨b.val * 512 + q.val, by omega⟩ : Fin 4096)) = v (ix2 s q) :=
  concatenate_ofFn_apply (t := S64x4096) (s₁ := S64x512) (1 : Fin 2) (fun _ : Fin 8 => v) _ rfl 512 rfl (ix2 s (⟨b.val * 512 + q.val, by omega⟩ : Fin 4096)) b
    (show (b.val * 512 + q.val) / 512 = b.val by omega) (ix2 s q)
    (show q.val = (b.val * 512 + q.val) % 512 by omega) (fun e he => match e with
      | ⟨0, _⟩ => rfl
      | ⟨1, _⟩ => absurd rfl he)

/-- The second stage of the columns. -/
def staged (X : FVec Ideal S128x4096 .bf16) (g : Vec Ideal S1x128x128 .bf16) : FVec Ideal S128x4096 .f32 :=
  matmul dot_S128x128_S128x4096_S128x4096_1_0_0_1_n_n none
    (shapeCast S128x128 g shapeCasts_S1x128x128_S128x128 : FVec Ideal S128x128 .bf16) X
    (constant S128x4096 .f32 0x00000000#32)

theorem staged_apply (X : FVec Ideal S128x4096 .bf16) (g : Vec Ideal S1x128x128 .bf16) (s : Fin 128) (p : Fin 4096) :
    staged X g (ix2 s p) = ∑ u : Fin 128, g (ix3 (0 : Fin 1) s u) * X (ix2 u p) := by
  unfold staged
  pointwise

/-- The product with the filter's spectrum. -/
def mix (X : FVec Ideal S128x4096 .f32) (H1 H2 : FVec Ideal S64x4096 .f32) : FVec Ideal S128x4096 .bf16 :=
  truncf .bf16 (concatenate S128x4096 0
    [⟨S64x4096, subf (mulf (extractStridedSlice S64x4096 ![0, 0] X slices_S128x4096_o0_0_S64x4096) H1)
        (mulf (extractStridedSlice S64x4096 ![64, 0] X slices_S128x4096_o64_0_S64x4096) H2)⟩,
     ⟨S64x4096, addf (mulf (extractStridedSlice S64x4096 ![0, 0] X slices_S128x4096_o0_0_S64x4096) H2)
        (mulf (extractStridedSlice S64x4096 ![64, 0] X slices_S128x4096_o64_0_S64x4096) H1)⟩]
    concatenates_S64x4096_S64x4096_S128x4096_d0 : FVec Ideal S128x4096 .f32) bitsLt_bf16_f32

theorem mix_apply (X : FVec Ideal S128x4096 .f32) (H1 H2 : FVec Ideal S64x4096 .f32) (t : Fin 128) (p : Fin 4096) :
    mix X H1 H2 (ix2 t p) = mixed (fun u => X (ix2 u p)) (fun u => H1 (ix2 u p)) (fun u => H2 (ix2 u p)) t := by
  unfold mix mixed
  pointwise

/-- The body's whole computation, from its loads. -/
theorem pay10_eq (w : Fin 8 → Vec Ideal S1x2x1x64x512 .bf16) (g gi : Vec Ideal S1x128x128 .bf16) (h1 h2 : Vec Ideal S1x1x64x512 .f32) :
    k0_pay10 (k0_pay3 (w 0)) (k0_pay4 (w 1)) (k0_pay5 (w 2)) (k0_pay6 (w 3)) (k0_pay7 (w 4)) (k0_pay8 (w 5)) (k0_pay9 (w 6)) (w 7) g h1 h2 gi
      = truncf .bf16 (staged (mix (staged (wide fun n => k0_pay3 (w n)) g) (again (shapeCast S64x512 h1 shapeCasts_S1x1x64x512_S64x512))
          (again (shapeCast S64x512 h2 shapeCasts_S1x1x64x512_S64x512))) gi) bitsLt_bf16_f32 := rfl

theorem pay3_apply (v : Vec Ideal S1x2x1x64x512 .bf16) (u : Fin 128) (q : Fin 512) :
    k0_pay3 v (ix2 u q) = v (ix5 (0 : Fin 1) (⟨u.val / 64, by omega⟩ : Fin 2) (0 : Fin 1) (⟨u.val % 64, by omega⟩ : Fin 64) q) := by
  unfold k0_pay3
  pointwise

theorem half_apply (h : Vec Ideal S1x1x64x512 .f32) (u : Fin 64) (q : Fin 512) :
    shapeCast S64x512 h shapeCasts_S1x1x64x512_S64x512 (ix2 u q) = h (ix4 (0 : Fin 1) (0 : Fin 1) u q) := by
  pointwise

/-- The body's computation at one element. -/
theorem pay10_apply (w : Fin 8 → Vec Ideal S1x2x1x64x512 .bf16) (g gi : Vec Ideal S1x128x128 .bf16) (h1 h2 : Vec Ideal S1x1x64x512 .f32)
    (s : Fin 128) (b : Fin 8) (q : Fin 512) :
    k0_pay10 (k0_pay3 (w 0)) (k0_pay4 (w 1)) (k0_pay5 (w 2)) (k0_pay6 (w 3)) (k0_pay7 (w 4)) (k0_pay8 (w 5)) (k0_pay9 (w 6)) (w 7) g h1 h2 gi
        (ix2 s (⟨b.val * 512 + q.val, by omega⟩ : Fin 4096))
      = stage (fun i j => gi (ix3 (0 : Fin 1) i j)) (mixed (stage (fun i j => g (ix3 (0 : Fin 1) i j))
          (fun u => w b (ix5 (0 : Fin 1) (⟨u.val / 64, by omega⟩ : Fin 2) (0 : Fin 1) (⟨u.val % 64, by omega⟩ : Fin 64) q)))
          (fun u => h1 (ix4 (0 : Fin 1) (0 : Fin 1) u q)) (fun u => h2 (ix4 (0 : Fin 1) (0 : Fin 1) u q))) s := by
  rw [pay10_eq]
  show staged _ gi (ix2 s _) = _
  refine (staged_apply ..).trans ?_
  unfold stage
  refine Finset.sum_congr rfl fun t _ => congrArg _ ?_
  rw [mix_apply]
  congr 1
  · funext t'
    rw [staged_apply]
    refine Finset.sum_congr rfl fun u _ => congrArg _ ?_
    rw [wide_apply, pay3_apply]
  · funext u
    rw [again_apply, half_apply]
  · funext u
    rw [again_apply, half_apply]

/-- One sequence of a block. -/
def slab (x : Vec Ideal S8x2x1x64x512 .bf16) (n : Fin 8) : Vec Ideal S1x2x1x64x512 .bf16 := fun i => x (ix5 n (i 1) (0 : Fin 1) (i 3) (i 4))

theorem ld_slab (x : Vec Ideal S8x2x1x64x512 .bf16) (n : Fin 8) (off : Fin 5 → Nat) (inb) (h : off = ![n.val, 0, 0, 0, 0]) :
    View.ld x (Rect.unit (s := S8x2x1x64x512) off S1x2x1x64x512.size inb) = slab x n := by
  subst h
  refine funext fun (i : S1x2x1x64x512.Idx) => ?_
  unfold slab
  show x _ = x _
  congr 1
  funext e
  apply Fin.ext
  have h0 : (i 0).val < 1 := (i 0).isLt
  have h2 : (i 2).val < 1 := (i 2).isLt
  match e with
  | ⟨0, _⟩ => show n.val + 1 * (i 0).val = n.val; omega
  | ⟨1, _⟩ => show 0 + 1 * (i 1).val = (i 1).val; omega
  | ⟨2, _⟩ => show 0 + 1 * (i 2).val = 0; omega
  | ⟨3, _⟩ => show 0 + 1 * (i 3).val = (i 3).val; omega
  | ⟨4, _⟩ => show 0 + 1 * (i 4).val = (i 4).val; omega

theorem ld_half (x : Vec Ideal S1x2x64x512 .f32) (n : Fin 2) (off : Fin 4 → Nat) (inb) (h : off = ![0, n.val, 0, 0]) (u : Fin 64) (q : Fin 512) :
    View.ld x (Rect.unit (s := S1x2x64x512) off S1x1x64x512.size inb) (ix4 (0 : Fin 1) (0 : Fin 1) u q) = x (ix4 (0 : Fin 1) n u q) := by
  subst h
  show x _ = x _
  congr 1
  funext e
  apply Fin.ext
  match e with
  | ⟨0, _⟩ => rfl
  | ⟨1, _⟩ => show n.val + 1 * 0 = n.val; omega
  | ⟨2, _⟩ => show 0 + 1 * u.val = u.val; omega
  | ⟨3, _⟩ => show 0 + 1 * q.val = q.val; omega

/-- The computed array, laid out as the block of the result. -/
def laid (Z : FVec Ideal S128x4096 .bf16) (y : S8x2x1x64x512.Idx) : Elt Ideal .bf16 :=
  Z (ix2 (⟨(y 1).val * 64 + (y 3).val, by have : (y 1).val < 2 := (y 1).isLt; have : (y 3).val < 64 := (y 3).isLt; omega⟩ : Fin 128)
    (⟨(y 0).val * 512 + (y 4).val, by have : (y 0).val < 8 := (y 0).isLt; have : (y 4).val < 512 := (y 4).isLt; omega⟩ : Fin 4096))

/-- One stored piece: a column block of the computed array, at the place in the block of the result it is stored to. -/
theorem piece_apply (Z : FVec Ideal S128x4096 .bf16) (n : Fin 8) (off : Fin 2 → Nat) (hs : S128x4096.Slices off S128x512)
    (h : off = ![0, n.val * 512]) (roff : Fin 5 → Nat) (inb) (hr : roff = ![n.val, 0, 0, 0, 0]) (x : S1x2x1x64x512.Idx) :
    shapeCast S1x2x1x64x512 (shapeCast S2x64x512 (extractStridedSlice S128x512 off Z hs) shapeCasts_S128x512_S2x64x512)
        shapeCasts_S2x64x512_S1x2x1x64x512 x
      = laid Z ((Rect.unit (s := S8x2x1x64x512) roff S1x2x1x64x512.size inb).emb x) := by
  subst h hr
  obtain ⟨p, u, q, rfl⟩ : ∃ (p : Fin 2) (u : Fin 64) (q : Fin 512), x = ix5 (0 : Fin 1) p (0 : Fin 1) u q :=
    ⟨x 1, x 3, x 4, (eq_ix5 x).trans (congrArg₂ (fun e e' : Fin 1 => (ix5 e (x 1) e' (x 3) (x 4) : S1x2x1x64x512.Idx))
      (Subsingleton.elim (α := Fin 1) (x 0) 0) (Subsingleton.elim (α := Fin 1) (x 2) 0))⟩
  refine (shapeCast_apply _ _ _ (ix3 p u q) (by
    rw [Shape.rowMajor_val_three, Shape.rowMajor_val_five]
    show (p.val * 64 + u.val) * 512 + q.val = (((0 * 2 + p.val) * 1 + 0) * 64 + u.val) * 512 + q.val
    omega)).trans ?_
  refine (shapeCast_apply _ _ _ (ix2 (⟨p.val * 64 + u.val, by omega⟩ : Fin 128) q) (by
    rw [Shape.rowMajor_val_two, Shape.rowMajor_val_three]
    rfl)).trans ?_
  unfold laid
  refine (extractStridedSlice_apply _ _ _ _ (ix2 (⟨p.val * 64 + u.val, by omega⟩ : Fin 128) (⟨n.val * 512 + q.val, by omega⟩ : Fin 4096))
    (fun a => match a with
      | ⟨0, _⟩ => (Nat.zero_add _).symm
      | ⟨1, _⟩ => rfl)).trans ?_
  congr 1
  funext a
  apply Fin.ext
  match a with
  | ⟨0, _⟩ => show p.val * 64 + u.val = (0 + 1 * p.val) * 64 + (0 + 1 * u.val); omega
  | ⟨1, _⟩ => show n.val * 512 + q.val = (n.val + 1 * 0) * 512 + (0 + 1 * q.val); omega

/-- What the body computes before its stores. -/
def wholeOf (x0 : Vec Ideal S8x2x1x64x512 .bf16) (x1 x2 : Vec Ideal S1x128x128 .bf16) (x3 : Vec Ideal S1x2x64x512 .f32) :
    FVec Ideal S128x4096 .bf16 :=
  k0_pay10 (k0_pay3 (View.ld x0 r0_0)) (k0_pay4 (View.ld x0 r0_1)) (k0_pay5 (View.ld x0 r0_2)) (k0_pay6 (View.ld x0 r0_3))
    (k0_pay7 (View.ld x0 r0_4)) (k0_pay8 (View.ld x0 r0_5)) (k0_pay9 (View.ld x0 r0_6)) (View.ld x0 r0_7) (View.ld x1 r0_8)
    (View.ld x3 r0_9) (View.ld x3 r0_10) (View.ld x2 r0_8)

theorem out_whole (x0 : Vec Ideal S8x2x1x64x512 .bf16) (x1 x2 : Vec Ideal S1x128x128 .bf16) (x3 : Vec Ideal S1x2x64x512 .f32)
    (y : S8x2x1x64x512.Idx) : out0_4 x0 x1 x2 x3 y = laid (wholeOf x0 x1 x2 x3) y := by
  refine View.canon_apply_of_pieces (laid (wholeOf x0 x1 x2 x3)) _ ?_ y (cover0_4 _ _ _ _ _ _ _ _ y)
  intro pc hpc
  simp only [List.mem_cons, List.not_mem_nil, or_false] at hpc
  rcases hpc with rfl | rfl | rfl | rfl | rfl | rfl | rfl | rfl
  · exact fun x => piece_apply (wholeOf x0 x1 x2 x3) 7 ![0, 3584] slices_S128x4096_o0_3584_S128x512 rfl ![7, 0, 0, 0, 0]
      inb_S8x2x1x64x512_S1x2x1x64x512_7_0_0_0_0 rfl x
  · exact fun x => piece_apply (wholeOf x0 x1 x2 x3) 6 ![0, 3072] slices_S128x4096_o0_3072_S128x512 rfl ![6, 0, 0, 0, 0]
      inb_S8x2x1x64x512_S1x2x1x64x512_6_0_0_0_0 rfl x
  · exact fun x => piece_apply (wholeOf x0 x1 x2 x3) 5 ![0, 2560] slices_S128x4096_o0_2560_S128x512 rfl ![5, 0, 0, 0, 0]
      inb_S8x2x1x64x512_S1x2x1x64x512_5_0_0_0_0 rfl x
  · exact fun x => piece_apply (wholeOf x0 x1 x2 x3) 4 ![0, 2048] slices_S128x4096_o0_2048_S128x512 rfl ![4, 0, 0, 0, 0]
      inb_S8x2x1x64x512_S1x2x1x64x512_4_0_0_0_0 rfl x
  · exact fun x => piece_apply (wholeOf x0 x1 x2 x3) 3 ![0, 1536] slices_S128x4096_o0_1536_S128x512 rfl ![3, 0, 0, 0, 0]
      inb_S8x2x1x64x512_S1x2x1x64x512_3_0_0_0_0 rfl x
  · exact fun x => piece_apply (wholeOf x0 x1 x2 x3) 2 ![0, 1024] slices_S128x4096_o0_1024_S128x512 rfl ![2, 0, 0, 0, 0]
      inb_S8x2x1x64x512_S1x2x1x64x512_2_0_0_0_0 rfl x
  · exact fun x => piece_apply (wholeOf x0 x1 x2 x3) 1 ![0, 512] slices_S128x4096_o0_512_S128x512 rfl ![1, 0, 0, 0, 0]
      inb_S8x2x1x64x512_S1x2x1x64x512_1_0_0_0_0 rfl x
  · exact fun x => piece_apply (wholeOf x0 x1 x2 x3) 0 ![0, 0] slices_S128x4096_o0_0_S128x512 rfl ![0, 0, 0, 0, 0]
      inb_S8x2x1x64x512_S1x2x1x64x512_0_0_0_0_0 rfl x

/-- What the body leaves in its block of the result. -/
theorem out_apply (x0 : Vec Ideal S8x2x1x64x512 .bf16) (x1 x2 : Vec Ideal S1x128x128 .bf16) (x3 : Vec Ideal S1x2x64x512 .f32)
    (b : Fin 8) (p : Fin 2) (n : Fin 64) (q : Fin 512) :
    out0_4 x0 x1 x2 x3 (ix5 b p (0 : Fin 1) n q)
      = stage (fun i j => x2 (ix3 (0 : Fin 1) i j)) (mixed (stage (fun i j => x1 (ix3 (0 : Fin 1) i j))
          (fun u => x0 (ix5 b (⟨u.val / 64, by omega⟩ : Fin 2) (0 : Fin 1) (⟨u.val % 64, by omega⟩ : Fin 64) q)))
          (fun u => x3 (ix4 (0 : Fin 1) (0 : Fin 2) u q)) (fun u => x3 (ix4 (0 : Fin 1) (1 : Fin 2) u q))) ⟨p.val * 64 + n.val, by omega⟩ := by
  refine (out_whole x0 x1 x2 x3 (ix5 b p (0 : Fin 1) n q)).trans ?_
  unfold wholeOf
  have w0 : View.ld x0 r0_0 = slab x0 0 := ld_slab x0 0 _ _ rfl
  have w1 : View.ld x0 r0_1 = slab x0 1 := ld_slab x0 1 _ _ rfl
  have w2 : View.ld x0 r0_2 = slab x0 2 := ld_slab x0 2 _ _ rfl
  have w3 : View.ld x0 r0_3 = slab x0 3 := ld_slab x0 3 _ _ rfl
  have w4 : View.ld x0 r0_4 = slab x0 4 := ld_slab x0 4 _ _ rfl
  have w5 : View.ld x0 r0_5 = slab x0 5 := ld_slab x0 5 _ _ rfl
  have w6 : View.ld x0 r0_6 = slab x0 6 := ld_slab x0 6 _ _ rfl
  have w7 : View.ld x0 r0_7 = slab x0 7 := ld_slab x0 7 _ _ rfl
  rw [w0, w1, w2, w3, w4, w5, w6, w7, View.ld_unit_zero (S := S1x128x128) zero3, View.ld_unit_zero (S := S1x128x128) zero3]
  refine (pay10_apply (slab x0) x1 x2 (View.ld x3 r0_9) (View.ld x3 r0_10) (⟨p.val * 64 + n.val, by omega⟩ : Fin 128) b q).trans ?_
  congr 2
  · funext u
    exact ld_half x3 0 _ _ rfl u q
  · funext u
    exact ld_half x3 1 _ _ rfl u q

end body

section reference

open Cert.Reference11Ideal Cert.Reference11Ideal.Read

variable (x0 : FVec Ideal S16x2x64x64x512 .bf16) (x1 x2 : FVec Ideal S64x128x128 .f32) (x3 : FVec Ideal S64x2x64x512 .f32)

/-- The whole of the middle at one element. -/
def middle (i : Fin 16) (p : Fin 2) (f : Fin 64) (n : Fin 64) (q : Fin 512) : EReal :=
  stage (fun s t => x2 (ix3 f s t)) (mixed (stage (fun s t => x1 (ix3 f s t))
    (fun u => x0 (ix5 i (⟨u.val / 64, by omega⟩ : Fin 2) f (⟨u.val % 64, by omega⟩ : Fin 64) q)))
    (fun u => x3 (ix4 f (0 : Fin 2) u q)) (fun u => x3 (ix4 f (1 : Fin 2) u q))) ⟨p.val * 64 + n.val, by omega⟩

theorem ref_rows (i : Fin 16) (f : Fin 64) (u : Fin 128) (q : Fin 512) :
    val_main_v2 (F := Ideal) x0 (ix4 i f u q) = x0 (ix5 i (⟨u.val / 64, by omega⟩ : Fin 2) f (⟨u.val % 64, by omega⟩ : Fin 64) q) := by
  refine (val_main_v2_apply ..).trans ((val_main_v1_apply ..).trans ((val_main_v0_apply ..).trans ?_))
  show x0 _ = x0 _
  congr 1
  funext e
  apply Fin.ext
  match e with
  | ⟨0, _⟩ => show (((i.val * 64 + f.val) * 128 + u.val) * 512 + q.val) / 4194304 = i.val; omega
  | ⟨1, _⟩ => show (((i.val * 64 + f.val) * 128 + u.val) * 512 + q.val) / 32768 % 2 = u.val / 64; omega
  | ⟨2, _⟩ => show (((i.val * 64 + f.val) * 128 + u.val) * 512 + q.val) / 65536 % 64 = f.val; omega
  | ⟨3, _⟩ => show (((i.val * 64 + f.val) * 128 + u.val) * 512 + q.val) / 512 % 64 = u.val % 64; omega
  | ⟨4, _⟩ => show (((i.val * 64 + f.val) * 128 + u.val) * 512 + q.val) % 512 = q.val; omega

theorem ref_stage (i : Fin 16) (f : Fin 64) (t : Fin 128) (q : Fin 512) :
    val_main_v4 (F := Ideal) x0 x1 (ix4 i f t q) = stage (fun s t => x1 (ix3 f s t))
      (fun u => x0 (ix5 i (⟨u.val / 64, by omega⟩ : Fin 2) f (⟨u.val % 64, by omega⟩ : Fin 64) q)) t := by
  refine (val_main_v4_apply ..).trans ((val_main_v3_apply ..).trans (Finset.sum_congr rfl fun u _ => (mul_comm _ _).trans ?_))
  refine congrArg₂ (· * ·) ?_ ((congrArg (val_main_v2 (F := Ideal) x0) ?_).trans (ref_rows x0 i f u q))
  · show x1 _ = x1 _
    congr 1
    funext e
    match e with
    | ⟨0, _⟩ => rfl
    | ⟨1, _⟩ => rfl
    | ⟨2, _⟩ => rfl
  · funext e
    match e with
    | ⟨0, _⟩ => rfl
    | ⟨1, _⟩ => rfl
    | ⟨2, _⟩ => rfl
    | ⟨3, _⟩ => rfl

theorem ref_mixed (i : Fin 16) (f : Fin 64) (t : Fin 128) (q : Fin 512) :
    val_main_v23 (F := Ideal) x0 x1 x3 (ix4 i f t q) = mixed (fun u => val_main_v4 (F := Ideal) x0 x1 (ix4 i f u q))
      (fun u => x3 (ix4 f (0 : Fin 2) u q)) (fun u => x3 (ix4 f (1 : Fin 2) u q)) t := by
  unfold mixed
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5]

/-- The reference's array. -/
theorem ref_eq : val_main_v28 (F := Ideal) x0 x1 x2 x3 = fun y => middle x0 x1 x2 x3 (y 0) (y 1) (y 2) (y 3) (y 4) := by
  refine funext fun (y : S16x2x64x64x512.Idx) => ?_
  obtain ⟨i, p, f, n, q, rfl⟩ : ∃ i p f n q, y = ix5 i p f n q := ⟨_, _, _, _, _, eq_ix5 y⟩
  refine (val_main_v28_apply ..).trans ?_
  refine (val_main_v27_apply ..).trans ((val_main_v26_apply ..).trans ((val_main_v25_apply ..).trans ((val_main_v24_apply ..).trans ?_)))
  show _ = ∑ t : Fin 128, x2 (ix3 f (⟨p.val * 64 + n.val, by omega⟩ : Fin 128) t) * mixed _ _ _ t
  refine Finset.sum_congr rfl fun (t : Fin 128) _ => (mul_comm _ _).trans ?_
  refine congrArg₂ (· * ·) ?_ ((congrArg (val_main_v23 (F := Ideal) x0 x1 x3) ?_).trans ((ref_mixed x0 x1 x3 i f t q).trans ?_))
  · show x2 _ = x2 _
    congr 1
    funext e
    apply Fin.ext
    match e with
    | ⟨0, _⟩ => show ((((i.val * 64 + f.val) * 2 + p.val) * 64 + n.val) * 512 + q.val) / 65536 % 64 = f.val; omega
    | ⟨1, _⟩ => show ((((i.val * 64 + f.val) * 2 + p.val) * 64 + n.val) * 512 + q.val) / 512 % 128 = p.val * 64 + n.val; omega
    | ⟨2, _⟩ => rfl
  · funext e
    apply Fin.ext
    match e with
    | ⟨0, _⟩ => show ((((i.val * 64 + f.val) * 2 + p.val) * 64 + n.val) * 512 + q.val) / 4194304 = i.val; omega
    | ⟨1, _⟩ => show ((((i.val * 64 + f.val) * 2 + p.val) * 64 + n.val) * 512 + q.val) / 65536 % 64 = f.val; omega
    | ⟨2, _⟩ => rfl
    | ⟨3, _⟩ => show ((((i.val * 64 + f.val) * 2 + p.val) * 64 + n.val) * 512 + q.val) % 512 = q.val; omega
  · exact congrArg (fun X => mixed X _ _ t) (funext fun u => ref_stage x0 x1 i f u q)

end reference

section windows

open Cert.Kernel11Ideal Cert.Kernel11Ideal.Gen

variable (m : (ℓ : Loc nD τ sig) → Buf (Elt Ideal) ℓ) (c : Dev nD)

theorem at0 (t : Fin grid0.N) : cc0_transform_0 (grid0.coords t) = ![t.val % 2, 0, t.val / 2, 0, 0] := by
  revert t; decide +kernel
theorem at1 (t : Fin grid0.N) : cc0_transform_1 (grid0.coords t) = ![t.val / 2, 0, 0] := by
  revert t; decide +kernel
theorem at2 (t : Fin grid0.N) : cc0_transform_2 (grid0.coords t) = ![t.val / 2, 0, 0] := by
  revert t; decide +kernel
theorem at3 (t : Fin grid0.N) : cc0_transform_3 (grid0.coords t) = ![t.val / 2, 0, 0, 0] := by
  revert t; decide +kernel
theorem at4 (t : Fin grid0.N) : cc0_transform_4 (grid0.coords t) = ![t.val % 2, 0, t.val / 2, 0, 0] := by
  revert t; decide +kernel

/-- The frequency of a point. -/
def freqAt (t : Fin grid0.N) : Fin 64 := ⟨t.val / 2, by have := lt_of_lt_of_eq t.isLt N_0; omega⟩

/-- The sequence that number `b` of a point's blocks is. -/
def seqAt (t : Fin grid0.N) (b : Fin 8) : Fin 16 := ⟨t.val % 2 * 8 + b.val, by omega⟩

/-- A table in the calls' type. -/
def table (x : FVec Ideal S64x128x128 .f32) : FVec Ideal S64x128x128 .bf16 := truncf .bf16 x bitsLt_bf16_f32

theorem V_fwd : (V m c main_v0 : FVec Ideal S64x128x128 .bf16) = table (m (c.tc.loc main_arg1)) := by
  unfold V
  simp only [hostOps0, List.flatten, List.append, List.cons_append, List.nil_append]
  after_results
  rfl

theorem V_inv : (V m c main_v1 : FVec Ideal S64x128x128 .bf16) = table (m (c.tc.loc main_arg2)) := by
  unfold V
  simp only [hostOps0, List.flatten, List.append, List.cons_append, List.nil_append]
  after_results
  rfl

theorem a_block (t : Fin grid0.N) (b : Fin 8) (p : Fin 2) (n : Fin 64) (q : Fin 512) :
    (iblk m c 0 t : Vec Ideal S8x2x1x64x512 .bf16) (ix5 b p (0 : Fin 1) n q)
      = (m (c.tc.loc main_arg0) : FVec Ideal S16x2x64x64x512 .bf16) (ix5 (seqAt t b) p (freqAt t) n q) := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show cc0_transform_0 (grid0.coords t) 0 * 8 + 1 * b.val = t.val % 2 * 8 + b.val; rw [at0]; show t.val % 2 * 8 + 1 * b.val = _; omega
  | ⟨1, _⟩ => show cc0_transform_0 (grid0.coords t) 1 * 2 + 1 * p.val = p.val; rw [at0]; show 0 * 2 + 1 * p.val = _; omega
  | ⟨2, _⟩ => show cc0_transform_0 (grid0.coords t) 2 * 1 + 1 * 0 = t.val / 2; rw [at0]; show t.val / 2 * 1 + 1 * 0 = _; omega
  | ⟨3, _⟩ => show cc0_transform_0 (grid0.coords t) 3 * 64 + 1 * n.val = n.val; rw [at0]; show 0 * 64 + 1 * n.val = _; omega
  | ⟨4, _⟩ => show cc0_transform_0 (grid0.coords t) 4 * 512 + 1 * q.val = q.val; rw [at0]; show 0 * 512 + 1 * q.val = _; omega

theorem fwd_block (t : Fin grid0.N) (i j : Fin 128) :
    (iblk m c 1 t : Vec Ideal S1x128x128 .bf16) (ix3 (0 : Fin 1) i j)
      = (m (c.tc.loc main_arg1) : FVec Ideal S64x128x128 .f32) (ix3 (freqAt t) i j) := by
  refine Eq.trans ?_ (congrFun (V_fwd m c) (ix3 (freqAt t) i j))
  unfold iblk
  refine (View.read_apply ..).trans ?_
  show V m c main_v0 _ = V m c main_v0 _
  congr 1
  funext a
  apply Fin.ext
  match a with
  | ⟨0, _⟩ => show cc0_transform_1 (grid0.coords t) 0 * 1 + 1 * 0 = t.val / 2; rw [at1]; show t.val / 2 * 1 + 1 * 0 = _; omega
  | ⟨1, _⟩ => show cc0_transform_1 (grid0.coords t) 1 * 128 + 1 * i.val = i.val; rw [at1]; show 0 * 128 + 1 * i.val = _; omega
  | ⟨2, _⟩ => show cc0_transform_1 (grid0.coords t) 2 * 128 + 1 * j.val = j.val; rw [at1]; show 0 * 128 + 1 * j.val = _; omega

theorem inv_block (t : Fin grid0.N) (i j : Fin 128) :
    (iblk m c 2 t : Vec Ideal S1x128x128 .bf16) (ix3 (0 : Fin 1) i j)
      = (m (c.tc.loc main_arg2) : FVec Ideal S64x128x128 .f32) (ix3 (freqAt t) i j) := by
  refine Eq.trans ?_ (congrFun (V_inv m c) (ix3 (freqAt t) i j))
  unfold iblk
  refine (View.read_apply ..).trans ?_
  show V m c main_v1 _ = V m c main_v1 _
  congr 1
  funext a
  apply Fin.ext
  match a with
  | ⟨0, _⟩ => show cc0_transform_2 (grid0.coords t) 0 * 1 + 1 * 0 = t.val / 2; rw [at2]; show t.val / 2 * 1 + 1 * 0 = _; omega
  | ⟨1, _⟩ => show cc0_transform_2 (grid0.coords t) 1 * 128 + 1 * i.val = i.val; rw [at2]; show 0 * 128 + 1 * i.val = _; omega
  | ⟨2, _⟩ => show cc0_transform_2 (grid0.coords t) 2 * 128 + 1 * j.val = j.val; rw [at2]; show 0 * 128 + 1 * j.val = _; omega

theorem filt_block (t : Fin grid0.N) (p : Fin 2) (n : Fin 64) (q : Fin 512) :
    (iblk m c 3 t : Vec Ideal S1x2x64x512 .f32) (ix4 (0 : Fin 1) p n q)
      = (m (c.tc.loc main_arg3) : FVec Ideal S64x2x64x512 .f32) (ix4 (freqAt t) p n q) := by
  refine Eq.trans ?_ (congrFun (V_main_arg3 m c) _)
  unfold iblk
  refine (View.read_apply ..).trans ?_
  show V m c main_arg3 _ = V m c main_arg3 _
  congr 1
  funext a
  apply Fin.ext
  match a with
  | ⟨0, _⟩ => show cc0_transform_3 (grid0.coords t) 0 * 1 + 1 * 0 = t.val / 2; rw [at3]; show t.val / 2 * 1 + 1 * 0 = _; omega
  | ⟨1, _⟩ => show cc0_transform_3 (grid0.coords t) 1 * 2 + 1 * p.val = p.val; rw [at3]; show 0 * 2 + 1 * p.val = _; omega
  | ⟨2, _⟩ => show cc0_transform_3 (grid0.coords t) 2 * 64 + 1 * n.val = n.val; rw [at3]; show 0 * 64 + 1 * n.val = _; omega
  | ⟨3, _⟩ => show cc0_transform_3 (grid0.coords t) 3 * 512 + 1 * q.val = q.val; rw [at3]; show 0 * 512 + 1 * q.val = _; omega

/-- The result array. -/
def resultArr : FVec Ideal S16x2x64x64x512 .bf16 := fun y =>
  middle (m (c.tc.loc main_arg0)) (m (c.tc.loc main_arg1)) (m (c.tc.loc main_arg2)) (m (c.tc.loc main_arg3)) (y 0) (y 1) (y 2) (y 3) (y 4)

/-- What every point leaves in its block of the result. -/
theorem block_at (t : Fin grid0.N) (b : Fin 8) (p : Fin 2) (n : Fin 64) (q : Fin 512) :
    out0_4 (iblk m c 0 t) (iblk m c 1 t) (iblk m c 2 t) (iblk m c 3 t) (ix5 b p (0 : Fin 1) n q)
      = resultArr m c (ix5 (seqAt t b) p (freqAt t) n q) := by
  rw [out_apply]
  simp only [a_block, fwd_block, inv_block, filt_block]
  rfl

/-- What a point writes back is its block of the result. -/
theorem flushed_eq (t : Fin cfg0.N) (hf : (cfg0.win 4).flush t = true) :
    (dats m 0 c).flushed 4 t = ((cfg0.win 4).blk t).view.read (Elt Ideal) (resultArr m c) := by
  refine funext fun (y : S8x2x1x64x512.Idx) => ?_
  refine Eq.trans ?_ (View.read_apply ..).symm
  refine Eq.trans (b := out0_4 (iblk m c 0 t) (iblk m c 1 t) (iblk m c 2 t) (iblk m c 3 t) y) (congrFun (after0_4 m c t) y) ?_
  obtain ⟨b, p, n, q, rfl⟩ : ∃ (b : Fin 8) (p : Fin 2) (n : Fin 64) (q : Fin 512), y = ix5 b p (0 : Fin 1) n q :=
    ⟨y 0, y 1, y 3, y 4, (eq_ix5 y).trans
      (congrArg (fun e : Fin 1 => (ix5 (y 0) (y 1) e (y 3) (y 4) : S8x2x1x64x512.Idx)) (Subsingleton.elim (α := Fin 1) (y 2) 0))⟩
  refine (block_at m c t b p n q).trans ?_
  show resultArr m c (ix5 (seqAt t b) p (freqAt t) n q) = resultArr m c _
  congr 1
  funext a
  apply Fin.ext
  match a with
  | ⟨0, _⟩ => show t.val % 2 * 8 + b.val = cc0_transform_4 (grid0.coords t) 0 * 8 + 1 * b.val; rw [at4]; show _ = t.val % 2 * 8 + 1 * b.val; omega
  | ⟨1, _⟩ => show p.val = cc0_transform_4 (grid0.coords t) 1 * 2 + 1 * p.val; rw [at4]; show _ = 0 * 2 + 1 * p.val; omega
  | ⟨2, _⟩ => show t.val / 2 = cc0_transform_4 (grid0.coords t) 2 * 1 + 1 * 0; rw [at4]; show _ = t.val / 2 * 1 + 1 * 0; omega
  | ⟨3, _⟩ => show n.val = cc0_transform_4 (grid0.coords t) 3 * 64 + 1 * n.val; rw [at4]; show _ = 0 * 64 + 1 * n.val; omega
  | ⟨4, _⟩ => show q.val = cc0_transform_4 (grid0.coords t) 4 * 512 + 1 * q.val; rw [at4]; show _ = 0 * 512 + 1 * q.val; omega

/-- Every index of the array is in the block some point writes back. -/
theorem covered (y : S16x2x64x64x512.Idx) : ∃ t : Fin cfg0.N, (cfg0.win 4).flush t = true ∧ y ∈ ((cfg0.win 4).blk t).view.set := by
  have h0 : (y 0 : Nat) < 16 := (y 0).isLt
  have h1 : (y 1 : Nat) < 2 := (y 1).isLt
  have h2 : (y 2 : Nat) < 64 := (y 2).isLt
  have h3 : (y 3 : Nat) < 64 := (y 3).isLt
  have h4 : (y 4 : Nat) < 512 := (y 4).isLt
  have hN : cfg0.N = 128 := N_0
  let t : Fin cfg0.N := ⟨(y 2).val * 2 + (y 0).val / 8, by omega⟩
  refine ⟨t, flush0_4 t, ?_⟩
  refine (iff_of_eq (congrArg (fun S => y ∈ S) (View.set_slice_whole main_v2 ((cfg0.win 4).rect t)))).mpr ?_
  refine Rect.mem_set_unit.mpr fun a => ?_
  match a with
  | ⟨0, _⟩ =>
    show cc0_transform_4 (grid0.coords t) 0 * 8 ≤ (y 0).val ∧ (y 0).val < cc0_transform_4 (grid0.coords t) 0 * 8 + 8
    rw [at4]
    show ((y 2).val * 2 + (y 0).val / 8) % 2 * 8 ≤ (y 0).val ∧ (y 0).val < ((y 2).val * 2 + (y 0).val / 8) % 2 * 8 + 8
    omega
  | ⟨1, _⟩ =>
    show cc0_transform_4 (grid0.coords t) 1 * 2 ≤ (y 1).val ∧ (y 1).val < cc0_transform_4 (grid0.coords t) 1 * 2 + 2
    rw [at4]; show 0 * 2 ≤ (y 1).val ∧ (y 1).val < 0 * 2 + 2; omega
  | ⟨2, _⟩ =>
    show cc0_transform_4 (grid0.coords t) 2 * 1 ≤ (y 2).val ∧ (y 2).val < cc0_transform_4 (grid0.coords t) 2 * 1 + 1
    rw [at4]
    show ((y 2).val * 2 + (y 0).val / 8) / 2 * 1 ≤ (y 2).val ∧ (y 2).val < ((y 2).val * 2 + (y 0).val / 8) / 2 * 1 + 1
    omega
  | ⟨3, _⟩ =>
    show cc0_transform_4 (grid0.coords t) 3 * 64 ≤ (y 3).val ∧ (y 3).val < cc0_transform_4 (grid0.coords t) 3 * 64 + 64
    rw [at4]; show 0 * 64 ≤ (y 3).val ∧ (y 3).val < 0 * 64 + 64; omega
  | ⟨4, _⟩ =>
    show cc0_transform_4 (grid0.coords t) 4 * 512 ≤ (y 4).val ∧ (y 4).val < cc0_transform_4 (grid0.coords t) 4 * 512 + 512
    rw [at4]; show 0 * 512 ≤ (y 4).val ∧ (y 4).val < 0 * 512 + 512; omega

/-- The array after the run. -/
theorem final_eq : (dats m 0 c).arrAt 4 cfg0.N = resultArr m c :=
  (dats m 0 c).arrAt_eq_of_cover 4 (resultArr m c) (flushed_eq m c) covered

end windows

/-- The kernel runs and leaves its arguments. -/
theorem frame_kernel : Cert.quiescent_Kernel11 := fun m ρ _ => Cert.Kernel11.Gen.frame m ρ

/-- The ideal kernel runs and leaves its arguments. -/
theorem frame_ideal : Cert.quiescent_Kernel11Ideal := fun m ρ _ => Cert.Kernel11Ideal.Gen.frame m ρ

/-- The reference runs and leaves its arguments. -/
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The kernel of the product of spectra and its plain definition end with the same array. -/
theorem same : Cert.algebraic_Kernel11Ideal_Reference11Ideal := by
  intro m ρ m' ρ' _ hag
  refine ⟨fun c => resultArr m c, ?_, ?_⟩
  · exact (θ_run Cert.Kernel11Ideal.defs _ _).mono (fun r h c => ⟨((h.1 c).1 4).trans (final_eq m c), h.2 c⟩)
      (θ_run_and (Cert.Kernel11Ideal.Gen.run_main m ρ) (Cert.Kernel11Ideal.Gen.unchanged m ρ))
  · refine (θ_run Cert.Reference11Ideal.defs _ _).mono (fun r h c => ⟨(h c).1.trans ?_, (h c).2⟩)
      (Cert.Reference11Ideal.Value.run (F := Ideal) m' ρ')
    refine (Cert.Reference11Ideal.Read.val_main_v28_eq (F := Ideal) m' c).trans ?_
    rw [(hag c).1, (hag c).2.1, (hag c).2.2.1, (hag c).2.2.2]
    exact ref_eq ..

end Cert.HyMid

end
-- ==== Proof.HyCirc.lean ====
module

public import proofs.«01_k».proof.Proof.HyFinal
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Defs

/-! The first stage of the transform of the Hyena mixer's circular filter: the first stage's kernel, on all 64 rows of the
filter and without a change of type; the reference multiplies by the whole table. -/

@[expose] public section

set_option maxRecDepth 16384

noncomputable section

open scoped BigOperators

namespace Cert.HyCirc

open Idealize.ShloMosaic Idealize.ShloMosaic.TcCoe Idealize.SL.Sem Idealize.ShloMosaic.StableHlo
open Cert.Norm Cert.HyFinal

/-- The first stage at one element. -/
def stage1 (z : Fin 1 → Fin 64 → Fin 64 → Fin 512 → EReal) (w : Fin 128 → Fin 64 → EReal) (i : Fin 1) (p : Fin 2) (f : Fin 64) (n : Fin 64) (q : Fin 512) :
    EReal :=
  ∑ a : Fin 64, w ⟨p.val * 64 + f.val, by omega⟩ a * z i a n q

/-- A row of the Kronecker product selects every eighth entry, of 512. -/
theorem kron_sum_mid (K f : Fin 512 → EReal) (w : Fin 64 → EReal) (r : Fin 8)
    (hK : ∀ (a : Fin 64) (s : Fin 8), K ⟨a.val * 8 + s.val, by omega⟩ = w a * if r = s then 1 else 0) :
    ∑ j, K j * f j = ∑ a : Fin 64, w a * f ⟨a.val * 8 + r.val, by omega⟩ := by
  rw [← Equiv.sum_comp (finProdFinEquiv (m := 64) (n := 8)), Fintype.sum_prod_type]
  refine Finset.sum_congr rfl fun a _ => ?_
  have e : ∀ s : Fin 8, (finProdFinEquiv (a, s) : Fin (64 * 8)) = (⟨a.val * 8 + s.val, by omega⟩ : Fin 512) := fun s =>
    Fin.ext (show s.val + 8 * a.val = a.val * 8 + s.val by omega)
  refine (Finset.sum_eq_single r (fun s _ hs => ?_) (fun h => absurd (Finset.mem_univ r) h)).trans ?_
  · rw [e s, hK a s, if_neg (Ne.symm hs), mul_zero, zero_mul]
  · rw [e r, hK a r, if_pos rfl, mul_one]

section host

open Cert.Kernel12Ideal Cert.Kernel12Ideal.Gen

variable (m : (ℓ : Loc nD τ sig) → Buf (Elt Ideal) ℓ) (c : Dev nD)

/-- The Kronecker product of the table and the identity, nothing changing its type. -/
def kronRows (w : FVec Ideal S128x64 .f32) : FVec Ideal S1024x512 .f32 :=
  shapeCast S1024x512 (mulf
    (broadcastInDim S128x8x64x8 ![0, 1, 2, 3] bcast_S128x1x64x1_S128x8x64x8_0_1_2_3 (broadcastInDim S128x1x64x1 ![0, 2] bcast_S128x64_S128x1x64x1_0_2
      w))
    (broadcastInDim S128x8x64x8 ![0, 1, 2, 3] bcast_S1x8x1x8_S128x8x64x8_0_1_2_3 (broadcastInDim S1x8x1x8 ![1, 3] bcast_S8x8_S1x8x1x8_1_3 eyeArr)))
    shapeCasts_S128x8x64x8_S1024x512

theorem V_kron : (V m c main_v6 : FVec Ideal S1024x512 .f32) = kronRows (m (c.tc.loc main_arg1)) := by
  unfold V
  simp only [hostOps0, hostOps0_1, List.flatten, List.append, List.cons_append, List.nil_append]
  after_results
  rfl

theorem kronRows_apply (w : FVec Ideal S128x64 .f32) (k : Fin 128) (r : Fin 8) (a : Fin 64) (s : Fin 8) :
    kronRows w (ix2 (⟨k.val * 8 + r.val, by omega⟩ : Fin 1024) (⟨a.val * 8 + s.val, by omega⟩ : Fin 512))
      = w (ix2 k a) * eyeArr (ix2 r s) := by
  unfold kronRows
  rw [shapeCast_apply _ shapeCasts_S128x8x64x8_S1024x512 _ (ix4 k r a s) (by
    rewrite [Shape.rowMajor_val_four, Shape.rowMajor_val_two]
    show ((k.val * 8 + r.val) * 64 + a.val) * 8 + s.val = (k.val * 8 + r.val) * 512 + (a.val * 8 + s.val)
    omega)]
  pointwise

end host

section body

open Cert.Kernel12Ideal Cert.Kernel12Ideal.Gen

/-- A block of the product is a sum over the table's columns and the block's rows. -/
theorem pay_apply (x : Vec Ideal S1x64x8x512 .f32) (K : Vec Ideal S1024x512 .f32) (p : Fin 2) (f : Fin 64) (r : Fin 8) (q : Fin 512) :
    k0_pay1 x K (ix5 (0 : Fin 1) p f r q)
      = ∑ j : Fin 512, K (ix2 (⟨(p.val * 64 + f.val) * 8 + r.val, by omega⟩ : Fin 1024) j)
            * x (ix4 (0 : Fin 1) (⟨j.val / 8, by omega⟩ : Fin 64) (⟨j.val % 8, by omega⟩ : Fin 8) q) := by
  have e : (⟨p.val * 512 + f.val * 8 + r.val, by omega⟩ : Fin 1024) = ⟨(p.val * 64 + f.val) * 8 + r.val, by omega⟩ :=
    Fin.ext (show p.val * 512 + f.val * 8 + r.val = (p.val * 64 + f.val) * 8 + r.val by omega)
  unfold k0_pay1
  pointwise
  rw [e]

end body

section windows

open Cert.Kernel12Ideal Cert.Kernel12Ideal.Gen

variable (m : (ℓ : Loc nD τ sig) → Buf (Elt Ideal) ℓ) (c : Dev nD)

theorem at0 (t : Fin grid0.N) : cc0_transform_0 (grid0.coords t) = ![0, 0, t.val, 0] := by
  revert t; decide +kernel
theorem at2 (t : Fin grid0.N) : cc0_transform_2 (grid0.coords t) = ![0, 0, 0, t.val, 0] := by
  revert t; decide +kernel

/-- The position that row `r` of a point's blocks is. -/
def posAt (t : Fin grid0.N) (r : Fin 8) : Fin 64 := ⟨t.val * 8 + r.val, by have := lt_of_lt_of_eq t.isLt N_0; omega⟩

theorem z_block (t : Fin grid0.N) (k : Fin 64) (r : Fin 8) (q : Fin 512) :
    (iblk m c 0 t : Vec Ideal S1x64x8x512 .f32) (ix4 (0 : Fin 1) k r q)
      = (m (c.tc.loc main_arg0) : FVec Ideal S1x64x64x512 .f32) (ix4 (0 : Fin 1) k (posAt t r) q) := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show cc0_transform_0 (grid0.coords t) 0 * 1 + 1 * 0 = 0; rw [at0]; show 0 * 1 + 1 * 0 = _; omega
  | ⟨1, _⟩ => show cc0_transform_0 (grid0.coords t) 1 * 64 + 1 * k.val = k.val; rw [at0]; show 0 * 64 + 1 * k.val = _; omega
  | ⟨2, _⟩ => show cc0_transform_0 (grid0.coords t) 2 * 8 + 1 * r.val = t.val * 8 + r.val; rw [at0]; show t.val * 8 + 1 * r.val = _; omega
  | ⟨3, _⟩ => show cc0_transform_0 (grid0.coords t) 3 * 512 + 1 * q.val = q.val; rw [at0]; show 0 * 512 + 1 * q.val = _; omega

theorem kron_block (t : Fin grid0.N) (k : Fin 128) (r : Fin 8) (a : Fin 64) (s : Fin 8) :
    @Eq EReal ((iblk m c 1 t : Vec Ideal S1024x512 .f32) (ix2 (⟨k.val * 8 + r.val, by omega⟩ : Fin 1024) (⟨a.val * 8 + s.val, by omega⟩ : Fin 512)))
      (@HMul.hMul EReal EReal EReal _ ((m (c.tc.loc main_arg1) : FVec Ideal S128x64 .f32) (ix2 k a)) (if r = s then 1 else 0)) := by
  refine Eq.trans ?_ ((congrFun (V_kron m c) _).trans ((kronRows_apply _ k r a s).trans
    (congrArg (fun e : EReal => @HMul.hMul EReal EReal EReal _ ((m (c.tc.loc main_arg1) : FVec Ideal S128x64 .f32) (ix2 k a)) e)
      (eyeArr_apply r s))))
  unfold iblk
  refine (View.read_apply ..).trans ?_
  show V m c main_v6 _ = V m c main_v6 _
  congr 1
  funext a'
  apply Fin.ext
  match a' with
  | ⟨0, _⟩ => show 0 * 1024 + 1 * (k.val * 8 + r.val) = k.val * 8 + r.val; omega
  | ⟨1, _⟩ => show 0 * 512 + 1 * (a.val * 8 + s.val) = a.val * 8 + s.val; omega

/-- What the body leaves in its block of the result. -/
theorem out_eq (x0 : Vec Ideal S1x64x8x512 .f32) (x1 : Vec Ideal S1024x512 .f32) : out0_2 x0 x1 = k0_pay1 x0 x1 := by
  unfold out0_2
  rw [View.canon_unit_zero zero5]
  simp only [View.ld_unit_zero (S := S1x64x8x512) zero4, View.ld_unit_zero (S := S1024x512) zero2]

/-- The result array. -/
def resultArr : FVec Ideal S1x2x64x64x512 .f32 := fun y =>
  stage1 (fun i k n q => (m (c.tc.loc main_arg0) : FVec Ideal S1x64x64x512 .f32) (ix4 i k n q))
    (fun k a => (m (c.tc.loc main_arg1) : FVec Ideal S128x64 .f32) (ix2 k a)) (y 0) (y 1) (y 2) (y 3) (y 4)

/-- What every point leaves in its block of the result. -/
theorem block_at (t : Fin grid0.N) (p : Fin 2) (f : Fin 64) (r : Fin 8) (q : Fin 512) :
    out0_2 (iblk m c 0 t) (iblk m c 1 t) (ix5 (0 : Fin 1) p f r q) = resultArr m c (ix5 (0 : Fin 1) p f (posAt t r) q) := by
  rw [out_eq, pay_apply, kron_sum_mid _ _ (fun a : Fin 64 => (m (c.tc.loc main_arg1) : FVec Ideal S128x64 .f32)
    (ix2 (⟨p.val * 64 + f.val, by omega⟩ : Fin 128) a)) r
    (fun a s => kron_block m c t ⟨p.val * 64 + f.val, by omega⟩ r a s)]
  show _ = ∑ a : Fin 64, @HMul.hMul EReal EReal EReal _ ((m (c.tc.loc main_arg1) : FVec Ideal S128x64 .f32)
    (ix2 (⟨p.val * 64 + f.val, by omega⟩ : Fin 128) a))
    ((m (c.tc.loc main_arg0) : FVec Ideal S1x64x64x512 .f32) (ix4 (0 : Fin 1) a (posAt t r) q))
  refine Finset.sum_congr rfl fun (a : Fin 64) _ => congrArg (fun e : EReal => @HMul.hMul EReal EReal EReal _ ((m (c.tc.loc main_arg1) : FVec Ideal S128x64 .f32)
    (ix2 (⟨p.val * 64 + f.val, by omega⟩ : Fin 128) a)) e) ?_
  refine (z_block m c t _ _ q).trans ?_
  show (m (c.tc.loc main_arg0) : FVec Ideal S1x64x64x512 .f32) _ = (m (c.tc.loc main_arg0) : FVec Ideal S1x64x64x512 .f32) _
  congr 1
  funext e
  apply Fin.ext
  match e with
  | ⟨0, _⟩ => rfl
  | ⟨1, _⟩ => show (a.val * 8 + r.val) / 8 = a.val; omega
  | ⟨2, _⟩ => show t.val * 8 + (a.val * 8 + r.val) % 8 = t.val * 8 + r.val; omega
  | ⟨3, _⟩ => rfl

/-- What a point writes back is its block of the result. -/
theorem flushed_eq (t : Fin cfg0.N) (hf : (cfg0.win 2).flush t = true) :
    (dats m 0 c).flushed 2 t = ((cfg0.win 2).blk t).view.read (Elt Ideal) (resultArr m c) := by
  refine funext fun (y : S1x2x64x8x512.Idx) => ?_
  refine Eq.trans ?_ (View.read_apply ..).symm
  refine Eq.trans (b := out0_2 (iblk m c 0 t) (iblk m c 1 t) y) (congrFun (after0_2 m c t) y) ?_
  obtain ⟨p, f, r, q, rfl⟩ : ∃ (p : Fin 2) (f : Fin 64) (r : Fin 8) (q : Fin 512), y = ix5 (0 : Fin 1) p f r q :=
    ⟨y 1, y 2, y 3, y 4, (eq_ix5 y).trans
      (congrArg (fun e : Fin 1 => (ix5 e (y 1) (y 2) (y 3) (y 4) : S1x2x64x8x512.Idx)) (Subsingleton.elim (α := Fin 1) (y 0) 0))⟩
  refine (block_at m c t p f r q).trans ?_
  show resultArr m c (ix5 (0 : Fin 1) p f (posAt t r) q) = resultArr m c _
  congr 1
  funext a
  apply Fin.ext
  match a with
  | ⟨0, _⟩ => show 0 = cc0_transform_2 (grid0.coords t) 0 * 1 + 1 * 0; rw [at2]; show _ = 0 * 1 + 1 * 0; omega
  | ⟨1, _⟩ => show p.val = cc0_transform_2 (grid0.coords t) 1 * 2 + 1 * p.val; rw [at2]; show _ = 0 * 2 + 1 * p.val; omega
  | ⟨2, _⟩ => show f.val = cc0_transform_2 (grid0.coords t) 2 * 64 + 1 * f.val; rw [at2]; show _ = 0 * 64 + 1 * f.val; omega
  | ⟨3, _⟩ => show t.val * 8 + r.val = cc0_transform_2 (grid0.coords t) 3 * 8 + 1 * r.val; rw [at2]; show _ = t.val * 8 + 1 * r.val; omega
  | ⟨4, _⟩ => show q.val = cc0_transform_2 (grid0.coords t) 4 * 512 + 1 * q.val; rw [at2]; show _ = 0 * 512 + 1 * q.val; omega

/-- Every index of the array is in the block some point writes back. -/
theorem covered (y : S1x2x64x64x512.Idx) : ∃ t : Fin cfg0.N, (cfg0.win 2).flush t = true ∧ y ∈ ((cfg0.win 2).blk t).view.set := by
  have h0 : (y 0 : Nat) < 1 := (y 0).isLt
  have h1 : (y 1 : Nat) < 2 := (y 1).isLt
  have h2 : (y 2 : Nat) < 64 := (y 2).isLt
  have h3 : (y 3 : Nat) < 64 := (y 3).isLt
  have h4 : (y 4 : Nat) < 512 := (y 4).isLt
  have hN : cfg0.N = 8 := N_0
  let t : Fin cfg0.N := ⟨(y 3).val / 8, by omega⟩
  refine ⟨t, flush0_2 t, ?_⟩
  refine (iff_of_eq (congrArg (fun S => y ∈ S) (View.set_slice_whole main_v7 ((cfg0.win 2).rect t)))).mpr ?_
  refine Rect.mem_set_unit.mpr fun a => ?_
  match a with
  | ⟨0, _⟩ =>
    show cc0_transform_2 (grid0.coords t) 0 * 1 ≤ (y 0).val ∧ (y 0).val < cc0_transform_2 (grid0.coords t) 0 * 1 + 1
    rw [at2]
    show 0 * 1 ≤ (y 0).val ∧ (y 0).val < 0 * 1 + 1
    omega
  | ⟨1, _⟩ =>
    show cc0_transform_2 (grid0.coords t) 1 * 2 ≤ (y 1).val ∧ (y 1).val < cc0_transform_2 (grid0.coords t) 1 * 2 + 2
    rw [at2]; show 0 * 2 ≤ (y 1).val ∧ (y 1).val < 0 * 2 + 2; omega
  | ⟨2, _⟩ =>
    show cc0_transform_2 (grid0.coords t) 2 * 64 ≤ (y 2).val ∧ (y 2).val < cc0_transform_2 (grid0.coords t) 2 * 64 + 64
    rw [at2]; show 0 * 64 ≤ (y 2).val ∧ (y 2).val < 0 * 64 + 64; omega
  | ⟨3, _⟩ =>
    show cc0_transform_2 (grid0.coords t) 3 * 8 ≤ (y 3).val ∧ (y 3).val < cc0_transform_2 (grid0.coords t) 3 * 8 + 8
    rw [at2]
    show (y 3).val / 8 * 8 ≤ (y 3).val ∧ (y 3).val < (y 3).val / 8 * 8 + 8
    omega
  | ⟨4, _⟩ =>
    show cc0_transform_2 (grid0.coords t) 4 * 512 ≤ (y 4).val ∧ (y 4).val < cc0_transform_2 (grid0.coords t) 4 * 512 + 512
    rw [at2]; show 0 * 512 ≤ (y 4).val ∧ (y 4).val < 0 * 512 + 512; omega

/-- The array after the run. -/
theorem final_eq : (dats m 0 c).arrAt 2 cfg0.N = resultArr m c :=
  (dats m 0 c).arrAt_eq_of_cover 2 (resultArr m c) (flushed_eq m c) covered

end windows

section reference

open Cert.Reference12Ideal Cert.Reference12Ideal.Read

variable (x0 : FVec Ideal S1x64x64x512 .f32) (x1 : FVec Ideal S128x64 .f32)

/-- The reference's array. -/
theorem ref_eq : val_main_v2 (F := Ideal) x0 x1 = fun y =>
    stage1 (fun i k n q => x0 (ix4 i k n q)) (fun k a => x1 (ix2 k a)) (y 0) (y 1) (y 2) (y 3) (y 4) := by
  refine funext fun (y : S1x2x64x64x512.Idx) => ?_
  obtain ⟨i, p, f, n, q, rfl⟩ : ∃ i p f n q, y = ix5 i p f n q := ⟨_, _, _, _, _, eq_ix5 y⟩
  refine (val_main_v2_apply ..).trans ?_
  refine (val_main_v1_apply ..).trans ((val_main_v0_apply ..).trans ?_)
  show _ = ∑ a : Fin 64, x1 (ix2 (⟨p.val * 64 + f.val, by omega⟩ : Fin 128) a) * x0 (ix4 i a n q)
  refine Finset.sum_congr rfl fun (a : Fin 64) _ => (mul_comm _ _).trans ?_
  refine congrArg₂ (· * ·) ?_ ?_
  · show x1 _ = x1 _
    congr 1
    funext e
    apply Fin.ext
    match e with
    | ⟨0, _⟩ => show ((((i.val * 2 + p.val) * 64 + f.val) * 64 + n.val) * 512 + q.val) / 32768 % 128 = p.val * 64 + f.val; omega
    | ⟨1, _⟩ => rfl
  · show x0 _ = x0 _
    congr 1
    funext e
    apply Fin.ext
    match e with
    | ⟨0, _⟩ => show 0 = i.val; omega
    | ⟨1, _⟩ => rfl
    | ⟨2, _⟩ => show ((((i.val * 2 + p.val) * 64 + f.val) * 64 + n.val) * 512 + q.val) / 512 % 64 = n.val; omega
    | ⟨3, _⟩ => show ((((i.val * 2 + p.val) * 64 + f.val) * 64 + n.val) * 512 + q.val) % 512 = q.val; omega

end reference

/-- The kernel runs and leaves its arguments. -/
theorem frame_kernel : Cert.quiescent_Kernel12 := fun m ρ _ => Cert.Kernel12.Gen.frame m ρ

/-- The ideal kernel runs and leaves its arguments. -/
theorem frame_ideal : Cert.quiescent_Kernel12Ideal := fun m ρ _ => Cert.Kernel12Ideal.Gen.frame m ρ

/-- The reference runs and leaves its arguments. -/
theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The first stage's kernel on the filter and its plain definition end with the same array. -/
theorem same : Cert.algebraic_Kernel12Ideal_Reference12Ideal := by
  intro m ρ m' ρ' _ hag
  refine ⟨fun c => resultArr m c, ?_, ?_⟩
  · exact (θ_run Cert.Kernel12Ideal.defs _ _).mono (fun r h c => ⟨(h c).1.trans (final_eq m c), (h c).2⟩)
      (Cert.Kernel12Ideal.Value.run_blocks m ρ)
  · refine (θ_run Cert.Reference12Ideal.defs _ _).mono (fun r h c => ⟨(h c).1.trans ?_, (h c).2⟩)
      (Cert.Reference12Ideal.Value.run (F := Ideal) m' ρ')
    refine (Cert.Reference12Ideal.Read.val_main_v2_eq (F := Ideal) _ _).trans ?_
    rw [(hag c).1, (hag c).2]
    exact ref_eq ..

end Cert.HyCirc

end
-- ==== Proof.HySpec.lean ====
module

public import proofs.«01_k».proof.Proof.HyMid
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Defs

/-! The second stage of the transform of the Hyena mixer's circular filter: its spectrum, one frequency of the first stage at a
point. -/

@[expose] public section

set_option maxRecDepth 16384

noncomputable section

open scoped BigOperators

namespace Cert.HySpec

open Idealize.ShloMosaic Idealize.ShloMosaic.TcCoe Idealize.SL.Sem Idealize.ShloMosaic.StableHlo
open Cert.Norm Cert.HyFinal Cert.HyMid

/-- The filter's spectrum at one element. -/
def spectrum (a : Fin 2 → Fin 64 → Fin 64 → Fin 512 → EReal) (w : Fin 64 → Fin 128 → Fin 128 → EReal) (f : Fin 64) (p : Fin 2) (n : Fin 64) (q : Fin 512) :
    EReal :=
  stage (w f) (fun u => a ⟨u.val / 64, by omega⟩ f ⟨u.val % 64, by omega⟩ q) ⟨p.val * 64 + n.val, by omega⟩

section windows

open Cert.Kernel13Ideal Cert.Kernel13Ideal.Gen

variable (m : (ℓ : Loc nD τ sig) → Buf (Elt Ideal) ℓ) (c : Dev nD)

/-- A block of the product is a sum over the table's columns. -/
theorem pay_apply (x : Vec Ideal S2x1x64x512 .f32) (g : Vec Ideal S1x128x128 .f32) (p : Fin 2) (n : Fin 64) (q : Fin 512) :
    k0_pay1 x g (ix4 (0 : Fin 1) p n q) = stage (fun i j => g (ix3 (0 : Fin 1) i j))
      (fun u => x (ix4 (⟨u.val / 64, by omega⟩ : Fin 2) (0 : Fin 1) (⟨u.val % 64, by omega⟩ : Fin 64) q)) ⟨p.val * 64 + n.val, by omega⟩ := by
  unfold k0_pay1 stage
  pointwise

theorem at0 (t : Fin grid0.N) : cc0_transform_0 (grid0.coords t) = ![0, t.val, 0, 0] := by
  revert t; decide +kernel
theorem at1 (t : Fin grid0.N) : cc0_transform_1 (grid0.coords t) = ![t.val, 0, 0] := by
  revert t; decide +kernel
theorem at2 (t : Fin grid0.N) : cc0_transform_2 (grid0.coords t) = ![t.val, 0, 0, 0] := by
  revert t; decide +kernel

/-- The frequency of a point. -/
def freqOf (t : Fin grid0.N) : Fin 64 := ⟨t.val, by have := lt_of_lt_of_eq t.isLt N_0; omega⟩

theorem a_block (t : Fin grid0.N) (p : Fin 2) (n : Fin 64) (q : Fin 512) :
    (iblk m c 0 t : Vec Ideal S2x1x64x512 .f32) (ix4 p (0 : Fin 1) n q)
      = (m (c.tc.loc main_arg0) : FVec Ideal S2x64x64x512 .f32) (ix4 p (freqOf t) n q) := by
  refine Eq.trans ?_ (congrFun (V_main_arg0 m c) _)
  unfold iblk
  refine (View.read_apply ..).trans ?_
  show V m c main_arg0 _ = V m c main_arg0 _
  congr 1
  funext a
  apply Fin.ext
  match a with
  | ⟨0, _⟩ => show cc0_transform_0 (grid0.coords t) 0 * 2 + 1 * p.val = p.val; rw [at0]; show 0 * 2 + 1 * p.val = _; omega
  | ⟨1, _⟩ => show cc0_transform_0 (grid0.coords t) 1 * 1 + 1 * 0 = t.val; rw [at0]; show t.val * 1 + 1 * 0 = _; omega
  | ⟨2, _⟩ => show cc0_transform_0 (grid0.coords t) 2 * 64 + 1 * n.val = n.val; rw [at0]; show 0 * 64 + 1 * n.val = _; omega
  | ⟨3, _⟩ => show cc0_transform_0 (grid0.coords t) 3 * 512 + 1 * q.val = q.val; rw [at0]; show 0 * 512 + 1 * q.val = _; omega

theorem g_block (t : Fin grid0.N) (i j : Fin 128) :
    (iblk m c 1 t : Vec Ideal S1x128x128 .f32) (ix3 (0 : Fin 1) i j)
      = (m (c.tc.loc main_arg1) : FVec Ideal S64x128x128 .f32) (ix3 (freqOf t) i j) := by
  refine Eq.trans ?_ (congrFun (V_main_arg1 m c) _)
  unfold iblk
  refine (View.read_apply ..).trans ?_
  show V m c main_arg1 _ = V m c main_arg1 _
  congr 1
  funext a
  apply Fin.ext
  match a with
  | ⟨0, _⟩ => show cc0_transform_1 (grid0.coords t) 0 * 1 + 1 * 0 = t.val; rw [at1]; show t.val * 1 + 1 * 0 = _; omega
  | ⟨1, _⟩ => show cc0_transform_1 (grid0.coords t) 1 * 128 + 1 * i.val = i.val; rw [at1]; show 0 * 128 + 1 * i.val = _; omega
  | ⟨2, _⟩ => show cc0_transform_1 (grid0.coords t) 2 * 128 + 1 * j.val = j.val; rw [at1]; show 0 * 128 + 1 * j.val = _; omega

/-- What the body leaves in its block of the result. -/
theorem out_eq (x0 : Vec Ideal S2x1x64x512 .f32) (x1 : Vec Ideal S1x128x128 .f32) : out0_2 x0 x1 = k0_pay1 x0 x1 := by
  unfold out0_2
  rw [View.canon_unit_zero zero4]
  simp only [View.ld_unit_zero (S := S2x1x64x512) zero4, View.ld_unit_zero (S := S1x128x128) zero3]

/-- The result array. -/
def resultArr : FVec Ideal S64x2x64x512 .f32 := fun y =>
  spectrum (fun p f n q => (m (c.tc.loc main_arg0) : FVec Ideal S2x64x64x512 .f32) (ix4 p f n q))
    (fun f i j => (m (c.tc.loc main_arg1) : FVec Ideal S64x128x128 .f32) (ix3 f i j)) (y 0) (y 1) (y 2) (y 3)

/-- What every point leaves in its block of the result. -/
theorem block_at (t : Fin grid0.N) (p : Fin 2) (n : Fin 64) (q : Fin 512) :
    out0_2 (iblk m c 0 t) (iblk m c 1 t) (ix4 (0 : Fin 1) p n q) = resultArr m c (ix4 (freqOf t) p n q) := by
  rw [out_eq, pay_apply]
  simp only [a_block, g_block]
  rfl

/-- What a point writes back is its block of the result. -/
theorem flushed_eq (t : Fin cfg0.N) (hf : (cfg0.win 2).flush t = true) :
    (dats m 0 c).flushed 2 t = ((cfg0.win 2).blk t).view.read (Elt Ideal) (resultArr m c) := by
  refine funext fun (y : S1x2x64x512.Idx) => ?_
  refine Eq.trans ?_ (View.read_apply ..).symm
  refine Eq.trans (b := out0_2 (iblk m c 0 t) (iblk m c 1 t) y) (congrFun (after0_2 m c t) y) ?_
  obtain ⟨p, n, q, rfl⟩ : ∃ (p : Fin 2) (n : Fin 64) (q : Fin 512), y = ix4 (0 : Fin 1) p n q :=
    ⟨y 1, y 2, y 3, (eq_ix4 y).trans
      (congrArg (fun e : Fin 1 => (ix4 e (y 1) (y 2) (y 3) : S1x2x64x512.Idx)) (Subsingleton.elim (α := Fin 1) (y 0) 0))⟩
  refine (block_at m c t p n q).trans ?_
  show resultArr m c (ix4 (freqOf t) p n q) = resultArr m c _
  congr 1
  funext a
  apply Fin.ext
  match a with
  | ⟨0, _⟩ => show t.val = cc0_transform_2 (grid0.coords t) 0 * 1 + 1 * 0; rw [at2]; show _ = t.val * 1 + 1 * 0; omega
  | ⟨1, _⟩ => show p.val = cc0_transform_2 (grid0.coords t) 1 * 2 + 1 * p.val; rw [at2]; show _ = 0 * 2 + 1 * p.val; omega
  | ⟨2, _⟩ => show n.val = cc0_transform_2 (grid0.coords t) 2 * 64 + 1 * n.val; rw [at2]; show _ = 0 * 64 + 1 * n.val; omega
  | ⟨3, _⟩ => show q.val = cc0_transform_2 (grid0.coords t) 3 * 512 + 1 * q.val; rw [at2]; show _ = 0 * 512 + 1 * q.val; omega

/-- Every index of the array is in the block some point writes back. -/
theorem covered (y : S64x2x64x512.Idx) : ∃ t : Fin cfg0.N, (cfg0.win 2).flush t = true ∧ y ∈ ((cfg0.win 2).blk t).view.set := by
  have h0 : (y 0 : Nat) < 64 := (y 0).isLt
  have h1 : (y 1 : Nat) < 2 := (y 1).isLt
  have h2 : (y 2 : Nat) < 64 := (y 2).isLt
  have h3 : (y 3 : Nat) < 512 := (y 3).isLt
  have hN : cfg0.N = 64 := N_0
  let t : Fin cfg0.N := ⟨(y 0).val, by omega⟩
  refine ⟨t, flush0_2 t, ?_⟩
  refine (iff_of_eq (congrArg (fun S => y ∈ S) (View.set_slice_whole main_v0 ((cfg0.win 2).rect t)))).mpr ?_
  refine Rect.mem_set_unit.mpr fun a => ?_
  match a with
  | ⟨0, _⟩ =>
    show cc0_transform_2 (grid0.coords t) 0 * 1 ≤ (y 0).val ∧ (y 0).val < cc0_transform_2 (grid0.coords t) 0 * 1 + 1
    rw [at2]; show (y 0).val * 1 ≤ (y 0).val ∧ (y 0).val < (y 0).val * 1 + 1; omega
  | ⟨1, _⟩ =>
    show cc0_transform_2 (grid0.coords t) 1 * 2 ≤ (y 1).val ∧ (y 1).val < cc0_transform_2 (grid0.coords t) 1 * 2 + 2
    rw [at2]; show 0 * 2 ≤ (y 1).val ∧ (y 1).val < 0 * 2 + 2; omega
  | ⟨2, _⟩ =>
    show cc0_transform_2 (grid0.coords t) 2 * 64 ≤ (y 2).val ∧ (y 2).val < cc0_transform_2 (grid0.coords t) 2 * 64 + 64
    rw [at2]; show 0 * 64 ≤ (y 2).val ∧ (y 2).val < 0 * 64 + 64; omega
  | ⟨3, _⟩ =>
    show cc0_transform_2 (grid0.coords t) 3 * 512 ≤ (y 3).val ∧ (y 3).val < cc0_transform_2 (grid0.coords t) 3 * 512 + 512
    rw [at2]; show 0 * 512 ≤ (y 3).val ∧ (y 3).val < 0 * 512 + 512; omega

/-- The array after the run. -/
theorem final_eq : (dats m 0 c).arrAt 2 cfg0.N = resultArr m c :=
  (dats m 0 c).arrAt_eq_of_cover 2 (resultArr m c) (flushed_eq m c) covered

end windows

section reference

open Cert.Reference13Ideal Cert.Reference13Ideal.Read

variable (x0 : FVec Ideal S2x64x64x512 .f32) (x1 : FVec Ideal S64x128x128 .f32)

theorem ref_rows (f : Fin 64) (u : Fin 128) (q : Fin 512) : val_main_v1 (F := Ideal) x0 (ix3 f u q)
    = x0 (ix4 (⟨u.val / 64, by omega⟩ : Fin 2) f (⟨u.val % 64, by omega⟩ : Fin 64) q) := by
  refine (val_main_v1_apply ..).trans ((val_main_v0_apply ..).trans ?_)
  show x0 _ = x0 _
  congr 1
  funext e
  apply Fin.ext
  match e with
  | ⟨0, _⟩ => show ((f.val * 128 + u.val) * 512 + q.val) / 32768 % 2 = u.val / 64; omega
  | ⟨1, _⟩ => show ((f.val * 128 + u.val) * 512 + q.val) / 65536 = f.val; omega
  | ⟨2, _⟩ => show ((f.val * 128 + u.val) * 512 + q.val) / 512 % 64 = u.val % 64; omega
  | ⟨3, _⟩ => show ((f.val * 128 + u.val) * 512 + q.val) % 512 = q.val; omega

/-- The reference's array. -/
theorem ref_eq : val_main_v3 (F := Ideal) x0 x1 = fun y =>
    spectrum (fun p f n q => x0 (ix4 p f n q)) (fun f i j => x1 (ix3 f i j)) (y 0) (y 1) (y 2) (y 3) := by
  refine funext fun (y : S64x2x64x512.Idx) => ?_
  obtain ⟨f, p, n, q, rfl⟩ : ∃ f p n q, y = ix4 f p n q := ⟨_, _, _, _, eq_ix4 y⟩
  refine (val_main_v3_apply ..).trans ((val_main_v2_apply ..).trans ?_)
  show _ = ∑ u : Fin 128, x1 (ix3 f (⟨p.val * 64 + n.val, by omega⟩ : Fin 128) u)
    * x0 (ix4 (⟨u.val / 64, by omega⟩ : Fin 2) f (⟨u.val % 64, by omega⟩ : Fin 64) q)
  refine Finset.sum_congr rfl fun (u : Fin 128) _ => ?_
  refine congrArg₂ (· * ·) ?_ ((congrArg (val_main_v1 (F := Ideal) x0) ?_).trans (ref_rows x0 f u q))
  · show x1 _ = x1 _
    congr 1
    funext e
    apply Fin.ext
    match e with
    | ⟨0, _⟩ => show (((f.val * 2 + p.val) * 64 + n.val) * 512 + q.val) / 65536 = f.val; omega
    | ⟨1, _⟩ => show (((f.val * 2 + p.val) * 64 + n.val) * 512 + q.val) / 512 % 128 = p.val * 64 + n.val; omega
    | ⟨2, _⟩ => rfl
  · funext e
    apply Fin.ext
    match e with
    | ⟨0, _⟩ => show (((f.val * 2 + p.val) * 64 + n.val) * 512 + q.val) / 65536 = f.val; omega
    | ⟨1, _⟩ => rfl
    | ⟨2, _⟩ => show (((f.val * 2 + p.val) * 64 + n.val) * 512 + q.val) % 512 = q.val; omega

end reference

/-- The kernel runs and leaves its arguments. -/
theorem frame_kernel : Cert.quiescent_Kernel13 := fun m ρ _ => Cert.Kernel13.Gen.frame m ρ

/-- The ideal kernel runs and leaves its arguments. -/
theorem frame_ideal : Cert.quiescent_Kernel13Ideal := fun m ρ _ => Cert.Kernel13Ideal.Gen.frame m ρ

/-- The reference runs and leaves its arguments. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The filter's spectrum's kernel and its plain definition end with the same array. -/
theorem same : Cert.algebraic_Kernel13Ideal_Reference13Ideal := by
  intro m ρ m' ρ' _ hag
  refine ⟨fun c => resultArr m c, ?_, ?_⟩
  · exact (θ_run Cert.Kernel13Ideal.defs _ _).mono (fun r h c => ⟨(h c).1.trans (final_eq m c), (h c).2⟩)
      (Cert.Kernel13Ideal.Value.run_blocks m ρ)
  · refine (θ_run Cert.Reference13Ideal.defs _ _).mono (fun r h c => ⟨(h c).1.trans ?_, (h c).2⟩)
      (Cert.Reference13Ideal.Value.run (F := Ideal) m' ρ')
    refine (Cert.Reference13Ideal.Read.val_main_v3_eq (F := Ideal) _ _).trans ?_
    rw [(hag c).1, (hag c).2]
    exact ref_eq ..

end Cert.HySpec

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_experts_in_range
public import proofs.«01_k».proof.Proof.Gen.ReferenceIdeal.Run
public import proofs.«01_k».proof.Proof.Gen.ReferenceIdeal.Read
public import proofs.«01_k».proof.Proof.ExpertsClaim
public import proofs.«01_k».proof.Proof.InProjClaim
public import proofs.«01_k».proof.Proof.Ffn
public import proofs.«01_k».proof.Proof.Merge
public import proofs.«01_k».proof.Proof.FinalNorm
public import proofs.«01_k».proof.Proof.Route
public import proofs.«01_k».proof.Proof.Filter
public import proofs.«01_k».proof.Proof.HyConv
public import proofs.«01_k».proof.Proof.HyFinal
public import proofs.«01_k».proof.Proof.HyFirst
public import proofs.«01_k».proof.Proof.HyMid
public import proofs.«01_k».proof.Proof.HyCirc
public import proofs.«01_k».proof.Proof.HySpec
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_experts_in_range.Gen.facts, Cert.Pre_finite_args.Gen.facts,
  Cert.Experts.frame_kernel, Cert.Experts.frame_ideal, Cert.Experts.frame_reference, Cert.Experts.frame_reference_pre,
  Cert.InProj.frame_kernel, Cert.InProj.frame_ideal, Cert.InProj.frame_reference,
  Cert.Ffn.frame_kernel, Cert.Ffn.frame_ideal, Cert.Ffn.frame_reference,
  Cert.Merge.frame_kernel, Cert.Merge.frame_ideal, Cert.Merge.frame_reference,
  Cert.FinalNorm.frame_kernel, Cert.FinalNorm.frame_ideal, Cert.FinalNorm.frame_reference,
  Cert.Route.frame_kernel, Cert.Route.frame_ideal, Cert.Route.frame_ideal_pre, Cert.Route.frame_reference, Cert.Route.frame_reference_pre,
  Cert.Filter.frame_kernel, Cert.Filter.frame_ideal, Cert.Filter.frame_reference,
  Cert.HyConv.frame_kernel, Cert.HyConv.frame_ideal, Cert.HyConv.frame_reference,
  Cert.HyFinal.frame_kernel, Cert.HyFinal.frame_ideal, Cert.HyFinal.frame_reference,
  Cert.HyFirst.frame_kernel, Cert.HyFirst.frame_ideal, Cert.HyFirst.frame_reference,
  Cert.HyMid.frame_kernel, Cert.HyMid.frame_ideal, Cert.HyMid.frame_reference,
  Cert.HyCirc.frame_kernel, Cert.HyCirc.frame_ideal, Cert.HyCirc.frame_reference,
  Cert.HySpec.frame_kernel, Cert.HySpec.frame_ideal, Cert.HySpec.frame_reference,
  trivial, Cert.Experts.same, trivial, Cert.InProj.same, trivial, Cert.Ffn.same, trivial, Cert.Merge.same, trivial, Cert.FinalNorm.same,
  trivial, Cert.Route.same, trivial, Cert.Filter.same, trivial, Cert.HyConv.same, trivial, Cert.HyFinal.same,
  trivial, Cert.HyFirst.same, trivial, Cert.HyMid.same,
  trivial, Cert.HyCirc.same, trivial, Cert.HySpec.same⟩

end Cert.Proof

end
